-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)) (v2 : (c : Dev Cert.Kernel10Ideal.nD) → Buf (Elt Ideal) ((c.tc : Thread Cert.Kernel10Ideal.nD Cert.Kernel10Ideal.τ).loc Cert.Kernel10Ideal.main_v13_2)) (v3 : (c : Dev Cert.Kernel10Ideal.nD) → Buf (Elt Ideal) ((c.tc : Thread Cert.Kernel10Ideal.nD Cert.Kernel10Ideal.τ).loc Cert.Kernel10Ideal.main_v13_3)) (v4 : (c : Dev Cert.Kernel10Ideal.nD) → Buf (Elt Ideal) ((c.tc : Thread Cert.Kernel10Ideal.nD Cert.Kernel10Ideal.τ).loc Cert.Kernel10Ideal.main_v13_4)) (v5 : (c : Dev Cert.Kernel10Ideal.nD) → Buf (Elt Ideal) ((c.tc : Thread Cert.Kernel10Ideal.nD Cert.Kernel10Ideal.τ).loc Cert.Kernel10Ideal.main_v13_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_v13_2) = v2 c
          ∧ r.2.mem ((c.tc : Thread Cert.Kernel10Ideal.nD Cert.Kernel10Ideal.τ).loc Cert.Kernel10Ideal.main_v13_3) = v3 c
          ∧ r.2.mem ((c.tc : Thread Cert.Kernel10Ideal.nD Cert.Kernel10Ideal.τ).loc Cert.Kernel10Ideal.main_v13_4) = v4 c
          ∧ r.2.mem ((c.tc : Thread Cert.Kernel10Ideal.nD Cert.Kernel10Ideal.τ).loc Cert.Kernel10Ideal.main_v13_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v90) = v0 c
          ∧ r.2.mem ((c.tc : Thread Cert.Reference10Ideal.nD Cert.Reference10Ideal.τ).loc Cert.Reference10Ideal.main_v91) = v1 c
          ∧ r.2.mem ((c.tc : Thread Cert.Reference10Ideal.nD Cert.Reference10Ideal.τ).loc Cert.Reference10Ideal.main_v92) = v2 c
          ∧ r.2.mem ((c.tc : Thread Cert.Reference10Ideal.nD Cert.Reference10Ideal.τ).loc Cert.Reference10Ideal.main_v88) = v3 c
          ∧ r.2.mem ((c.tc : Thread Cert.Reference10Ideal.nD Cert.Reference10Ideal.τ).loc Cert.Reference10Ideal.main_v89) = v4 c
          ∧ r.2.mem ((c.tc : Thread Cert.Reference10Ideal.nD Cert.Reference10Ideal.τ).loc Cert.Reference10Ideal.main_v72) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v56) = v0 c
          ∧ r.2.mem ((c.tc : Thread Cert.Reference12Ideal.nD Cert.Reference12Ideal.τ).loc Cert.Reference12Ideal.main_v57) = v1 c
          ∧ r.2.mem ((c.tc : Thread Cert.Reference12Ideal.nD Cert.Reference12Ideal.τ).loc Cert.Reference12Ideal.main_v58) = v2 c
          ∧ r.2.mem ((c.tc : Thread Cert.Reference12Ideal.nD Cert.Reference12Ideal.τ).loc Cert.Reference12Ideal.main_v59) = v3 c
          ∧ r.2.mem ((c.tc : Thread Cert.Reference12Ideal.nD Cert.Reference12Ideal.τ).loc Cert.Reference12Ideal.main_v60) = v4 c
          ∧ r.2.mem ((c.tc : Thread Cert.Reference12Ideal.nD Cert.Reference12Ideal.τ).loc Cert.Reference12Ideal.main_v43) = v5 c
          ∧ r.2.mem ((c.tc : Thread Cert.Reference12Ideal.nD Cert.Reference12Ideal.τ).loc Cert.Reference12Ideal.main_v61) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)) →
    ∃ (v0 : (c : Dev Cert.Kernel13Ideal.nD) → Buf (Elt Ideal) ((c.tc : Thread Cert.Kernel13Ideal.nD Cert.Kernel13Ideal.τ).loc Cert.Kernel13Ideal.main_v35_0)) (v1 : (c : Dev Cert.Kernel13Ideal.nD) → Buf (Elt Ideal) ((c.tc : Thread Cert.Kernel13Ideal.nD Cert.Kernel13Ideal.τ).loc Cert.Kernel13Ideal.main_v35_1)) (v2 : (c : Dev Cert.Kernel13Ideal.nD) → Buf (Elt Ideal) ((c.tc : Thread Cert.Kernel13Ideal.nD Cert.Kernel13Ideal.τ).loc Cert.Kernel13Ideal.main_v35_2)) (v3 : (c : Dev Cert.Kernel13Ideal.nD) → Buf (Elt Ideal) ((c.tc : Thread Cert.Kernel13Ideal.nD Cert.Kernel13Ideal.τ).loc Cert.Kernel13Ideal.main_v35_3)) (v4 : (c : Dev Cert.Kernel13Ideal.nD) → Buf (Elt Ideal) ((c.tc : Thread Cert.Kernel13Ideal.nD Cert.Kernel13Ideal.τ).loc Cert.Kernel13Ideal.main_v35_4)) (v5 : (c : Dev Cert.Kernel13Ideal.nD) → Buf (Elt Ideal) ((c.tc : Thread Cert.Kernel13Ideal.nD Cert.Kernel13Ideal.τ).loc Cert.Kernel13Ideal.main_v35_5)) (v6 : (c : Dev Cert.Kernel13Ideal.nD) → Buf (Elt Ideal) ((c.tc : Thread Cert.Kernel13Ideal.nD Cert.Kernel13Ideal.τ).loc Cert.Kernel13Ideal.main_v35_6)) (v7 : (c : Dev Cert.Kernel13Ideal.nD) → Buf (Elt Ideal) ((c.tc : Thread Cert.Kernel13Ideal.nD Cert.Kernel13Ideal.τ).loc Cert.Kernel13Ideal.main_v35_7)) (v8 : (c : Dev Cert.Kernel13Ideal.nD) → Buf (Elt Ideal) ((c.tc : Thread Cert.Kernel13Ideal.nD Cert.Kernel13Ideal.τ).loc Cert.Kernel13Ideal.main_v35_8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v35_0) = v0 c
          ∧ r.2.mem ((c.tc : Thread Cert.Kernel13Ideal.nD Cert.Kernel13Ideal.τ).loc Cert.Kernel13Ideal.main_v35_1) = v1 c
          ∧ r.2.mem ((c.tc : Thread Cert.Kernel13Ideal.nD Cert.Kernel13Ideal.τ).loc Cert.Kernel13Ideal.main_v35_2) = v2 c
          ∧ r.2.mem ((c.tc : Thread Cert.Kernel13Ideal.nD Cert.Kernel13Ideal.τ).loc Cert.Kernel13Ideal.main_v35_3) = v3 c
          ∧ r.2.mem ((c.tc : Thread Cert.Kernel13Ideal.nD Cert.Kernel13Ideal.τ).loc Cert.Kernel13Ideal.main_v35_4) = v4 c
          ∧ r.2.mem ((c.tc : Thread Cert.Kernel13Ideal.nD Cert.Kernel13Ideal.τ).loc Cert.Kernel13Ideal.main_v35_5) = v5 c
          ∧ r.2.mem ((c.tc : Thread Cert.Kernel13Ideal.nD Cert.Kernel13Ideal.τ).loc Cert.Kernel13Ideal.main_v35_6) = v6 c
          ∧ r.2.mem ((c.tc : Thread Cert.Kernel13Ideal.nD Cert.Kernel13Ideal.τ).loc Cert.Kernel13Ideal.main_v35_7) = v7 c
          ∧ r.2.mem ((c.tc : Thread Cert.Kernel13Ideal.nD Cert.Kernel13Ideal.τ).loc Cert.Kernel13Ideal.main_v35_8) = v8 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v92) = v0 c
          ∧ r.2.mem ((c.tc : Thread Cert.Reference13Ideal.nD Cert.Reference13Ideal.τ).loc Cert.Reference13Ideal.main_v88) = v1 c
          ∧ r.2.mem ((c.tc : Thread Cert.Reference13Ideal.nD Cert.Reference13Ideal.τ).loc Cert.Reference13Ideal.main_v93) = v2 c
          ∧ r.2.mem ((c.tc : Thread Cert.Reference13Ideal.nD Cert.Reference13Ideal.τ).loc Cert.Reference13Ideal.main_v94) = v3 c
          ∧ r.2.mem ((c.tc : Thread Cert.Reference13Ideal.nD Cert.Reference13Ideal.τ).loc Cert.Reference13Ideal.main_v95) = v4 c
          ∧ r.2.mem ((c.tc : Thread Cert.Reference13Ideal.nD Cert.Reference13Ideal.τ).loc Cert.Reference13Ideal.main_v96) = v5 c
          ∧ r.2.mem ((c.tc : Thread Cert.Reference13Ideal.nD Cert.Reference13Ideal.τ).loc Cert.Reference13Ideal.main_v97) = v6 c
          ∧ r.2.mem ((c.tc : Thread Cert.Reference13Ideal.nD Cert.Reference13Ideal.τ).loc Cert.Reference13Ideal.main_v98) = v7 c
          ∧ r.2.mem ((c.tc : Thread Cert.Reference13Ideal.nD Cert.Reference13Ideal.τ).loc Cert.Reference13Ideal.main_v51) = v8 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x7296 : Shape := ⟨2, ![4096, 7296]⟩
abbrev S256x1024 : Shape := ⟨2, ![256, 1024]⟩
abbrev S4096x512 : Shape := ⟨2, ![4096, 512]⟩
abbrev S4096x7168 : Shape := ⟨2, ![4096, 7168]⟩
abbrev S_ : Shape := ⟨0, ![]⟩

class Facts : Prop where
  slices_S4096x7296_S4096x512_0_6656 : S4096x7296.Slices ![0, 6656] S4096x512
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x7296 .bf16) (main_arg1 : FVec F S256x1024 .f32) (main_arg2 : FVec F S4096x512 .bf16) (main_arg3 : FVec F S4096x7168 .bf16) : IVec S_ 1 :=
  let main_v0 : FVec F S4096x512 .bf16 := (extractStridedSlice S4096x512 ![0, 6656] · slices_S4096x7296_S4096x512_0_6656) main_arg0
  let main_v1 : FVec F S4096x512 .f32 := (extf .f32 · bitsLt_bf16_f32) main_v0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_c : IVec S_ 1 := constantI S_ 1 1#1
  let main_v5 : IVec S_ 1 := (fun x v => Host.reduce IntOp.andi x v reducesTo_S4096x512_S_d0_1 h_S_) main_v4 main_c
  let main_v6 : FVec F S256x1024 .f32 := Host.absf main_arg1
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v5 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  main_v16
-- ==== Pre_finite5.lean ====
abbrev S4096x1024 : Shape := ⟨2, ![4096, 1024]⟩
abbrev S1x1024 : Shape := ⟨2, ![1, 1024]⟩
abbrev S3072x1024 : Shape := ⟨2, ![3072, 1024]⟩
abbrev S4096x6144 : Shape := ⟨2, ![4096, 6144]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S3072x1024 : S_.BroadcastsInDim S3072x1024 (![] : Fin 0 → Fin S3072x1024.rank)
  reducesTo_S3072x1024_S_d0_1 : S3072x1024.ReducesTo [0, 1] S_
  bcast_S_S4096x6144 : S_.BroadcastsInDim S4096x6144 (![] : Fin 0 → Fin S4096x6144.rank)
  reducesTo_S4096x6144_S_d0_1 : S4096x6144.ReducesTo [0, 1] S_

variable [Facts]

def fn_part1 {F : FTy → Type} [FloatOps F] (main_v14 : IVec S_ 1) (main_v16 : FVec F S4096x6144 .f32) (main_cst_4 : FVec F S_ .f32) : IVec S_ 1 :=
  let main_v17 : FVec F S4096x6144 .f32 := broadcastInDim S4096x6144 ![] bcast_S_S4096x6144 main_cst_4
  let main_v18 : IVec S4096x6144 1 := cmpf .olt main_v16 main_v17
  let main_c_5 : IVec S_ 1 := constantI S_ 1 1#1
  let main_v19 : IVec S_ 1 := (fun x v => Host.reduce IntOp.andi x v reducesTo_S4096x6144_S_d0_1 h_S_) main_v18 main_c_5
  let main_v20 : IVec S_ 1 := andi main_v14 main_v19
  main_v20

def fn {F : FTy → Type} [FloatOps F] (main_arg0 : FVec F S4096x1024 .f32) (main_arg1 : FVec F S1x1024 .f32) (main_arg2 : FVec F S3072x1024 .bf16) (main_arg3 : FVec F S4096x6144 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S3072x1024 .f32 := (extf .f32 · bitsLt_bf16_f32) main_arg2
  let main_v10 : FVec F S3072x1024 .f32 := Host.absf main_v9
  let main_cst_2 : FVec F S_ .f32 := constant S_ .f32 0x7F800000#32
  let main_v11 : FVec F S3072x1024 .f32 := broadcastInDim S3072x1024 ![] bcast_S_S3072x1024 main_cst_2
  let main_v12 : IVec S3072x1024 1 := cmpf .olt main_v10 main_v11
  let main_c_3 : IVec S_ 1 := constantI S_ 1 1#1
  let main_v13 : IVec S_ 1 := (fun x v => Host.reduce IntOp.andi x v reducesTo_S3072x1024_S_d0_1 h_S_) main_v12 main_c_3
  let main_v14 : IVec S_ 1 := andi main_v8 main_v13
  let main_v15 : FVec F S4096x6144 .f32 := (extf .f32 · bitsLt_bf16_f32) main_arg3
  let main_v16 : FVec F S4096x6144 .f32 := Host.absf main_v15
  let main_cst_4 : FVec F S_ .f32 := constant S_ .f32 0x7F800000#32
  fn_part1 (F := F) main_v14 main_v16 main_cst_4
-- ==== Kernel.lean ====
abbrev S4096x7296 : Shape := ⟨2, ![4096, 7296]⟩
abbrev S256x1024 : Shape := ⟨2, ![256, 1024]⟩
abbrev S4096x512 : Shape := ⟨2, ![4096, 512]⟩
abbrev S4096x7168 : Shape := ⟨2, ![4096, 7168]⟩
abbrev S1024x512 : Shape := ⟨2, ![1024, 512]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x7296, .bf16⟩
  | .hbm, ⟨1, _⟩ => ⟨S256x1024, .f32⟩
  | .hbm, ⟨2, _⟩ => ⟨S4096x512, .bf16⟩
  | .hbm, ⟨3, _⟩ => ⟨S4096x7168, .bf16⟩
  | .hbm, ⟨4, _⟩ => ⟨S4096x7168, .bf16⟩
  | .hbm, ⟨5, _⟩ => ⟨S256x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S256x1024, .f32⟩
  | .local _ .vmem, ⟨5, _⟩ => ⟨S1024x512, .bf16⟩
  | .local _ .vmem, ⟨6, _⟩ => ⟨S1024x512, .bf16⟩
  | .local _ .vmem, ⟨7, _⟩ => ⟨S256x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v155 : BitVec 1 := Scalar.cmpi .eq arg0 c0_i32
  let v156 : BitVec 32 := Scalar.extui v155
  let c0_i32_46 : BitVec 32 := 0#32
  let v157 : BitVec 1 := Scalar.cmpi .ne v156 c0_i32_46
  v157

def k0_cond2 (i : grid0.Coords) : BitVec 1 :=
  let arg0 : BitVec 32 := BitVec.ofNat 32 (i 0).val
  let c0_i32_47 : BitVec 32 := 0#32
  let v158 : BitVec 1 := Scalar.cmpi .sgt arg0 c0_i32_47
  let v159 : BitVec 32 := Scalar.extui v158
  let c0_i32_48 : BitVec 32 := 0#32
  let v160 : BitVec 1 := Scalar.cmpi .ne v159 c0_i32_48
  v160

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x7296 : Shape := ⟨2, ![4096, 7296]⟩
abbrev S256x1024 : Shape := ⟨2, ![256, 1024]⟩
abbrev S4096x512 : Shape := ⟨2, ![4096, 512]⟩
abbrev S4096x7168 : Shape := ⟨2, ![4096, 7168]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S4096x6656 : Shape := ⟨2, ![4096, 6656]⟩

abbrev nBuf : Space → Nat
  | .hbm => 90
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S256x1024, .f32⟩
  | .hbm, ⟨2, _⟩ => ⟨S4096x512, .bf16⟩
  | .hbm, ⟨3, _⟩ => ⟨S4096x7168, .bf16⟩
  | .hbm, ⟨4, _⟩ => ⟨S4096x512, .bf16⟩
  | .hbm, ⟨5, _⟩ => ⟨S4096x512, .f32⟩
  | .hbm, ⟨6, _⟩ => ⟨S4096x4x128, .f32⟩
  | .hbm, ⟨7, _⟩ => ⟨S256x512, .f32⟩
  | .hbm, ⟨8, _⟩ => ⟨S256x512, .f32⟩
  | .hbm, ⟨9, _⟩ => ⟨S256x4x128, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x128x4096, .f32⟩
  | .hbm, ⟨54, _⟩ => ⟨S4096x4x128, .f32⟩
  | .hbm, ⟨55, _⟩ => ⟨S4096x512, .f32⟩
  | .hbm, ⟨56, _⟩ => ⟨S4096x512, .f32⟩
  | .hbm, ⟨57, _⟩ => ⟨S4096x4x128, .f32⟩
  | .hbm, ⟨58, _⟩ => ⟨S4x128x4096, .f32⟩
  | .hbm, ⟨59, _⟩ => ⟨S4x4096x256, .f32⟩
  | .hbm, ⟨60, _⟩ => ⟨S4x128x256, .f32⟩
  | .hbm, ⟨61, _⟩ => ⟨S256x4x128, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x128, .f32⟩
  | .hbm, ⟨80, _⟩ => ⟨S256x4x128, .f32⟩
  | .hbm, ⟨81, _⟩ => ⟨S4x4096x128, .f32⟩
  | .hbm, ⟨82, _⟩ => ⟨S4096x4x128, .f32⟩
  | .hbm, ⟨83, _⟩ => ⟨S256x512, .f32⟩
  | .hbm, ⟨84, _⟩ => ⟨S256x512, .f32⟩
  | .hbm, ⟨85, _⟩ => ⟨S256x1024, .f32⟩
  | .hbm, ⟨86, _⟩ => ⟨S4096x512, .f32⟩
  | .hbm, ⟨87, _⟩ => ⟨S4096x6656, .bf16⟩
  | .hbm, ⟨88, _⟩ => ⟨S4096x512, .bf16⟩
  | .hbm, ⟨89, _⟩ => ⟨S4096x7168, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel2.lean ====
abbrev S4096x6144 : Shape := ⟨2, ![4096, 6144]⟩
abbrev S6144x1024 : Shape := ⟨2, ![6144, 1024]⟩
abbrev S4096x1024 : Shape := ⟨2, ![4096, 1024]⟩
abbrev S1x1024 : Shape := ⟨2, ![1, 1024]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S6144x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S6144x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x6144 : Shape := ⟨2, ![4096, 6144]⟩
abbrev S6144x1024 : Shape := ⟨2, ![6144, 1024]⟩
abbrev S4096x1024 : Shape := ⟨2, ![4096, 1024]⟩
abbrev S1x1024 : Shape := ⟨2, ![1, 1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S6144x1024, .f32⟩
  | .hbm, ⟨6, _⟩ => ⟨S1024x6144, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x6144, .f32⟩
  | .hbm, ⟨27, _⟩ => ⟨S4096x6144, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S4096x7168 : Shape := ⟨2, ![4096, 7168]⟩
abbrev S4096x128 : Shape := ⟨2, ![4096, 128]⟩
abbrev S7296x1024 : Shape := ⟨2, ![7296, 1024]⟩
abbrev S4096x1024 : Shape := ⟨2, ![4096, 1024]⟩
abbrev S1x1024 : Shape := ⟨2, ![1, 1024]⟩
abbrev S512x7168 : Shape := ⟨2, ![512, 7168]⟩
abbrev S512x128 : Shape := ⟨2, ![512, 128]⟩
abbrev S512x1024 : Shape := ⟨2, ![512, 1024]⟩
abbrev S7168x1024 : Shape := ⟨2, ![7168, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S4096x128, .bf16⟩
  | .hbm, ⟨2, _⟩ => ⟨S7296x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x7168, .bf16⟩
  | .local _ .vmem, ⟨1, _⟩ => ⟨S512x7168, .bf16⟩
  | .local _ .vmem, ⟨2, _⟩ => ⟨S512x128, .bf16⟩
  | .local _ .vmem, ⟨3, _⟩ => ⟨S512x128, .bf16⟩
  | .local _ .vmem, ⟨4, _⟩ => ⟨S7296x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_23 : BitVec 32 := 0#32
  let v47 : BitVec 1 := Scalar.cmpi .ne v46 c0_i32_23
  v47

def k0_cond2 (i : grid0.Coords) : BitVec 1 :=
  let arg0 : BitVec 32 := BitVec.ofNat 32 (i 0).val
  let c0_i32_24 : BitVec 32 := 0#32
  let v48 : BitVec 1 := Scalar.cmpi .sgt arg0 c0_i32_24
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7296x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x7168 : Shape := ⟨2, ![4096, 7168]⟩
abbrev S4096x128 : Shape := ⟨2, ![4096, 128]⟩
abbrev S7296x1024 : Shape := ⟨2, ![7296, 1024]⟩
abbrev S4096x1024 : Shape := ⟨2, ![4096, 1024]⟩
abbrev S1x1024 : Shape := ⟨2, ![1, 1024]⟩
abbrev S1024x7296 : Shape := ⟨2, ![1024, 7296]⟩
abbrev S_ : Shape := ⟨0, ![]⟩
abbrev S4096 : Shape := ⟨1, ![4096]⟩
abbrev S4096x1 : Shape := ⟨2, ![4096, 1]⟩
abbrev S4096x7296 : Shape := ⟨2, ![4096, 7296]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x128, .bf16⟩
  | .hbm, ⟨2, _⟩ => ⟨S7296x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S7296x1024, .f32⟩
  | .hbm, ⟨7, _⟩ => ⟨S1024x7296, .f32⟩
  | .hbm, ⟨8, _⟩ => ⟨S4096x7168, .f32⟩
  | .hbm, ⟨9, _⟩ => ⟨S4096x128, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x7296, .f32⟩
  | .hbm, ⟨30, _⟩ => ⟨S4096x7168, .f32⟩
  | .hbm, ⟨31, _⟩ => ⟨S4096x128, .f32⟩
  | .hbm, ⟨32, _⟩ => ⟨S4096x7296, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S4096x6144 : Shape := ⟨2, ![4096, 6144]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S6144x1024 : Shape := ⟨2, ![6144, 1024]⟩
abbrev S4096x768 : Shape := ⟨2, ![4096, 768]⟩
abbrev S768x1024 : Shape := ⟨2, ![768, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S6144x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4096x6144 : Shape := ⟨2, ![4096, 6144]⟩
abbrev S4096x1024 : Shape := ⟨2, ![4096, 1024]⟩
abbrev S1x1024 : Shape := ⟨2, ![1, 1024]⟩
abbrev S_ : Shape := ⟨0, ![]⟩
abbrev S6144x1024 : Shape := ⟨2, ![6144, 1024]⟩
abbrev S4096 : Shape := ⟨1, ![4096]⟩
abbrev S4096x1 : Shape := ⟨2, ![4096, 1]⟩
abbrev S1024x6144 : Shape := ⟨2, ![1024, 6144]⟩

abbrev nBuf : Space → Nat
  | .hbm => 27
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S6144x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x6144, .f32⟩
  | .hbm, ⟨21, _⟩ => ⟨S4096x6144, .f32⟩
  | .hbm, ⟨22, _⟩ => ⟨S4096x6144, .f32⟩
  | .hbm, ⟨23, _⟩ => ⟨S6144x1024, .f32⟩
  | .hbm, ⟨24, _⟩ => ⟨S1024x6144, .f32⟩
  | .hbm, ⟨25, _⟩ => ⟨S6144x1024, .f32⟩
  | .hbm, ⟨26, _⟩ => ⟨S6144x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S3072x1024 : Shape := ⟨2, ![3072, 1024]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096x3072 : Shape := ⟨2, ![4096, 3072]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1024 : Shape := ⟨1, ![1024]⟩
abbrev S768x1024 : Shape := ⟨2, ![768, 1024]⟩
abbrev S512x768 : Shape := ⟨2, ![512, 768]⟩
abbrev S512x1536 : Shape := ⟨2, ![512, 1536]⟩

abbrev nBuf : Space → Nat
  | .hbm => 27
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3072x1024, .bf16⟩
  | .hbm, ⟨3, _⟩ => ⟨S4096x6144, .bf16⟩
  | .hbm, ⟨4, _⟩ => ⟨S4096x6144, .f32⟩
  | .hbm, ⟨5, _⟩ => ⟨S4096x4x2x768, .f32⟩
  | .hbm, ⟨6, _⟩ => ⟨S4096x4x1x768, .f32⟩
  | .hbm, ⟨7, _⟩ => ⟨S4096x4x768, .f32⟩
  | .hbm, ⟨8, _⟩ => ⟨S4096x4x768, .f32⟩
  | .hbm, ⟨9, _⟩ => ⟨S4096x4x768, .f32⟩
  | .hbm, ⟨10, _⟩ => ⟨S_, .f32⟩
  | .hbm, ⟨11, _⟩ => ⟨S4096x4x768, .f32⟩
  | .hbm, ⟨12, _⟩ => ⟨S4096x4x768, .f32⟩
  | .hbm, ⟨13, _⟩ => ⟨S_, .f32⟩
  | .hbm, ⟨14, _⟩ => ⟨S4096x4x768, .f32⟩
  | .hbm, ⟨15, _⟩ => ⟨S4096x4x768, .f32⟩
  | .hbm, ⟨16, _⟩ => ⟨S4096x4x768, .f32⟩
  | .hbm, ⟨17, _⟩ => ⟨S4096x4x1x768, .f32⟩
  | .hbm, ⟨18, _⟩ => ⟨S4096x4x768, .f32⟩
  | .hbm, ⟨19, _⟩ => ⟨S4096x4x768, .f32⟩
  | .hbm, ⟨20, _⟩ => ⟨S4096x3072, .f32⟩
  | .hbm, ⟨21, _⟩ => ⟨S3072x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x6144, .bf16⟩
  | .hbm, ⟨26, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S3072x1024, .bf16⟩
  | .local _ .vmem, ⟨6, _⟩ => ⟨S512x6144, .bf16⟩
  | .local _ .vmem, ⟨7, _⟩ => ⟨S512x6144, .bf16⟩
  | .local _ .vmem, ⟨8, _⟩ => ⟨S512x1024, .bf16⟩
  | .local _ .vmem, ⟨9, _⟩ => ⟨S512x1024, .bf16⟩
  | .local _ .vmem, ⟨10, _⟩ => ⟨S512x6144, .bf16⟩
  | .local _ .vmem, ⟨11, _⟩ => ⟨S512x6144, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_15 : BitVec 32 := 0#32
  let v44 : BitVec 1 := Scalar.cmpi .ne v43 c0_i32_15
  v44

def k0_cond2 (i : grid0.Coords) : BitVec 1 :=
  let arg0 : BitVec 32 := BitVec.ofNat 32 (i 0).val
  let c0_i32_16 : BitVec 32 := 0#32
  let v45 : BitVec 1 := Scalar.cmpi .sgt arg0 c0_i32_16
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x1024 : Shape := ⟨2, ![4096, 1024]⟩
abbrev S1x1024 : Shape := ⟨2, ![1, 1024]⟩
abbrev S3072x1024 : Shape := ⟨2, ![3072, 1024]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096x3072 : Shape := ⟨2, ![4096, 3072]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3072x1024, .bf16⟩
  | .hbm, ⟨3, _⟩ => ⟨S4096x6144, .bf16⟩
  | .hbm, ⟨4, _⟩ => ⟨S3072x1024, .f32⟩
  | .hbm, ⟨5, _⟩ => ⟨S4096x6144, .f32⟩
  | .hbm, ⟨6, _⟩ => ⟨S4096x4x2x768, .f32⟩
  | .hbm, ⟨7, _⟩ => ⟨S4096x4x1x768, .f32⟩
  | .hbm, ⟨8, _⟩ => ⟨S4096x4x768, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S_, .f32⟩
  | .hbm, ⟨15, _⟩ => ⟨S4096x4x768, .f32⟩
  | .hbm, ⟨16, _⟩ => ⟨S4096x4x768, .f32⟩
  | .hbm, ⟨17, _⟩ => ⟨S_, .f32⟩
  | .hbm, ⟨18, _⟩ => ⟨S4096x4x768, .f32⟩
  | .hbm, ⟨19, _⟩ => ⟨S4096x4x768, .f32⟩
  | .hbm, ⟨20, _⟩ => ⟨S4096x4x768, .f32⟩
  | .hbm, ⟨21, _⟩ => ⟨S4096x4x768, .f32⟩
  | .hbm, ⟨22, _⟩ => ⟨S4096x4x1x768, .f32⟩
  | .hbm, ⟨23, _⟩ => ⟨S4096x4x768, .f32⟩
  | .hbm, ⟨24, _⟩ => ⟨S4096x4x768, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x3072, .f32⟩
  | .hbm, ⟨76, _⟩ => ⟨S4096x4x768, .f32⟩
  | .hbm, ⟨77, _⟩ => ⟨S4096x4x768, .f32⟩
  | .hbm, ⟨78, _⟩ => ⟨S4096x4x768, .f32⟩
  | .hbm, ⟨79, _⟩ => ⟨S4096x4x1x768, .f32⟩
  | .hbm, ⟨80, _⟩ => ⟨S_, .f32⟩
  | .hbm, ⟨81, _⟩ => ⟨S4096x4x2x768, .f32⟩
  | .hbm, ⟨82, _⟩ => ⟨S4096x4x768, .f32⟩
  | .hbm, ⟨83, _⟩ => ⟨S4096x4x768, .f32⟩
  | .hbm, ⟨84, _⟩ => ⟨S4096x4x768, .f32⟩
  | .hbm, ⟨85, _⟩ => ⟨S4096x4x768, .f32⟩
  | .hbm, ⟨86, _⟩ => ⟨S4096x4x1x768, .f32⟩
  | .hbm, ⟨87, _⟩ => ⟨S_, .f32⟩
  | .hbm, ⟨88, _⟩ => ⟨S4096x4x2x768, .f32⟩
  | .hbm, ⟨89, _⟩ => ⟨S4096x4x2x768, .f32⟩
  | .hbm, ⟨90, _⟩ => ⟨S4096x6144, .f32⟩
  | .hbm, ⟨91, _⟩ => ⟨S4096x1024, .bf16⟩
  | .hbm, ⟨92, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel6.lean ====
abbrev S4096x1024 : Shape := ⟨2, ![4096, 1024]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096x3072 : Shape := ⟨2, ![4096, 3072]⟩
abbrev S3072x1024 : Shape := ⟨2, ![3072, 1024]⟩
abbrev S4096x768 : Shape := ⟨2, ![4096, 768]⟩
abbrev S768x1024 : Shape := ⟨2, ![768, 1024]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x6144, .f32⟩
  | .hbm, ⟨3, _⟩ => ⟨S4096x4x2x768, .f32⟩
  | .hbm, ⟨4, _⟩ => ⟨S4096x4x1x768, .f32⟩
  | .hbm, ⟨5, _⟩ => ⟨S4096x4x768, .f32⟩
  | .hbm, ⟨6, _⟩ => ⟨S4096x4x768, .f32⟩
  | .hbm, ⟨7, _⟩ => ⟨S4096x4x768, .f32⟩
  | .hbm, ⟨8, _⟩ => ⟨S_, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S4096x4x768, .f32⟩
  | .hbm, ⟨15, _⟩ => ⟨S4096x4x1x768, .f32⟩
  | .hbm, ⟨16, _⟩ => ⟨S4096x4x768, .f32⟩
  | .hbm, ⟨17, _⟩ => ⟨S4096x4x768, .f32⟩
  | .hbm, ⟨18, _⟩ => ⟨S4096x3072, .f32⟩
  | .hbm, ⟨19, _⟩ => ⟨S4096x3072, .bf16⟩
  | .hbm, ⟨20, _⟩ => ⟨S3072x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S4096x1024 : Shape := ⟨2, ![4096, 1024]⟩
abbrev S4096x6144 : Shape := ⟨2, ![4096, 6144]⟩
abbrev S_ : Shape := ⟨0, ![]⟩
abbrev S3072x1024 : Shape := ⟨2, ![3072, 1024]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S4096x3072 : Shape := ⟨2, ![4096, 3072]⟩
abbrev S1024x3072 : Shape := ⟨2, ![1024, 3072]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S3072x1024, .f32⟩
  | .hbm, ⟨4, _⟩ => ⟨S4096x6144, .f32⟩
  | .hbm, ⟨5, _⟩ => ⟨S4096x4x2x768, .f32⟩
  | .hbm, ⟨6, _⟩ => ⟨S4096x4x1x768, .f32⟩
  | .hbm, ⟨7, _⟩ => ⟨S4096x4x768, .f32⟩
  | .hbm, ⟨8, _⟩ => ⟨S4096x4x768, .f32⟩
  | .hbm, ⟨9, _⟩ => ⟨S4096x4x768, .f32⟩
  | .hbm, ⟨10, _⟩ => ⟨S_, .f32⟩
  | .hbm, ⟨11, _⟩ => ⟨S4096x4x768, .f32⟩
  | .hbm, ⟨12, _⟩ => ⟨S4096x4x768, .f32⟩
  | .hbm, ⟨13, _⟩ => ⟨S_, .f32⟩
  | .hbm, ⟨14, _⟩ => ⟨S4096x4x768, .f32⟩
  | .hbm, ⟨15, _⟩ => ⟨S4096x4x768, .f32⟩
  | .hbm, ⟨16, _⟩ => ⟨S4096x4x768, .f32⟩
  | .hbm, ⟨17, _⟩ => ⟨S4096x4x1x768, .f32⟩
  | .hbm, ⟨18, _⟩ => ⟨S4096x4x768, .f32⟩
  | .hbm, ⟨19, _⟩ => ⟨S4096x4x768, .f32⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S1024x3072, .f32⟩
  | .hbm, ⟨24, _⟩ => ⟨S3072x1024, .f32⟩
  | .hbm, ⟨25, _⟩ => ⟨S3072x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel7.lean ====
abbrev S4096x7168 : Shape := ⟨2, ![4096, 7168]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S7168x1024 : Shape := ⟨2, ![7168, 1024]⟩
abbrev S4096x896 : Shape := ⟨2, ![4096, 896]⟩
abbrev S896x1024 : Shape := ⟨2, ![896, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S7168x1024, .bf16⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S896x1024, .bf16⟩
  | .local _ .vmem, ⟨4, _⟩ => ⟨S896x1024, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S4096x7168 : Shape := ⟨2, ![4096, 7168]⟩
abbrev S4096x1024 : Shape := ⟨2, ![4096, 1024]⟩
abbrev S1x1024 : Shape := ⟨2, ![1, 1024]⟩
abbrev S_ : Shape := ⟨0, ![]⟩
abbrev S7168x1024 : Shape := ⟨2, ![7168, 1024]⟩
abbrev S4096 : Shape := ⟨1, ![4096]⟩
abbrev S4096x1 : Shape := ⟨2, ![4096, 1]⟩
abbrev S1024x7168 : Shape := ⟨2, ![1024, 7168]⟩

abbrev nBuf : Space → Nat
  | .hbm => 27
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S7168x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x7168, .f32⟩
  | .hbm, ⟨21, _⟩ => ⟨S4096x7168, .f32⟩
  | .hbm, ⟨22, _⟩ => ⟨S4096x7168, .f32⟩
  | .hbm, ⟨23, _⟩ => ⟨S7168x1024, .f32⟩
  | .hbm, ⟨24, _⟩ => ⟨S1024x7168, .f32⟩
  | .hbm, ⟨25, _⟩ => ⟨S7168x1024, .f32⟩
  | .hbm, ⟨26, _⟩ => ⟨S7168x1024, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S6144x1024 : Shape := ⟨2, ![6144, 1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x3072 : Shape := ⟨2, ![4096, 3072]⟩
abbrev S512x1024 : Shape := ⟨2, ![512, 1024]⟩
abbrev S512x6144 : Shape := ⟨2, ![512, 6144]⟩
abbrev S512x3072 : Shape := ⟨2, ![512, 3072]⟩
abbrev S1536x1024 : Shape := ⟨2, ![1536, 1024]⟩
abbrev S512x1536 : Shape := ⟨2, ![512, 1536]⟩
abbrev S512x768 : Shape := ⟨2, ![512, 768]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6144x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x6144, .bf16⟩
  | .hbm, ⟨20, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S6144x1024, .bf16⟩
  | .local _ .vmem, ⟨3, _⟩ => ⟨S512x6144, .bf16⟩
  | .local _ .vmem, ⟨4, _⟩ => ⟨S512x6144, .bf16⟩
  | .local _ .vmem, ⟨5, _⟩ => ⟨S512x3072, .bf16⟩
  | .local _ .vmem, ⟨6, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x1024 : Shape := ⟨2, ![4096, 1024]⟩
abbrev S1x1024 : Shape := ⟨2, ![1, 1024]⟩
abbrev S6144x1024 : Shape := ⟨2, ![6144, 1024]⟩
abbrev S_ : Shape := ⟨0, ![]⟩
abbrev S4096 : Shape := ⟨1, ![4096]⟩
abbrev S4096x1 : Shape := ⟨2, ![4096, 1]⟩
abbrev S1024x6144 : Shape := ⟨2, ![1024, 6144]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S4096x3072 : Shape := ⟨2, ![4096, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6144x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S6144x1024, .f32⟩
  | .hbm, ⟨19, _⟩ => ⟨S1024x6144, .f32⟩
  | .hbm, ⟨20, _⟩ => ⟨S4096x6144, .f32⟩
  | .hbm, ⟨21, _⟩ => ⟨S4096x6144, .bf16⟩
  | .hbm, ⟨22, _⟩ => ⟨S4096x4x2x768, .f32⟩
  | .hbm, ⟨23, _⟩ => ⟨S4096x4x1x768, .f32⟩
  | .hbm, ⟨24, _⟩ => ⟨S4096x4x768, .f32⟩
  | .hbm, ⟨25, _⟩ => ⟨S4096x4x768, .f32⟩
  | .hbm, ⟨26, _⟩ => ⟨S4096x4x768, .f32⟩
  | .hbm, ⟨27, _⟩ => ⟨S_, .f32⟩
  | .hbm, ⟨28, _⟩ => ⟨S4096x4x768, .f32⟩
  | .hbm, ⟨29, _⟩ => ⟨S4096x4x768, .f32⟩
  | .hbm, ⟨30, _⟩ => ⟨S_, .f32⟩
  | .hbm, ⟨31, _⟩ => ⟨S4096x4x768, .f32⟩
  | .hbm, ⟨32, _⟩ => ⟨S4096x4x768, .f32⟩
  | .hbm, ⟨33, _⟩ => ⟨S4096x4x768, .f32⟩
  | .hbm, ⟨34, _⟩ => ⟨S4096x4x1x768, .f32⟩
  | .hbm, ⟨35, _⟩ => ⟨S4096x4x768, .f32⟩
  | .hbm, ⟨36, _⟩ => ⟨S4096x4x768, .f32⟩
  | .hbm, ⟨37, _⟩ => ⟨S4096x3072, .f32⟩
  | .hbm, ⟨38, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S4096x6144 : Shape := ⟨2, ![4096, 6144]⟩
abbrev S3072x1024 : Shape := ⟨2, ![3072, 1024]⟩
abbrev S4096x1024 : Shape := ⟨2, ![4096, 1024]⟩
abbrev S1x1024 : Shape := ⟨2, ![1, 1024]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096x3072 : Shape := ⟨2, ![4096, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x6144, .f32⟩
  | .hbm, ⟨6, _⟩ => ⟨S4096x4x2x768, .f32⟩
  | .hbm, ⟨7, _⟩ => ⟨S4096x4x1x768, .f32⟩
  | .hbm, ⟨8, _⟩ => ⟨S4096x4x768, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S_, .f32⟩
  | .hbm, ⟨15, _⟩ => ⟨S4096x4x768, .f32⟩
  | .hbm, ⟨16, _⟩ => ⟨S4096x4x768, .f32⟩
  | .hbm, ⟨17, _⟩ => ⟨S4096x4x768, .f32⟩
  | .hbm, ⟨18, _⟩ => ⟨S4096x4x1x768, .f32⟩
  | .hbm, ⟨19, _⟩ => ⟨S4096x4x768, .f32⟩
  | .hbm, ⟨20, _⟩ => ⟨S4096x4x768, .f32⟩
  | .hbm, ⟨21, _⟩ => ⟨S4096x3072, .f32⟩
  | .hbm, ⟨22, _⟩ => ⟨S4096x3072, .bf16⟩
  | .hbm, ⟨23, _⟩ => ⟨S4096x1024, .bf16⟩
  | .hbm, ⟨24, _⟩ => ⟨S4096x1024, .f32⟩
  | .hbm, ⟨25, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x6144 : Shape := ⟨2, ![4096, 6144]⟩
abbrev S3072x1024 : Shape := ⟨2, ![3072, 1024]⟩
abbrev S4096x1024 : Shape := ⟨2, ![4096, 1024]⟩
abbrev S1x1024 : Shape := ⟨2, ![1, 1024]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S_ : Shape := ⟨0, ![]⟩
abbrev S4096x3072 : Shape := ⟨2, ![4096, 3072]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x6144, .f32⟩
  | .hbm, ⟨6, _⟩ => ⟨S4096x4x2x768, .f32⟩
  | .hbm, ⟨7, _⟩ => ⟨S4096x4x1x768, .f32⟩
  | .hbm, ⟨8, _⟩ => ⟨S4096x4x768, .f32⟩
  | .hbm, ⟨9, _⟩ => ⟨S4096x4x768, .f32⟩
  | .hbm, ⟨10, _⟩ => ⟨S4096x4x768, .f32⟩
  | .hbm, ⟨11, _⟩ => ⟨S_, .f32⟩
  | .hbm, ⟨12, _⟩ => ⟨S4096x4x768, .f32⟩
  | .hbm, ⟨13, _⟩ => ⟨S4096x4x768, .f32⟩
  | .hbm, ⟨14, _⟩ => ⟨S_, .f32⟩
  | .hbm, ⟨15, _⟩ => ⟨S4096x4x768, .f32⟩
  | .hbm, ⟨16, _⟩ => ⟨S4096x4x768, .f32⟩
  | .hbm, ⟨17, _⟩ => ⟨S4096x4x768, .f32⟩
  | .hbm, ⟨18, _⟩ => ⟨S4096x4x1x768, .f32⟩
  | .hbm, ⟨19, _⟩ => ⟨S4096x4x768, .f32⟩
  | .hbm, ⟨20, _⟩ => ⟨S4096x4x768, .f32⟩
  | .hbm, ⟨21, _⟩ => ⟨S4096x3072, .f32⟩
  | .hbm, ⟨22, _⟩ => ⟨S3072x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S6144x1024 : Shape := ⟨2, ![6144, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x3072 : Shape := ⟨2, ![4096, 3072]⟩
abbrev S1x128 : Shape := ⟨2, ![1, 128]⟩
abbrev S256x1024 : Shape := ⟨2, ![256, 1024]⟩
abbrev S256x6144 : Shape := ⟨2, ![256, 6144]⟩
abbrev S256x3072 : Shape := ⟨2, ![256, 3072]⟩
abbrev S1536x1024 : Shape := ⟨2, ![1536, 1024]⟩
abbrev S256x1536 : Shape := ⟨2, ![256, 1536]⟩
abbrev S256x768 : Shape := ⟨2, ![256, 768]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 29
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6144x1024, .bf16⟩
  | .hbm, ⟨3, _⟩ => ⟨S1x1024, .f32⟩
  | .hbm, ⟨4, _⟩ => ⟨S3072x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x6144, .bf16⟩
  | .hbm, ⟨24, _⟩ => ⟨S4096x3072, .bf16⟩
  | .hbm, ⟨25, _⟩ => ⟨S4096x1024, .bf16⟩
  | .hbm, ⟨26, _⟩ => ⟨S4096x1024, .f32⟩
  | .hbm, ⟨27, _⟩ => ⟨S1x128, .f32⟩
  | .hbm, ⟨28, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S6144x1024, .bf16⟩
  | .local _ .vmem, ⟨3, _⟩ => ⟨S3072x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x6144, .bf16⟩
  | .local _ .vmem, ⟨11, _⟩ => ⟨S256x6144, .bf16⟩
  | .local _ .vmem, ⟨12, _⟩ => ⟨S256x3072, .bf16⟩
  | .local _ .vmem, ⟨13, _⟩ => ⟨S256x3072, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x128, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v143 : BitVec 1 := Scalar.cmpi .eq arg0 c0_i32
  let v144 : BitVec 32 := Scalar.extui v143
  let c0_i32_69 : BitVec 32 := 0#32
  let v145 : BitVec 1 := Scalar.cmpi .ne v144 c0_i32_69
  v145

def k0_cond2 (i : grid0.Coords) : BitVec 1 :=
  let arg0 : BitVec 32 := BitVec.ofNat 32 (i 0).val
  let c0_i32_70 : BitVec 32 := 0#32
  let v146 : BitVec 1 := Scalar.cmpi .sgt arg0 c0_i32_70
  let v147 : BitVec 32 := Scalar.extui v146
  let c0_i32_71 : BitVec 32 := 0#32
  let v148 : BitVec 1 := Scalar.cmpi .ne v147 c0_i32_71
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference10Ideal.lean ====
abbrev S4096x1024 : Shape := ⟨2, ![4096, 1024]⟩
abbrev S1x1024 : Shape := ⟨2, ![1, 1024]⟩
abbrev S6144x1024 : Shape := ⟨2, ![6144, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S1024x6144 : Shape := ⟨2, ![1024, 6144]⟩
abbrev S4096x6144 : Shape := ⟨2, ![4096, 6144]⟩
abbrev S4096x4x2x768 : Shape := ⟨4, ![4096, 4, 2, 768]⟩
abbrev S4096x4x1x768 : Shape := ⟨4, ![4096, 4, 1, 768]⟩
abbrev S4096x4x768 : Shape := ⟨3, ![4096, 4, 768]⟩
abbrev S4096x3072 : Shape := ⟨2, ![4096, 3072]⟩
abbrev S1024 : Shape := ⟨1, ![1024]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S1x1024, .f32⟩
  | 2 => ⟨S6144x1024, .bf16⟩
  | 3 => ⟨S1x1024, .f32⟩
  | 4 => ⟨S3072x1024, .bf16⟩
  | 5 => ⟨S1x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S6144x1024, .f32⟩
  | 23 => ⟨S1024x6144, .f32⟩
  | 24 => ⟨S4096x6144, .f32⟩
  | 25 => ⟨S4096x4x2x768, .f32⟩
  | 26 => ⟨S4096x4x1x768, .f32⟩
  | 27 => ⟨S4096x4x768, .f32⟩
  | 28 => ⟨S4096x4x768, .f32⟩
  | 29 => ⟨S4096x4x768, .f32⟩
  | 30 => ⟨S_, .f32⟩
  | 31 => ⟨S4096x4x768, .f32⟩
  | 32 => ⟨S4096x4x768, .f32⟩
  | 33 => ⟨S_, .f32⟩
  | 34 => ⟨S4096x4x768, .f32⟩
  | 35 => ⟨S4096x4x768, .f32⟩
  | 36 => ⟨S4096x4x768, .f32⟩
  | 37 => ⟨S4096x4x1x768, .f32⟩
  | 38 => ⟨S4096x4x768, .f32⟩
  | 39 => ⟨S4096x4x768, .f32⟩
  | 40 => ⟨S4096x3072, .f32⟩
  | 41 => ⟨S3072x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S1x128, .f32⟩
  | _ => ⟨S4096x1024, .f32⟩

abbrev hbmTy0_1 (i : Nat) : BufTy := match i % 128 with
  | 0 => ⟨S4096x6144, .bf16⟩
  | 1 => ⟨S4096x3072, .bf16⟩
  | 2 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_cst_15 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_19 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_cst_21 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S7296x1024 : Shape := ⟨2, ![7296, 1024]⟩
abbrev S_ : Shape := ⟨0, ![]⟩
abbrev S4096 : Shape := ⟨1, ![4096]⟩
abbrev S4096x1 : Shape := ⟨2, ![4096, 1]⟩
abbrev S4096x7296 : Shape := ⟨2, ![4096, 7296]⟩
abbrev S512x1024 : Shape := ⟨2, ![512, 1024]⟩
abbrev S512x7296 : Shape := ⟨2, ![512, 7296]⟩
abbrev S2432x1024 : Shape := ⟨2, ![2432, 1024]⟩
abbrev S512x2432 : Shape := ⟨2, ![512, 2432]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7296x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x7296, .bf16⟩
  | .local _ .vmem, ⟨0, _⟩ => ⟨S512x1024, .bf16⟩
  | .local _ .vmem, ⟨1, _⟩ => ⟨S512x1024, .bf16⟩
  | .local _ .vmem, ⟨2, _⟩ => ⟨S7296x1024, .bf16⟩
  | .local _ .vmem, ⟨3, _⟩ => ⟨S512x7296, .bf16⟩
  | .local _ .vmem, ⟨4, _⟩ => ⟨S512x7296, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7296x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7296 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S1x1024 : Shape := ⟨2, ![1, 1024]⟩
abbrev S7296x1024 : Shape := ⟨2, ![7296, 1024]⟩
abbrev S_ : Shape := ⟨0, ![]⟩
abbrev S4096 : Shape := ⟨1, ![4096]⟩
abbrev S4096x1 : Shape := ⟨2, ![4096, 1]⟩
abbrev S1024x7296 : Shape := ⟨2, ![1024, 7296]⟩
abbrev S4096x7296 : Shape := ⟨2, ![4096, 7296]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7296x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S7296x1024, .f32⟩
  | .hbm, ⟨19, _⟩ => ⟨S1024x7296, .f32⟩
  | .hbm, ⟨20, _⟩ => ⟨S4096x7296, .f32⟩
  | .hbm, ⟨21, _⟩ => ⟨S4096x7296, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S4096x7296 : Shape := ⟨2, ![4096, 7296]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S1x1024 : Shape := ⟨2, ![1, 1024]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 30
  | .smem => 0
  | _ => 0

abbrev bufTy : (tb : Table) → Fin (tcTables nBuf tb) → BufTy
  | .hbm, ⟨0, _⟩ => ⟨S4096x7296, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .f32⟩
  | .hbm, ⟨17, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference12Ideal.lean ====
abbrev S4096x7296 : Shape := ⟨2, ![4096, 7296]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S1x1024 : Shape := ⟨2, ![1, 1024]⟩
abbrev S4096x3072 : Shape := ⟨2, ![4096, 3072]⟩
abbrev S4096x3x1024 : Shape := ⟨3, ![4096, 3, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .bf16⟩
  | .hbm, ⟨22, _⟩ => ⟨S4096x3072, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x3x1024, .f32⟩
  | .hbm, ⟨31, _⟩ => ⟨S4096x3x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | .hbm, ⟨79, _⟩ => ⟨S4096x1024, .bf16⟩
  | .hbm, ⟨80, _⟩ => ⟨S4096x1024, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel13.lean ====
abbrev S4096x7296 : Shape := ⟨2, ![4096, 7296]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S1x1024 : Shape := ⟨2, ![1, 1024]⟩
abbrev S4096x7168 : Shape := ⟨2, ![4096, 7168]⟩
abbrev S4096x3072 : Shape := ⟨2, ![4096, 3072]⟩
abbrev S4096x3x1024 : Shape := ⟨3, ![4096, 3, 1024]⟩
abbrev S_ : Shape := ⟨0, ![]⟩
abbrev S4096x1x1024 : Shape := ⟨3, ![4096, 1, 1024]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S512x2048 : Shape := ⟨2, ![512, 2048]⟩

abbrev nBuf : Space → Nat
  | .hbm => 57
  | .vmem => 34
  | .smem => 0
  | _ => 0

abbrev bufTy : (tb : Table) → Fin (tcTables nBuf tb) → BufTy
  | .hbm, ⟨0, _⟩ => ⟨S4096x7296, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S4096x7168, .bf16⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .bf16⟩
  | .hbm, ⟨22, _⟩ => ⟨S4096x3072, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x3x1024, .f32⟩
  | .hbm, ⟨31, _⟩ => ⟨S4096x3x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x7168, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x512, .bf16⟩
  | .hbm, ⟨55, _⟩ => ⟨S4096x512, .bf16⟩
  | .hbm, ⟨56, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x3072, .bf16⟩
  | .local _ .vmem, ⟨20, _⟩ => ⟨S512x3072, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S1x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev main_v35_7 : Ref sig .tc := ⟨.hbm, 55, rfl⟩
abbrev main_v35_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v143 : BitVec 1 := Scalar.cmpi .eq arg0 c0_i32
  let v144 : BitVec 32 := Scalar.extui v143
  let c0_i32_72 : BitVec 32 := 0#32
  let v145 : BitVec 1 := Scalar.cmpi .ne v144 c0_i32_72
  v145

def k0_cond2 (i : grid0.Coords) : BitVec 1 :=
  let arg0 : BitVec 32 := BitVec.ofNat 32 (i 0).val
  let c0_i32_73 : BitVec 32 := 0#32
  let v146 : BitVec 1 := Scalar.cmpi .sgt arg0 c0_i32_73
  let v147 : BitVec 32 := Scalar.extui v146
  let c0_i32_74 : BitVec 32 := 0#32
  let v148 : BitVec 1 := Scalar.cmpi .ne v147 c0_i32_74
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference13Ideal.lean ====
abbrev S4096x7296 : Shape := ⟨2, ![4096, 7296]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S1x1024 : Shape := ⟨2, ![1, 1024]⟩
abbrev S4096x7168 : Shape := ⟨2, ![4096, 7168]⟩
abbrev S4096x3072 : Shape := ⟨2, ![4096, 3072]⟩
abbrev S4096x3x1024 : Shape := ⟨3, ![4096, 3, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩
abbrev S1024 : Shape := ⟨1, ![1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S4096x7168, .bf16⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .bf16⟩
  | .hbm, ⟨22, _⟩ => ⟨S4096x3072, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x3x1024, .f32⟩
  | .hbm, ⟨31, _⟩ => ⟨S4096x3x1024, .f32⟩
  | .hbm, ⟨32, _⟩ => ⟨S_, .f32⟩
  | .hbm, ⟨33, _⟩ => ⟨S4096x3x1024, .f32⟩
  | .hbm, ⟨34, _⟩ => ⟨S4096x3x1024, .f32⟩
  | .hbm, ⟨35, _⟩ => ⟨S4096x3x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1x1024, .f32⟩
  | .hbm, ⟨94, _⟩ => ⟨S_, .f32⟩
  | .hbm, ⟨95, _⟩ => ⟨S4096x3x1024, .f32⟩
  | .hbm, ⟨96, _⟩ => ⟨S4096x1024, .f32⟩
  | .hbm, ⟨97, _⟩ => ⟨S4096x1024, .f32⟩
  | .hbm, ⟨98, _⟩ => ⟨S4096x1x1024, .f32⟩
  | .hbm, ⟨99, _⟩ => ⟨S_, .f32⟩
  | .hbm, ⟨100, _⟩ => ⟨S4096x3x1024, .f32⟩
  | .hbm, ⟨101, _⟩ => ⟨S4096x3x1024, .f32⟩
  | .hbm, ⟨102, _⟩ => ⟨S4096x1024, .f32⟩
  | .hbm, ⟨103, _⟩ => ⟨S4096x1024, .f32⟩
  | .hbm, ⟨104, _⟩ => ⟨S4096x1x1024, .f32⟩
  | .hbm, ⟨105, _⟩ => ⟨S_, .f32⟩
  | .hbm, ⟨106, _⟩ => ⟨S4096x3x1024, .f32⟩
  | .hbm, ⟨107, _⟩ => ⟨S4096x3x1024, .f32⟩
  | .hbm, ⟨108, _⟩ => ⟨S4096x3x1024, .f32⟩
  | .hbm, ⟨109, _⟩ => ⟨S4096x3072, .bf16⟩
  | .hbm, ⟨110, _⟩ => ⟨S4096x3072, .f32⟩
  | .hbm, ⟨111, _⟩ => ⟨S4096x3072, .bf16⟩
  | .hbm, ⟨112, _⟩ => ⟨S4096x1024, .bf16⟩
  | .hbm, ⟨113, _⟩ => ⟨S4096x7168, .bf16⟩
  | .hbm, ⟨114, _⟩ => ⟨S4096x1024, .f32⟩
  | .hbm, ⟨115, _⟩ => ⟨S4096x512, .f32⟩
  | .hbm, ⟨116, _⟩ => ⟨S4096x512, .f32⟩
  | .hbm, ⟨117, _⟩ => ⟨S4096x1024, .bf16⟩
  | .hbm, ⟨118, _⟩ => ⟨S4096x1024, .bf16⟩
  | .hbm, ⟨119, _⟩ => ⟨S4096x1024, .bf16⟩
  | .hbm, ⟨120, _⟩ => ⟨S4096x1024, .bf16⟩
  | .hbm, ⟨121, _⟩ => ⟨S4096x1024, .bf16⟩
  | .hbm, ⟨122, _⟩ => ⟨S4096x512, .bf16⟩
  | .hbm, ⟨123, _⟩ => ⟨S4096x512, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x512 : Shape := ⟨2, ![4096, 512]⟩
abbrev S4096x1024 : Shape := ⟨2, ![4096, 1024]⟩
abbrev S512x1024 : Shape := ⟨2, ![512, 1024]⟩
abbrev S4096x128 : Shape := ⟨2, ![4096, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.SoftmaxGrad.lean ====
module

public import Idealize.ShloMosaic.Lib.Pipeline.ValueKit
public import Idealize.ShloMosaic.Lib.Pointwise

/-! The gradient of a softmax row, written twice over the extended reals.

A row of scores `s` and the cotangent `d` of its softmax are given. `gradCentred` is the usual form
`p * (d - Σ p d)`; `gradQuotient` is the form that differentiating `exp s / Σ exp s` as a quotient gives.
Where the scores and the cotangent are real numbers, the two agree (`gradCentred_eq_gradQuotient`). -/

@[expose] public section
noncomputable section
namespace Cert.SoftmaxGrad
open Idealize.ShloMosaic

/-- The largest score of the row, starting from the 32-bit minus infinity. -/
def top {n : ℕ} (s : Fin n → EReal) : EReal := Finset.fold max (Ideal.ofBits FTy.f32 4286578688#32) s Finset.univ
/-- The exponential of a score, taken relative to the largest. -/
def expo {n : ℕ} (s : Fin n → EReal) (j : Fin n) : EReal := Ideal.exp (s j - top s)
/-- The softmax of the row. -/
def prob {n : ℕ} (s : Fin n → EReal) (j : Fin n) : EReal := Ideal.div (expo s j) (∑ k, expo s k)
/-- The factor that the attention scores carry: the 32-bit word for `128 ^ (-1/2)`. -/
def scale : EReal := Ideal.ofBits FTy.f32 1035273459#32
/-- The gradient of the scaled scores, centred by the mean of the cotangent. -/
def gradCentred {n : ℕ} (s d : Fin n → EReal) (j : Fin n) : EReal :=
  prob s j * (d j - ∑ k, prob s k * d k) * scale
/-- The gradient of the scaled scores, by the quotient rule. -/
def gradQuotient {n : ℕ} (s d : Fin n → EReal) (j : Fin n) : EReal :=
  (Ideal.div (d j) (∑ k, expo s k) + -∑ k, d k * Ideal.div 1 ((∑ k, expo s k) * ∑ k, expo s k) * expo s k)
    * expo s j * scale

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

/-- The coercion of the reals commutes with finite sums. -/
theorem coe_sum_fin {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A number of size less than infinity is real. -/
theorem IsReal.of_ne {x : EReal} (h1 : x ≠ ⊤) (h2 : x ≠ ⊥) : IsReal x :=
  ⟨x.toReal, (EReal.coe_toReal h1 h2).symm⟩

theorem negInf_eq : Ideal.ofBits FTy.f32 4286578688#32 = ⊥ := by
  simp [Ideal.ofBits, Ideal.ieee]

theorem isReal_scale : IsReal scale := by
  unfold scale
  refine ⟨11863283 * (2 ^ 27 : ℝ)⁻¹, ?_⟩
  simp [Ideal.ofBits, Ideal.ieee]

/-- The largest of finitely many real scores is real. -/
theorem isReal_top {n : ℕ} {s : Fin (n + 1) → EReal} (hs : ∀ j, IsReal (s j)) : IsReal (top s) := by
  have e : top s = Finset.univ.sup s := by unfold top; rw [negInf_eq]; rfl
  obtain ⟨j, -, hj⟩ := Finset.exists_mem_eq_sup (Finset.univ : Finset (Fin (n + 1))) ⟨0, Finset.mem_univ _⟩ s
  rw [e, hj]; exact hs j

/-- With real scores and a real cotangent, centring by the mean and the quotient rule give one gradient. -/
theorem gradCentred_eq_gradQuotient {n : ℕ} (s d : Fin (n + 1) → EReal) (hs : ∀ j, IsReal (s j)) (hd : ∀ j, IsReal (d j))
    (j : Fin (n + 1)) : gradCentred s d j = gradQuotient s d j := by
  obtain ⟨T, hT⟩ := isReal_top hs
  obtain ⟨C, hC⟩ := isReal_scale
  choose a ha using hs
  choose b hb using hd
  have he : ∀ k, expo s k = ((Real.exp (a k - T) : ℝ) : EReal) := fun k => by
    unfold expo; rw [hT, ha k, ← EReal.coe_sub, Ideal.exp_coe]
  have hl : (∑ k, expo s k) = ((∑ k, Real.exp (a k - T) : ℝ) : EReal) := by
    rw [coe_sum_fin]; exact Finset.sum_congr rfl fun k _ => he k
  have hpos : 0 < ∑ k, Real.exp (a k - T) :=
    Finset.sum_pos (fun k _ => Real.exp_pos _) ⟨0, Finset.mem_univ _⟩
  generalize hL : ∑ k, Real.exp (a k - T) = L at hl hpos
  have hp : ∀ k, prob s k = ((Real.exp (a k - T) * (1 / L) : ℝ) : EReal) := fun k => by
    unfold prob; rw [hl, he k, Ideal.div_coe hpos.ne', ← EReal.coe_mul]
  have h1 : (∑ k, prob s k * d k) = ((∑ k, Real.exp (a k - T) * (1 / L) * b k : ℝ) : EReal) := by
    rw [coe_sum_fin]; exact Finset.sum_congr rfl fun k _ => by rw [hp k, hb k, ← EReal.coe_mul]
  have h2 : (∑ k, d k * Ideal.div 1 (((L : ℝ) : EReal) * ((L : ℝ) : EReal)) * expo s k)
      = ((∑ k, b k * (1 / (L * L)) * Real.exp (a k - T) : ℝ) : EReal) := by
    rw [coe_sum_fin]
    refine Finset.sum_congr rfl fun k _ => ?_
    rw [he k, hb k, ← EReal.coe_mul, Ideal.div_coe (mul_pos hpos hpos).ne', one_mul, ← EReal.coe_mul, ← EReal.coe_mul]
  unfold gradCentred gradQuotient
  rw [hl, h2, h1, hp j, he j, hb j, hC, Ideal.div_coe hpos.ne', ← EReal.coe_mul, ← EReal.coe_sub, ← EReal.coe_mul,
    ← EReal.coe_mul, ← EReal.coe_neg, ← EReal.coe_add, ← EReal.coe_mul, ← EReal.coe_mul]
  congr 1
  have h3 : (∑ k, b k * (1 / (L * L)) * Real.exp (a k - T)) = (1 / L) * ∑ k, Real.exp (a k - T) * (1 / L) * b k := by
    rw [Finset.mul_sum]
    refine Finset.sum_congr rfl fun k _ => ?_
    field_simp
  rw [h3]
  ring

end Cert.SoftmaxGrad
end
-- ==== Proof.Attention.lean ====
module

public import proofs.«01_k».proof.Proof.SoftmaxGrad

/-! The gradient of the memory cross-attention as functions of the whole arrays.

Four heads of width 128. The queries are the columns 6656 to 7167 of the projection `x0`, the keys and the values are
the two halves of `x1`, `x2` is the cotangent of the attention's output, and `x3` is the array whose last 512 columns
the gradient of the queries replaces. -/

@[expose] public section
noncomputable section
namespace Cert.Attention
open Idealize.ShloMosaic Cert.SoftmaxGrad

abbrev Proj := (⟨2, ![4096, 7296]⟩ : Shape).Idx → EReal
abbrev Mem := (⟨2, ![256, 1024]⟩ : Shape).Idx → EReal
abbrev Cot := (⟨2, ![4096, 512]⟩ : Shape).Idx → EReal
abbrev Main := (⟨2, ![4096, 7168]⟩ : Shape).Idx → EReal

/-- The query of row `r`, head `h`. -/
def query (x0 : Proj) (h : Fin 4) (r : Fin 4096) (x : Fin 128) : EReal := x0 (ix2 r ⟨6656 + (h.val * 128 + x.val), by omega⟩)
/-- The key of memory slot `j`, head `h`. -/
def key (x1 : Mem) (h : Fin 4) (j : Fin 256) (x : Fin 128) : EReal := x1 (ix2 j ⟨h.val * 128 + x.val, by omega⟩)
/-- The value of memory slot `j`, head `h`. -/
def value (x1 : Mem) (h : Fin 4) (j : Fin 256) (x : Fin 128) : EReal := x1 (ix2 j ⟨512 + (h.val * 128 + x.val), by omega⟩)
/-- The cotangent of row `r`, head `h`. -/
def cot (x2 : Cot) (h : Fin 4) (r : Fin 4096) (x : Fin 128) : EReal := x2 (ix2 r ⟨h.val * 128 + x.val, by omega⟩)
/-- The scaled score of row `r` against memory slot `j`. -/
def score (x0 : Proj) (x1 : Mem) (h : Fin 4) (r : Fin 4096) (j : Fin 256) : EReal :=
  (∑ x, query x0 h r x * key x1 h j x) * scale
/-- The cotangent of the attention weight of row `r` on memory slot `j`. -/
def dweight (x1 : Mem) (x2 : Cot) (h : Fin 4) (r : Fin 4096) (j : Fin 256) : EReal :=
  ∑ x, cot x2 h r x * value x1 h j x
/-- The gradient of the scores. -/
def dscore (x0 : Proj) (x1 : Mem) (x2 : Cot) (h : Fin 4) (r : Fin 4096) (j : Fin 256) : EReal :=
  gradCentred (score x0 x1 h r) (dweight x1 x2 h r) j
/-- The gradient of the queries. -/
def dquery (x0 : Proj) (x1 : Mem) (x2 : Cot) (h : Fin 4) (r : Fin 4096) (x : Fin 128) : EReal :=
  ∑ j, dscore x0 x1 x2 h r j * key x1 h j x
/-- What row `r` adds to the gradient of the keys (first 512 columns) and of the values (last 512 columns). -/
def dmemRow (x0 : Proj) (x1 : Mem) (x2 : Cot) (i : (⟨2, ![256, 1024]⟩ : Shape).Idx) (r : Fin 4096) : EReal :=
  if (i 1).val < 512 then
    dscore x0 x1 x2 ⟨(i 1).val % 512 / 128, by omega⟩ r (i 0) * query x0 ⟨(i 1).val % 512 / 128, by omega⟩ r ⟨(i 1).val % 128, by omega⟩
  else
    prob (score x0 x1 ⟨(i 1).val % 512 / 128, by omega⟩ r) (i 0) * cot x2 ⟨(i 1).val % 512 / 128, by omega⟩ r ⟨(i 1).val % 128, by omega⟩
/-- The gradient of the keys and the values. -/
def dmem (x0 : Proj) (x1 : Mem) (x2 : Cot) : Mem := fun i => ∑ r, dmemRow x0 x1 x2 i r
/-- The gradient of the projection: `x3` outside of the queries' columns. -/
def dproj (x0 : Proj) (x1 : Mem) (x2 : Cot) (x3 : Main) : Main := fun i =>
  if (i 1).val < 6656 then x3 i
  else dquery x0 x1 x2 ⟨((i 1).val - 6656) % 512 / 128, by omega⟩ (i 0) ⟨((i 1).val - 6656) % 128, by omega⟩

/-- The arguments the gradient depends on are real numbers. -/
structure Real (x0 : Proj) (x1 : Mem) (x2 : Cot) : Prop where
  proj : ∀ (r : Fin 4096) (x : Fin 512), IsReal (x0 (ix2 r ⟨6656 + x.val, by omega⟩))
  mem : ∀ i, IsReal (x1 i)
  cot : ∀ i, IsReal (x2 i)

theorem isReal_score {x0 : Proj} {x1 : Mem} {x2 : Cot} (f : Real x0 x1 x2) (h : Fin 4) (r : Fin 4096) (j : Fin 256) :
    IsReal (score x0 x1 h r j) :=
  (IsReal.sum fun x _ => (f.proj r ⟨h.val * 128 + x.val, by omega⟩).mul (f.mem _)).mul isReal_scale

theorem isReal_dweight {x0 : Proj} {x1 : Mem} {x2 : Cot} (f : Real x0 x1 x2) (h : Fin 4) (r : Fin 4096) (j : Fin 256) :
    IsReal (dweight x1 x2 h r j) :=
  IsReal.sum fun x _ => (f.cot _).mul (f.mem _)

/-- On real arguments the gradient of the scores by the quotient rule is the centred one. -/
theorem dscore_eq {x0 : Proj} {x1 : Mem} {x2 : Cot} (f : Real x0 x1 x2) (h : Fin 4) (r : Fin 4096) (j : Fin 256) :
    gradQuotient (score x0 x1 h r) (dweight x1 x2 h r) j = dscore x0 x1 x2 h r j :=
  (gradCentred_eq_gradQuotient _ _ (isReal_score f h r) (isReal_dweight f h r) j).symm

end Cert.Attention
end
-- ==== Proof.ReferenceRead.lean ====
module

public import proofs.«01_k».proof.Proof.Attention
public import proofs.«01_k».proof.Proof.Gen.ReferenceIdeal.Read

/-! What the reference computes, read stage by stage at an index. -/

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.ReferenceIdeal.Read
open Cert.SoftmaxGrad Cert.Attention

variable (x0 : FVec Ideal S4096x7296 .bf16) (x1 : FVec Ideal S256x1024 .f32) (x2 : FVec Ideal S4096x512 .bf16)
  (x3 : FVec Ideal S4096x7168 .bf16)

/-- The scores. -/
theorem score_read (h : Fin 4) (r : Fin 4096) (j : Fin 256) : val_main_v9 (F := Ideal) x0 x1 (ix3 h r j) = score x0 x1 h r j := by
  pointwise [val_main_v9, val_main_v7, val_main_v2, val_main_v1, val_main_v0, val_main_v5, val_main_v3, val_main_v8, val_main_cst]
  rfl

/-- The row maximum. -/
theorem top_read (h : Fin 4) (r : Fin 4096) : val_main_v10 (F := Ideal) x0 x1 (ix2 h r) = top (score x0 x1 h r) := by
  pointwise [val_main_v10, val_main_cst_0]
  unfold top
  exact congrArg (fun f => Finset.fold max (Ideal.ofBits FTy.f32 4286578688#32) f Finset.univ) (funext fun j => score_read x0 x1 h r j)

/-- Guarding the row maximum by minus infinity changes nothing. -/
theorem guarded_read (h : Fin 4) (r : Fin 4096) : val_main_v17 (F := Ideal) x0 x1 (ix2 h r) = top (score x0 x1 h r) := by
  rw [val_main_v17_apply, val_main_v16_apply, val_main_cst_2_apply, top_read]
  show max (Ideal.ofBits FTy.f32 4286578688#32) _ = _
  rw [negInf_eq]
  exact max_eq_right bot_le

theorem expo_read (h : Fin 4) (r : Fin 4096) (j : Fin 256) : val_main_v30 (F := Ideal) x0 x1 (ix3 h r j) = expo (score x0 x1 h r) j := by
  have e : val_main_v28 (F := Ideal) x0 x1 (ix3 h r j) = val_main_v17 (F := Ideal) x0 x1 (ix2 h r) := by
    pointwise [val_main_v28, val_main_v27]
  rw [val_main_v30_apply, val_main_v29_apply, e, guarded_read, score_read]
  rfl

theorem sum_read (h : Fin 4) (r : Fin 4096) : val_main_v31 (F := Ideal) x0 x1 (ix2 h r) = ∑ j, expo (score x0 x1 h r) j := by
  pointwise [val_main_v31, val_main_cst_8]
  exact Finset.sum_congr rfl fun j _ => expo_read x0 x1 h r j

theorem prob_read (h : Fin 4) (r : Fin 4096) (j : Fin 256) : val_main_v34 (F := Ideal) x0 x1 (ix3 h r j) = prob (score x0 x1 h r) j := by
  have e : val_main_v33 (F := Ideal) x0 x1 (ix3 h r j) = val_main_v31 (F := Ideal) x0 x1 (ix2 h r) := by
    pointwise [val_main_v33, val_main_v32]
  rw [val_main_v34_apply, e, sum_read, expo_read]
  rfl

theorem dweight_read (h : Fin 4) (r : Fin 4096) (j : Fin 256) : val_main_v44 (F := Ideal) x1 x2 (ix3 h r j) = dweight x1 x2 h r j := by
  pointwise [val_main_v44, val_main_v43, val_main_v42, val_main_v41, val_main_v6, val_main_v4]
  rfl

theorem dscore_read (h : Fin 4) (r : Fin 4096) (j : Fin 256) :
    val_main_v60 (F := Ideal) x0 x1 x2 (ix3 h r j) = gradQuotient (score x0 x1 h r) (dweight x1 x2 h r) j := by
  pointwise [val_main_v60, val_main_v59, val_main_cst_12, val_main_v58, val_main_v57, val_main_v56, val_main_v55, val_main_v54,
    val_main_v53, val_main_v52, val_main_v51, val_main_v50, val_main_v49, val_main_v48, val_main_v47, val_main_v37, val_main_v36,
    val_main_v35, val_main_cst_9, val_main_cst_10, val_main_cst_11, val_main_v32, val_main_v31, val_main_cst_8]
  simp only [dweight_read, expo_read, Finset.univ_unique, Finset.sum_singleton]
  rfl

/-- The first result, at an index of the queries' columns. -/
theorem dquery_read (h : Fin 4) (r : Fin 4096) (x : Fin 128) : val_main_v63 (F := Ideal) x0 x1 x2 (ix3 h r x)
    = ∑ j, gradQuotient (score x0 x1 h r) (dweight x1 x2 h r) j * key x1 h j x := by
  pointwise [val_main_v63, val_main_v5, val_main_v3]
  exact Finset.sum_congr rfl fun j _ => by rw [dscore_read]; rfl

/-- On real arguments the first result is `dproj`. -/
theorem dproj_read (f : Real x0 x1 x2) : val_main_v71 (F := Ideal) x0 x1 x2 x3 = dproj x0 x1 x2 x3 := by
  have hq : ∀ (r : Fin 4096) (j : Fin 512), val_main_v70 (F := Ideal) x0 x1 x2 (ix2 r j)
      = dquery x0 x1 x2 ⟨j.val % 512 / 128, by omega⟩ r ⟨j.val % 128, by omega⟩ := fun r j => by
    have e : val_main_v70 (F := Ideal) x0 x1 x2 (ix2 r j)
        = val_main_v63 (F := Ideal) x0 x1 x2 (ix3 ⟨j.val / 128, by omega⟩ r ⟨j.val % 128, by omega⟩) := by
      pointwise [val_main_v70, val_main_v68, val_main_v64]
    rw [e, dquery_read]
    simp only [dscore_eq f, Nat.mod_eq_of_lt j.isLt]
    rfl
  funext i
  obtain ⟨r, j, rfl⟩ : ∃ (r : Fin 4096) (j : Fin 7168), i = ix2 r j := ⟨i 0, i 1, (ix2_eta i).symm⟩
  pointwise [val_main_v71, val_main_v69]
  unfold dproj
  by_cases hj : j.val < 6656
  · rw [dif_pos hj]; exact (if_pos hj).symm
  · rw [dif_neg hj, hq]; exact (if_neg hj).symm

/-- On real arguments the second result is `dmem`. -/
theorem dmem_read (f : Real x0 x1 x2) : val_main_v67 (F := Ideal) x0 x1 x2 = dmem x0 x1 x2 := by
  funext i
  obtain ⟨r, j, rfl⟩ : ∃ (r : Fin 256) (j : Fin 1024), i = ix2 r j := ⟨i 0, i 1, (ix2_eta i).symm⟩
  pointwise [val_main_v67, val_main_v65, val_main_v66, val_main_v62, val_main_v61, val_main_v46, val_main_v45]
  unfold dmem dmemRow
  by_cases hj : j.val < 512
  · rw [dif_pos hj]
    refine Finset.sum_congr rfl fun x _ => ?_
    rw [dscore_read, dscore_eq f]
    refine Eq.trans ?_ (if_pos hj).symm
    pointwise [val_main_v2, val_main_v1, val_main_v0]
    have e : j.val / 128 = j.val % 512 / 128 := by omega
    simp only [e]
    rfl
  · rw [dif_neg hj]
    refine Finset.sum_congr rfl fun x _ => ?_
    rw [prob_read]
    refine Eq.trans ?_ (if_neg hj).symm
    have e1 : (j.val - 512) / 128 = j.val % 512 / 128 := by omega
    have e2 : (j.val - 512) % 128 = j.val % 128 := by omega
    simp only [e1, e2]
    rw [mul_comm]
    congr 1
    pointwise [val_main_v43, val_main_v42, val_main_v41]
    rfl

end Cert.ReferenceIdeal.Value
end
-- ==== Proof.TileRead.lean ====
module

public import proofs.«01_k».proof.Proof.Attention
public import proofs.«01_k».proof.Proof.Gen.KernelIdeal.Skeleton

/-! What one grid point of the kernel computes, read at an index.

The point has a tile of 1024 rows of the queries (`v0`), the same rows of the cotangent (`v1`), and all of the keys and
values (`v2`). A head is given by the first column `o` of its queries and keys and the first column `w` of its values. -/

@[expose] public section
set_option maxRecDepth 16384
noncomputable section
namespace Cert.KernelIdeal.Value
open Idealize.ShloMosaic Idealize.ShloMosaic.TcCoe Idealize.SL.Sem
open Cert.KernelIdeal Cert.KernelIdeal.Gen
open Cert.SoftmaxGrad

variable (v0 v1 : Vec Ideal S1024x512 .bf16) (v2 : Vec Ideal S256x1024 .f32)

/-- The scores of row `a` of the tile. -/
def tscore (o : ℕ) (ho : o + 128 ≤ 512) (a : Fin 1024) (j : Fin 256) : EReal :=
  (∑ x : Fin 128, v0 (ix2 a ⟨o + x.val, by omega⟩) * v2 (ix2 j ⟨o + x.val, by omega⟩)) * scale
/-- The cotangent of the weights of row `a` of the tile. -/
def tdweight (o w : ℕ) (ho : o + 128 ≤ 512) (hw : w + 128 ≤ 1024) (a : Fin 1024) (j : Fin 256) : EReal :=
  ∑ x : Fin 128, v1 (ix2 a ⟨o + x.val, by omega⟩) * v2 (ix2 j ⟨w + x.val, by omega⟩)
/-- The gradient of the scores of row `a` of the tile. -/
def tdscore (o w : ℕ) (ho : o + 128 ≤ 512) (hw : w + 128 ≤ 1024) (a : Fin 1024) (j : Fin 256) : EReal :=
  gradCentred (tscore v0 v2 o ho a) (tdweight v1 v2 o w ho hw a) j
/-- The gradient of the queries of the tile, for one head. -/
def tdquery (o w : ℕ) (ho : o + 128 ≤ 512) (hw : w + 128 ≤ 1024) (a : Fin 1024) (x : Fin 128) : EReal :=
  ∑ j : Fin 256, tdscore v0 v1 v2 o w ho hw a j * v2 (ix2 j ⟨o + x.val, by omega⟩)
/-- What the tile adds to the gradient of the keys, for one head. -/
def tdkey (o w : ℕ) (ho : o + 128 ≤ 512) (hw : w + 128 ≤ 1024) (j : Fin 256) (x : Fin 128) : EReal :=
  ∑ a : Fin 1024, tdscore v0 v1 v2 o w ho hw a j * v0 (ix2 a ⟨o + x.val, by omega⟩)
/-- What the tile adds to the gradient of the values, for one head. -/
def tdvalue (o : ℕ) (ho : o + 128 ≤ 512) (j : Fin 256) (x : Fin 128) : EReal :=
  ∑ a : Fin 1024, prob (tscore v0 v2 o ho a) j * v1 (ix2 a ⟨o + x.val, by omega⟩)

/-! ## Head 0 -/

theorem prob_0 (a : Fin 1024) (j : Fin 256) : k0_pay5 (F := Ideal) v0 v2 (ix2 a j) = prob (tscore v0 v2 0 (by omega) a) j := by
  unfold prob expo top tscore
  pointwise [k0_pay5]
  rfl
theorem dscore_0 (a : Fin 1024) (j : Fin 256) :
    k0_pay6 (F := Ideal) v0 v1 v2 (ix2 a j) = tdscore v0 v1 v2 0 512 (by omega) (by omega) a j := by
  unfold tdscore gradCentred tdweight
  pointwise [k0_pay6]
  simp only [prob_0]
  rfl
theorem dquery_0 (a : Fin 1024) (x : Fin 128) :
    k0_pay7 (F := Ideal) v0 v1 v2 (ix2 a x) = tdquery v0 v1 v2 0 512 (by omega) (by omega) a x := by
  unfold tdquery
  pointwise [k0_pay7]
  simp only [dscore_0]
theorem dkey_0 (j : Fin 256) (x : Fin 128) :
    k0_pay8 (F := Ideal) v0 v1 v2 (ix2 j x) = tdkey v0 v1 v2 0 512 (by omega) (by omega) j x := by
  unfold tdkey
  pointwise [k0_pay8]
  simp only [dscore_0]
theorem dvalue_0 (j : Fin 256) (x : Fin 128) :
    k0_pay9 (F := Ideal) v0 v1 v2 (ix2 j x) = tdvalue v0 v1 v2 0 (by omega) j x := by
  unfold tdvalue
  pointwise [k0_pay9]
  simp only [prob_0]

/-! ## Head 1 -/

theorem prob_1 (a : Fin 1024) (j : Fin 256) :
    k0_pay13 (F := Ideal) (k0_pay11 v0) (k0_pay12 v2) (ix2 a j) = prob (tscore v0 v2 128 (by omega) a) j := by
  unfold prob expo top tscore
  pointwise [k0_pay13, k0_pay11, k0_pay12]
  rfl
theorem dscore_1 (a : Fin 1024) (j : Fin 256) :
    k0_pay14 (F := Ideal) v1 (k0_pay10 v2) (k0_pay11 v0) (k0_pay12 v2) (ix2 a j)
      = tdscore v0 v1 v2 128 640 (by omega) (by omega) a j := by
  unfold tdscore gradCentred tdweight
  pointwise [k0_pay14, k0_pay10]
  simp only [prob_1]
  rfl
theorem dquery_1 (a : Fin 1024) (x : Fin 128) :
    k0_pay15 (F := Ideal) v1 v2 (k0_pay10 v2) (k0_pay11 v0) (k0_pay12 v2) (ix2 a x)
      = tdquery v0 v1 v2 128 640 (by omega) (by omega) a x := by
  unfold tdquery
  pointwise [k0_pay15]
  simp only [dscore_1]
theorem dkey_1 (j : Fin 256) (x : Fin 128) :
    k0_pay16 (F := Ideal) v0 v1 (k0_pay10 v2) (k0_pay11 v0) (k0_pay12 v2) (ix2 j x)
      = tdkey v0 v1 v2 128 640 (by omega) (by omega) j x := by
  unfold tdkey
  pointwise [k0_pay16]
  simp only [dscore_1]
theorem dvalue_1 (j : Fin 256) (x : Fin 128) :
    k0_pay17 (F := Ideal) v1 (k0_pay11 v0) (k0_pay12 v2) (ix2 j x) = tdvalue v0 v1 v2 128 (by omega) j x := by
  unfold tdvalue
  pointwise [k0_pay17]
  simp only [prob_1]

/-! ## Head 2 -/

theorem prob_2 (a : Fin 1024) (j : Fin 256) :
    k0_pay20 (F := Ideal) (k0_pay19 v0 v2) (ix2 a j) = prob (tscore v0 v2 256 (by omega) a) j := by
  unfold prob expo top tscore
  pointwise [k0_pay20, k0_pay19]
  rfl
theorem dscore_2 (a : Fin 1024) (j : Fin 256) :
    k0_pay21 (F := Ideal) v1 (k0_pay18 v2) (k0_pay19 v0 v2) (ix2 a j)
      = tdscore v0 v1 v2 256 768 (by omega) (by omega) a j := by
  unfold tdscore gradCentred tdweight
  pointwise [k0_pay21, k0_pay18]
  simp only [prob_2]
  rfl
theorem dquery_2 (a : Fin 1024) (x : Fin 128) :
    k0_pay22 (F := Ideal) v1 v2 (k0_pay18 v2) (k0_pay19 v0 v2) (ix2 a x)
      = tdquery v0 v1 v2 256 768 (by omega) (by omega) a x := by
  unfold tdquery
  pointwise [k0_pay22]
  simp only [dscore_2]
theorem dkey_2 (j : Fin 256) (x : Fin 128) :
    k0_pay23 (F := Ideal) v0 v1 (k0_pay18 v2) (k0_pay19 v0 v2) (ix2 j x)
      = tdkey v0 v1 v2 256 768 (by omega) (by omega) j x := by
  unfold tdkey
  pointwise [k0_pay23]
  simp only [dscore_2]
theorem dvalue_2 (j : Fin 256) (x : Fin 128) :
    k0_pay24 (F := Ideal) v1 (k0_pay19 v0 v2) (ix2 j x) = tdvalue v0 v1 v2 256 (by omega) j x := by
  unfold tdvalue
  pointwise [k0_pay24]
  simp only [prob_2]

/-! ## Head 3 -/

theorem prob_3 (a : Fin 1024) (j : Fin 256) : k0_pay25 (F := Ideal) v0 v2 (ix2 a j) = prob (tscore v0 v2 384 (by omega) a) j := by
  unfold prob expo top tscore
  pointwise [k0_pay25]
  rfl
theorem dscore_3 (a : Fin 1024) (j : Fin 256) :
    k0_pay1 (F := Ideal) (k0_pay25 v0 v2) (k0_pay26 v1 v2) (k0_pay27 v0 v1 v2) (ix2 a j)
      = tdscore v0 v1 v2 384 896 (by omega) (by omega) a j := by
  unfold tdscore gradCentred tdweight
  pointwise [k0_pay1, k0_pay26, k0_pay27]
  simp only [prob_3]
  rfl

/-! ## The tile in the whole arrays -/

open Cert.Attention

/-- The tile `v0`, `v1`, `v2` is the part of the arrays `x0`, `x1`, `x2` whose rows are `row a`. -/
structure TileOf (row : Fin 1024 → Fin 4096) (x0 : Proj) (x1 : Mem) (x2 : Cot) : Prop where
  proj : ∀ (a : Fin 1024) (x : Fin 512), v0 (ix2 a x) = x0 (ix2 (row a) ⟨6656 + x.val, by omega⟩)
  cot : ∀ (a : Fin 1024) (x : Fin 512), v1 (ix2 a x) = x2 (ix2 (row a) x)
  mem : v2 = x1

variable {v0 v1 v2} {row : Fin 1024 → Fin 4096} {x0 : Proj} {x1 : Mem} {x2 : Cot} (t : TileOf v0 v1 v2 row x0 x1 x2)
include t

theorem tscore_eq {o : ℕ} (ho : o + 128 ≤ 512) (h : Fin 4) (eo : o = h.val * 128) (a : Fin 1024) : tscore v0 v2 o ho a = score x0 x1 h (row a) := by
  subst eo
  funext j
  unfold tscore score query key
  simp only [t.proj, t.mem]
theorem tdweight_eq {o w : ℕ} (ho : o + 128 ≤ 512) (hw : w + 128 ≤ 1024) (h : Fin 4)
    (eo : o = h.val * 128) (ew : w = 512 + h.val * 128) (a : Fin 1024) :
    tdweight v1 v2 o w ho hw a = dweight x1 x2 h (row a) := by
  subst eo ew
  funext j
  unfold tdweight dweight value Cert.Attention.cot
  simp only [t.cot, t.mem, Nat.add_assoc]
theorem tdscore_eq {o w : ℕ} (ho : o + 128 ≤ 512) (hw : w + 128 ≤ 1024) (h : Fin 4)
    (eo : o = h.val * 128) (ew : w = 512 + h.val * 128) (a : Fin 1024) (j : Fin 256) :
    tdscore v0 v1 v2 o w ho hw a j = dscore x0 x1 x2 h (row a) j := by
  unfold tdscore dscore
  rw [tscore_eq t ho h eo, tdweight_eq t ho hw h eo ew]
theorem tdquery_eq {o w : ℕ} (ho : o + 128 ≤ 512) (hw : w + 128 ≤ 1024) (h : Fin 4)
    (eo : o = h.val * 128) (ew : w = 512 + h.val * 128) (a : Fin 1024) (x : Fin 128) :
    tdquery v0 v1 v2 o w ho hw a x = dquery x0 x1 x2 h (row a) x := by
  subst eo
  unfold tdquery dquery key
  simp only [tdscore_eq t ho hw h rfl ew]
  simp only [t.mem]
theorem tdkey_eq {o w : ℕ} (ho : o + 128 ≤ 512) (hw : w + 128 ≤ 1024) (h : Fin 4)
    (eo : o = h.val * 128) (ew : w = 512 + h.val * 128) (j : Fin 256) (x : Fin 128) :
    tdkey v0 v1 v2 o w ho hw j x = ∑ a, dscore x0 x1 x2 h (row a) j * query x0 h (row a) x := by
  subst eo
  unfold tdkey query
  simp only [tdscore_eq t ho hw h rfl ew]
  simp only [t.proj]
theorem tdvalue_eq {o : ℕ} (ho : o + 128 ≤ 512) (h : Fin 4) (eo : o = h.val * 128) (j : Fin 256) (x : Fin 128) :
    tdvalue v0 v1 v2 o ho j x = ∑ a, prob (score x0 x1 h (row a)) j * Cert.Attention.cot x2 h (row a) x := by
  subst eo
  unfold tdvalue Cert.Attention.cot
  simp only [tscore_eq t ho h rfl]
  simp only [t.cot]

/-- The tile of the queries' gradient: the four heads side by side. -/
theorem tile_dquery (a : Fin 1024) (y : Fin 512) :
    k0_pay3 (F := Ideal) v2 (k0_pay7 v0 v1 v2) (k0_pay15 v1 v2 (k0_pay10 v2) (k0_pay11 v0) (k0_pay12 v2))
        (k0_pay22 v1 v2 (k0_pay18 v2) (k0_pay19 v0 v2)) (k0_pay25 v0 v2) (k0_pay26 v1 v2) (k0_pay27 v0 v1 v2) (ix2 a y)
      = dquery x0 x1 x2 ⟨y.val % 512 / 128, by omega⟩ (row a) ⟨y.val % 128, by omega⟩ := by
  have hx : ∀ k : ℕ, (k = 128 * 0 ∨ k = 128 * 1 ∨ k = 128 * 2 ∨ k = 128 * 3) → k ≤ y.val → y.val - k < 128 →
      y.val % 512 / 128 * 128 = k ∧ y.val % 128 = y.val - k := fun k hk h1 h2 => by omega
  pointwise [k0_pay3]
  simp only [Nat.sub_sub, Nat.reduceAdd, dquery_0, dquery_1, dquery_2, dscore_3]
  by_cases h0 : y.val < 128
  · rw [dif_pos h0]
    obtain ⟨e, e'⟩ := hx 0 (by omega) (by omega) (by omega)
    simp only [e']
    exact tdquery_eq t (o := 0) (w := 512) _ _ ⟨y.val % 512 / 128, by omega⟩ e.symm (congrArg (512 + ·) e.symm) a ⟨y.val, by omega⟩
  rw [dif_neg h0]
  by_cases h1 : y.val - 128 < 128
  · rw [dif_pos h1]
    obtain ⟨e, e'⟩ := hx 128 (by omega) (by omega) (by omega)
    simp only [e']
    exact tdquery_eq t (o := 128) (w := 640) _ _ ⟨y.val % 512 / 128, by omega⟩ e.symm (congrArg (512 + ·) e.symm) a ⟨y.val - 128, by omega⟩
  rw [dif_neg h1]
  by_cases h2 : y.val - 256 < 128
  · rw [dif_pos h2]
    obtain ⟨e, e'⟩ := hx 256 (by omega) (by omega) (by omega)
    simp only [e']
    exact tdquery_eq t (o := 256) (w := 768) _ _ ⟨y.val % 512 / 128, by omega⟩ e.symm (congrArg (512 + ·) e.symm) a ⟨y.val - 256, by omega⟩
  rw [dif_neg h2]
  obtain ⟨e, e'⟩ := hx 384 (by omega) (by omega) (by omega)
  simp only [e']
  exact tdquery_eq t (o := 384) (w := 896) _ _ ⟨y.val % 512 / 128, by omega⟩ e.symm (congrArg (512 + ·) e.symm) a ⟨y.val - 384, by omega⟩

/-- What the tile adds to the gradient of the keys and the values. -/
theorem tile_dmem (i : S256x1024.Idx) :
    k0_pay2 (F := Ideal) v0 v1 (k0_pay8 v0 v1 v2) (k0_pay9 v0 v1 v2)
        (k0_pay16 v0 v1 (k0_pay10 v2) (k0_pay11 v0) (k0_pay12 v2)) (k0_pay17 v1 (k0_pay11 v0) (k0_pay12 v2))
        (k0_pay23 v0 v1 (k0_pay18 v2) (k0_pay19 v0 v2)) (k0_pay24 v1 (k0_pay19 v0 v2))
        (k0_pay25 v0 v2) (k0_pay26 v1 v2) (k0_pay27 v0 v1 v2) i = ∑ a, dmemRow x0 x1 x2 i (row a) := by
  obtain ⟨j, y, rfl⟩ : ∃ (j : Fin 256) (y : Fin 1024), i = ix2 j y := ⟨i 0, i 1, eq_ix2 i⟩
  have hx : ∀ k : ℕ, (k = 128 * 0 ∨ k = 128 * 1 ∨ k = 128 * 2 ∨ k = 128 * 3 ∨ k = 128 * 4 ∨ k = 128 * 5 ∨ k = 128 * 6 ∨ k = 128 * 7) →
      k ≤ y.val → y.val - k < 128 → k % 512 = y.val % 512 / 128 * 128 ∧ y.val % 128 = y.val - k := fun k hk h1 h2 => by omega
  have hk : y.val < 512 → ∀ f : Fin 1024 → EReal, (∀ a, f a = dscore x0 x1 x2 ⟨y.val % 512 / 128, by omega⟩ (row a) j
      * query x0 ⟨y.val % 512 / 128, by omega⟩ (row a) ⟨y.val % 128, by omega⟩) → ∑ a, f a = ∑ a, dmemRow x0 x1 x2 (ix2 j y) (row a) :=
    fun h f hf => Finset.sum_congr rfl fun a _ => (hf a).trans (if_pos h).symm
  have hv : ¬ y.val < 512 → ∀ f : Fin 1024 → EReal, (∀ a, f a = prob (score x0 x1 ⟨y.val % 512 / 128, by omega⟩ (row a)) j
      * Cert.Attention.cot x2 ⟨y.val % 512 / 128, by omega⟩ (row a) ⟨y.val % 128, by omega⟩) → ∑ a, f a = ∑ a, dmemRow x0 x1 x2 (ix2 j y) (row a) :=
    fun h f hf => Finset.sum_congr rfl fun a _ => (hf a).trans (if_neg h).symm
  pointwise [k0_pay2]
  simp only [Nat.sub_sub, Nat.reduceAdd, dkey_0, dkey_1, dkey_2, dscore_3, dvalue_0, dvalue_1, dvalue_2, prob_3]
  by_cases h0 : y.val < 128
  · rw [dif_pos h0]
    obtain ⟨e, e'⟩ := hx 0 (by omega) (by omega) (by omega)
    refine (tdkey_eq t (o := 0) (w := 512) _ _ ⟨y.val % 512 / 128, by omega⟩ e (congrArg (512 + ·) e) j ⟨y.val, by omega⟩).trans (hk (by omega) _ fun a => ?_)
    simp only [e']; rfl
  rw [dif_neg h0]
  by_cases h1 : y.val - 128 < 128
  · rw [dif_pos h1]
    obtain ⟨e, e'⟩ := hx 128 (by omega) (by omega) (by omega)
    refine (tdkey_eq t (o := 128) (w := 640) _ _ ⟨y.val % 512 / 128, by omega⟩ e (congrArg (512 + ·) e) j ⟨y.val - 128, by omega⟩).trans (hk (by omega) _ fun a => ?_)
    simp only [e']
  rw [dif_neg h1]
  by_cases h2 : y.val - 256 < 128
  · rw [dif_pos h2]
    obtain ⟨e, e'⟩ := hx 256 (by omega) (by omega) (by omega)
    refine (tdkey_eq t (o := 256) (w := 768) _ _ ⟨y.val % 512 / 128, by omega⟩ e (congrArg (512 + ·) e) j ⟨y.val - 256, by omega⟩).trans (hk (by omega) _ fun a => ?_)
    simp only [e']
  rw [dif_neg h2]
  by_cases h3 : y.val - 384 < 128
  · rw [dif_pos h3]
    obtain ⟨e, e'⟩ := hx 384 (by omega) (by omega) (by omega)
    refine (tdkey_eq t (o := 384) (w := 896) _ _ ⟨y.val % 512 / 128, by omega⟩ e (congrArg (512 + ·) e) j ⟨y.val - 384, by omega⟩).trans (hk (by omega) _ fun a => ?_)
    simp only [e']
  rw [dif_neg h3]
  by_cases h4 : y.val - 512 < 128
  · rw [dif_pos h4]
    obtain ⟨e, e'⟩ := hx 512 (by omega) (by omega) (by omega)
    refine (tdvalue_eq t (o := 0) _ ⟨y.val % 512 / 128, by omega⟩ e j ⟨y.val - 512, by omega⟩).trans (hv (by omega) _ fun a => ?_)
    simp only [e']
  rw [dif_neg h4]
  by_cases h5 : y.val - 640 < 128
  · rw [dif_pos h5]
    obtain ⟨e, e'⟩ := hx 640 (by omega) (by omega) (by omega)
    refine (tdvalue_eq t (o := 128) _ ⟨y.val % 512 / 128, by omega⟩ e j ⟨y.val - 640, by omega⟩).trans (hv (by omega) _ fun a => ?_)
    simp only [e']
  rw [dif_neg h5]
  by_cases h6 : y.val - 768 < 128
  · rw [dif_pos h6]
    obtain ⟨e, e'⟩ := hx 768 (by omega) (by omega) (by omega)
    refine (tdvalue_eq t (o := 256) _ ⟨y.val % 512 / 128, by omega⟩ e j ⟨y.val - 768, by omega⟩).trans (hv (by omega) _ fun a => ?_)
    simp only [e']
  rw [dif_neg h6]
  obtain ⟨e, e'⟩ := hx 896 (by omega) (by omega) (by omega)
  refine (tdvalue_eq t (o := 384) _ ⟨y.val % 512 / 128, by omega⟩ e j ⟨y.val - 896, by omega⟩).trans (hv (by omega) _ fun a => ?_)
  simp only [e']

end Cert.KernelIdeal.Value
end
-- ==== Proof.KernelValue.lean ====
module

public import proofs.«01_k».proof.Proof.TileRead
public import proofs.«01_k».proof.Proof.Gen.KernelIdeal.Value

/-! The kernel's two results after the whole grid, as functions of the arguments. -/

@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen
open Cert.SoftmaxGrad Cert.Attention

variable (m : (ℓ : Loc nD τ sig) → Buf (Elt Ideal) ℓ)

/-- The blocks each window addresses. -/
theorem idx : ∀ t : Fin cfg0.N, win0_0.index t = ![t.val, 13] ∧ win0_1.index t = ![t.val, 0] ∧ win0_2.index t = ![0, 0]
    ∧ win0_3.index t = ![t.val, 13] ∧ win0_4.index t = ![0, 0] :=
  (by decide +kernel : ∀ t : Fin grid0.N, _)

/-- The row of the arrays that row `a` of grid point `t`'s tile is. -/
def row (t : Fin cfg0.N) (a : Fin 1024) : Fin 4096 := ⟨t.val * 1024 + a.val, by have h : t.val < 4 := Nat.lt_of_lt_of_eq t.isLt N_0; omega⟩

/-- What grid point `t` reads is its part of the arrays. -/
theorem tileOf (c : Dev nD) (t : Fin cfg0.N) : TileOf (X0_0 m c t) (iblk m c 1 t) (iblk m c 2 t) (row t)
    (m ((c : Thread nD τ).loc main_arg0)) (m ((c : Thread nD τ).loc main_arg1)) (m ((c : Thread nD τ).loc main_arg2)) where
  proj a x := by
    unfold X0_0 Pipeline.Window.fill
    rw [dif_pos (moved0_0 t _)]
    blk_point [iblk, V, idx t]
    rfl
  cot a x := by
    blk_point [iblk, V, idx t]
    rfl
  mem := by
    funext i
    blk_point [iblk, V, idx t]

variable (c : Dev nD)

/-- The queries' columns of the first result are written, the others keep what the aliased argument held. -/
theorem final3 : (dats m 0 c).arrAt 3 cfg0.N = dproj (m ((c : Thread nD τ).loc main_arg0))
    (m ((c : Thread nD τ).loc main_arg1)) (m ((c : Thread nD τ).loc main_arg2)) (m ((c : Thread nD τ).loc main_arg3)) := by
  have hw : V m c main_v0_0 = m ((c : Thread nD τ).loc main_arg3) := by unfold V; after_results; try rfl
  have hp : (dats m 0 c).arrAt 3 cfg0.N = fun i => if 6656 ≤ ((i : S4096x7168.Idx) 1).val then dproj (m ((c : Thread nD τ).loc main_arg0))
      (m ((c : Thread nD τ).loc main_arg1)) (m ((c : Thread nD τ).loc main_arg2)) (m ((c : Thread nD τ).loc main_arg3)) i
      else V m c main_v0_0 i := by
    refine (dats m 0 c).arrAt_eq_of_coversWhere 3 _ (fun β => 13 ≤ β (1 : Fin 2)) (by decide +kernel) (fun t hf y => ?_)
      (fun j => by blk_simp [Pipeline.Window.cell_apply]; omega)
    blk_simp
    rw [after0_3]
    have hout : (outsAt0 m c t.val t.isLt).1 = k0_pay3 (F := Ideal) (iblk m c 2 t) (k0_pay7 (X0_0 m c t) (iblk m c 1 t) (iblk m c 2 t))
        (k0_pay15 (iblk m c 1 t) (iblk m c 2 t) (k0_pay10 (iblk m c 2 t)) (k0_pay11 (X0_0 m c t)) (k0_pay12 (iblk m c 2 t)))
        (k0_pay22 (iblk m c 1 t) (iblk m c 2 t) (k0_pay18 (iblk m c 2 t)) (k0_pay19 (X0_0 m c t) (iblk m c 2 t)))
        (k0_pay25 (X0_0 m c t) (iblk m c 2 t)) (k0_pay26 (iblk m c 1 t) (iblk m c 2 t))
        (k0_pay27 (X0_0 m c t) (iblk m c 1 t) (iblk m c 2 t)) := by
      have ht : t.val < 4 := Nat.lt_of_lt_of_eq t.isLt N_0
      by_cases h : 1 ≤ t.val
      · rw [outsAt0_B m c t (by omega) h]; frame_out
      · rw [outsAt0_A m c t (by omega) h]; frame_out
    rw [hout]
    obtain ⟨a, b, rfl⟩ : ∃ (a : Fin 1024) (b : Fin 512), y = ix2 a b := ⟨y 0, y 1, eq_ix2 (n0 := 1024) (n1 := 512) y⟩
    have e : (win0_3.blk t).view.emb (ix2 a b) = ix2 (row t a) (⟨6656 + b.val, by omega⟩ : Fin 7168) := by
      blk_point [idx t]
      rfl
    refine ((tile_dquery (tileOf m c t) a b).trans ?_).trans (congrArg _ e.symm)
    unfold dproj
    rw [if_neg (by simp)]
    simp only [ix2_0, ix2_1, Nat.add_sub_cancel_left]
  rw [hp, hw]
  funext i
  unfold dproj
  by_cases h : (i 1).val < 6656
  · rw [if_neg (by omega), if_pos h]
  · rw [if_pos (by omega), if_neg h]

/-- The second result is the sum over the rows. -/
theorem final4 : (dats m 0 c).arrAt 4 cfg0.N = dmem (m ((c : Thread nD τ).loc main_arg0))
    (m ((c : Thread nD τ).loc main_arg1)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0)
    (fun t i => ∑ a, dmemRow (m ((c : Thread nD τ).loc main_arg0)) (m ((c : Thread nD τ).loc main_arg1)) (m ((c : Thread nD τ).loc main_arg2)) i (row t a))
    (fun t h j => by
      have ht : t.val < 4 := Nat.lt_of_lt_of_eq t.isLt N_0
      rw [outsAt0_A m c t h (by omega)]; frame_out
      exact (tile_dmem (tileOf m c t) j).trans (zero_add _).symm)
    (fun t h j => by
      have ht : t.val < 4 := Nat.lt_of_lt_of_eq t.isLt N_0
      rw [outsAt0_B m c t h (by omega)]; frame_out
      refine Eq.trans ?_ (congrArg (_ + ·) (tile_dmem (tileOf m c t) j))
      pointwise [k0_pay4])
    (le_of_eq N_0) t0_3 rfl j, zero_add]
  exact Fin.sum_mul_add_congr (S := 4) (n := 1024) fun t a _ => rfl

end Cert.KernelIdeal.Value
end
-- ==== Proof.Precondition.lean ====
module

public import proofs.«01_k».proof.Proof.Attention
public import proofs.«01_k».proof.Proof.Gen.Pre_finite
public import Idealize.ShloMosaic.Lib.ReduceAll

/-! What the precondition says: the arguments that the gradient depends on are real numbers. -/

@[expose] public section
set_option maxRecDepth 16384
noncomputable section
namespace Cert.Pre_finite
open Idealize.ShloMosaic Cert.SoftmaxGrad Cert.Attention Cert.Pre_finite.Gen

/-- An extended real whose absolute value compares less than infinity is a real number. -/
theorem isReal_of_cmp (x : EReal) (h : Ideal.cmp CmpFPredicate.olt (max x (-x)) (Ideal.ofBits FTy.f32 0x7F800000#32) = 1#1) :
    IsReal x := by
  have ht : Ideal.ofBits FTy.f32 0x7F800000#32 = ⊤ := by simp [Ideal.ofBits, Ideal.ieee]
  rw [ht] at h
  refine IsReal.of_ne ?_ ?_ <;> rintro rfl <;> simp [Ideal.cmp] at h

theorem real_of_pre (x0 : FVec Ideal S4096x7296 .bf16) (x1 : FVec Ideal S256x1024 .f32) (x2 : FVec Ideal S4096x512 .bf16)
    (x3 : FVec Ideal S4096x7168 .bf16) (h : fn (F := Ideal) x0 x1 x2 x3 = fun _ => 1#1) : Real x0 x1 x2 := by
  have h0 := congrFun h (Shape.Idx.first h_S_)
  unfold fn at h0
  obtain ⟨h1, hc⟩ := IntOp.andi_eq_one.1 h0
  obtain ⟨ha, hb⟩ := IntOp.andi_eq_one.1 h1
  refine ⟨fun r x => ?_, fun i => ?_, fun i => ?_⟩
  · have := Host.reduce_andi_all _ _ _ _ _ ha (ix2 r x)
    have e : extractStridedSlice S4096x512 ![0, 6656] x0 slices_S4096x7296_S4096x512_0_6656 (ix2 r x) = x0 (ix2 r ⟨6656 + x.val, by omega⟩) := by
      pointwise []
    exact e ▸ isReal_of_cmp _ this
  · exact isReal_of_cmp _ (Host.reduce_andi_all _ _ _ _ _ hb i)
  · exact isReal_of_cmp _ (Host.reduce_andi_all _ _ _ _ _ hc i)

end Cert.Pre_finite
end
-- ==== Proof.NormGrad.lean ====
module

public import Idealize.ShloMosaic.Lib.Pipeline.ValueKit
public import Idealize.ShloMosaic.Lib.Pointwise

/-! The gradient of the root-mean-square norm of a row of 1024 numbers, and of the 4096 rows of an array.

The norm of a row `x` with gain `g` is `x * rsqrt (mean (x * x) + eps) * g`. -/

@[expose] public section
noncomputable section
namespace Cert.NormGrad
open Idealize.ShloMosaic

abbrev Row := Fin 1024 → EReal
abbrev Rows := (⟨2, ![4096, 1024]⟩ : Shape).Idx → EReal
abbrev Gain := (⟨2, ![1, 1024]⟩ : Shape).Idx → EReal

/-- The number of entries of a row, as a 32-bit word. -/
def width : EReal := Ideal.ofBits FTy.f32 1149239296#32
/-- The mean of the squares of a row, with the small constant added. -/
def meanSq (x : Row) : EReal := Ideal.div (∑ j, x j * x j) width + Ideal.ofBits FTy.f32 897988541#32
/-- The factor that the norm multiplies a row by. -/
def inv (x : Row) : EReal := Ideal.rsqrt (meanSq x)
/-- The cotangent of each square of the row, of which the mean is taken; `y` is the cotangent of the normed row. -/
def dsquare (x y : Row) : EReal :=
  Ideal.div ((∑ j, x j * y j) * (Ideal.ofBits FTy.f32 3204448256#32 * Ideal.div (inv x) (meanSq x))) width
/-- The gradient of the row; `y` is the cotangent of the normed row before the gain. -/
def drow (x y : Row) (j : Fin 1024) : EReal := y j * inv x + x j * dsquare x y + dsquare x y * x j

/-- Row `r` of an array. -/
def row (x : Rows) (r : Fin 4096) : Row := fun j => x (ix2 r j)
/-- A row multiplied by the gain. -/
def gained (g : Gain) (y : Row) : Row := fun j => y j * g (ix2 0 j)
/-- The normed array. -/
def norm (x : Rows) (g : Gain) : Rows := fun i => x i * inv (row x (i 0)) * g (ix2 0 (i 1))
/-- The gradient of the array whose norm has the cotangent `dh`, with `dres` added for the residual. -/
def dnorm (x : Rows) (g : Gain) (dh : Fin 4096 → Row) (dres : Rows) : Rows := fun i =>
  drow (row x (i 0)) (gained g (dh (i 0))) (i 1) + dres i
/-- What row `x` adds to the gradient of the gain. -/
def dgainRow (x y : Row) (j : Fin 1024) : EReal := x j * inv x * y j
/-- The gradient of the gain. -/
def dgain (x : Rows) (dh : Fin 4096 → Row) : Gain := fun i => ∑ r, dgainRow (row x r) (dh r) (i 1)

/-- The product of a row and a matrix. -/
def prod {n k : ℕ} (z : (⟨2, ![n, k]⟩ : Shape).Idx → EReal) (w : (⟨2, ![k, 1024]⟩ : Shape).Idx → EReal) (r : Fin n) : Row :=
  fun j => ∑ t, z (ix2 r t) * w (ix2 t j)

/-- Two products added: the second matrix's rows follow the first one's in `w`. -/
def prodTwo (z : (⟨2, ![4096, 7168]⟩ : Shape).Idx → EReal) (z' : (⟨2, ![4096, 128]⟩ : Shape).Idx → EReal)
    (w : (⟨2, ![7296, 1024]⟩ : Shape).Idx → EReal) (r : Fin 4096) : Row := fun j =>
  prod z (fun i => w (ix2 ⟨(i 0).val, (i 0).isLt.trans (by decide)⟩ (i 1))) r j
    + prod z' (fun i => w (ix2 ⟨7168 + (i 0).val, Nat.add_lt_add_left (i 0).isLt 7168⟩ (i 1))) r j

/-- The gradient of a weight: the products of the columns of `z` and `h`, summed over the rows. -/
def wgrad {k : ℕ} (z : (⟨2, ![4096, k]⟩ : Shape).Idx → EReal) (h : Rows) : (⟨2, ![k, 1024]⟩ : Shape).Idx → EReal := fun i =>
  ∑ r, z (ix2 r (i 0)) * h (ix2 r (i 1))

theorem prod_congr {n n' k : ℕ} {z : (⟨2, ![n, k]⟩ : Shape).Idx → EReal} {z' : (⟨2, ![n', k]⟩ : Shape).Idx → EReal}
    {w w' : (⟨2, ![k, 1024]⟩ : Shape).Idx → EReal} {r : Fin n} {r' : Fin n'} (hz : ∀ t, z (ix2 r t) = z' (ix2 r' t))
    (hw : ∀ t j, w (ix2 t j) = w' (ix2 t j)) : prod z w r = prod z' w' r' :=
  funext fun j => Finset.sum_congr rfl fun t _ => by rw [hz, hw]

end Cert.NormGrad
end
-- ==== Proof.Reference2Read.lean ====
module

public import proofs.«01_k».proof.Proof.NormGrad
public import proofs.«01_k».proof.Proof.Gen.Reference2Ideal.Read

/-! The gradient of a feed-forward block's norm and product: what the reference computes, read stage by stage. -/

@[expose] public section
set_option maxRecDepth 16384
noncomputable section
namespace Cert.Reference2Ideal.Value
open Idealize.ShloMosaic Idealize.ShloMosaic.TcCoe Idealize.SL.Sem
open Cert.Reference2Ideal Cert.Reference2Ideal.Gen Cert.Reference2Ideal.Read
open Cert.NormGrad

variable (x0 : FVec Ideal S4096x6144 .bf16) (x1 : FVec Ideal S6144x1024 .bf16) (x2 x3 : FVec Ideal S4096x1024 .f32)
  (x4 : FVec Ideal S1x1024 .f32)

theorem meanSq_read (r : Fin 4096) (z : Fin 1) : val_main_v8 (F := Ideal) x2 (ix2 r z) = meanSq (row x2 r) := by
  pointwise [val_main_v8, val_main_v7, val_main_cst_1, val_main_v6, val_main_v5, val_main_cst_0, val_main_v4, val_main_v3, val_main_cst,
    val_main_v2]
  rfl
theorem inv_read (r : Fin 4096) (z : Fin 1) : val_main_v9 (F := Ideal) x2 (ix2 r z) = inv (row x2 r) := by
  rw [val_main_v9_apply, meanSq_read]
  rfl
theorem prod_read (r : Fin 4096) (j : Fin 1024) : val_main_v19 (F := Ideal) x0 x1 (ix2 r j) = prod x0 x1 r j := by
  pointwise [val_main_v19, val_main_v18, val_main_v1, val_main_v0]
  rfl

theorem dgain_read : val_main_v22 (F := Ideal) x0 x1 x2 = dgain x2 (prod x0 x1) := by
  funext i
  obtain ⟨z, j, rfl⟩ : ∃ (z : Fin 1) (j : Fin 1024), i = ix2 z j := ⟨i 0, i 1, eq_ix2 i⟩
  pointwise [val_main_v22, val_main_v21, val_main_cst_3, val_main_v20, val_main_v14, val_main_v13]
  simp only [inv_read, prod_read]
  rfl

theorem dsquare_read (r : Fin 4096) (j : Fin 1024) :
    val_main_v35 (F := Ideal) x0 x1 x2 x4 (ix2 r j) = dsquare (row x2 r) (gained x4 (prod x0 x1 r)) := by
  pointwise [val_main_v35, val_main_v34, val_main_cst_6, val_main_v33, val_main_v32, val_main_cst_5, val_main_v31, val_main_v27,
    val_main_v26, val_main_cst_4, val_main_v25, val_main_v24, val_main_v23, val_main_v12, val_main_v11, val_main_cst_2, val_main_v10]
  simp only [inv_read, meanSq_read, prod_read, Finset.univ_unique, Finset.sum_singleton]
  rfl

theorem dnorm_read : val_main_v39 (F := Ideal) x0 x1 x2 x3 x4 = dnorm x2 x4 (prod x0 x1) x3 := by
  funext i
  obtain ⟨r, j, rfl⟩ : ∃ (r : Fin 4096) (j : Fin 1024), i = ix2 r j := ⟨i 0, i 1, eq_ix2 i⟩
  pointwise [val_main_v39, val_main_v38, val_main_v37, val_main_v36, val_main_v30, val_main_v29, val_main_v28, val_main_v24, val_main_v23]
  simp only [inv_read, dsquare_read, prod_read]
  unfold dnorm drow
  rw [add_comm _ (x3 _), ← add_assoc, ← add_assoc]
  rfl

end Cert.Reference2Ideal.Value
end
-- ==== Proof.Kernel2Value.lean ====
module

public import proofs.«01_k».proof.Proof.NormGrad
public import proofs.«01_k».proof.Proof.Gen.Kernel2Ideal.Value

/-! The gradient of a feed-forward block's norm and product: the kernel's two results after the whole grid. -/

@[expose] public section
set_option maxRecDepth 16384
noncomputable section
namespace Cert.Kernel2Ideal.Value
open Idealize.ShloMosaic Idealize.ShloMosaic.TcCoe Idealize.SL.Sem
open Idealize.ShloMosaic.Pipeline (Dat)
open Cert.Kernel2Ideal Cert.Kernel2Ideal.Gen
open Cert.NormGrad

/-! ## One grid point: a tile of 512 rows -/

section tile
variable (v0 : Vec Ideal S512x6144 .bf16) (v1 : Vec Ideal S6144x1024 .bf16) (v3 : Vec Ideal S512x1024 .f32)
  (v4 : Vec Ideal S1x1024 .f32) (v38 : Vec Ideal S512x1024 .f32)

theorem meanSq_tile (a : Fin 512) (z : Fin 1) : k0_pay3 (F := Ideal) v3 (ix2 a z) = meanSq fun j => v3 (ix2 a j) := by
  pointwise [k0_pay3]
  rfl
theorem inv_tile (a : Fin 512) (z : Fin 1) : k0_pay4 (F := Ideal) v3 (ix2 a z) = inv fun j => v3 (ix2 a j) := by
  pointwise [k0_pay4]
  rw [meanSq_tile]
  rfl
theorem prod_tile (a : Fin 512) (j : Fin 1024) : k0_pay2 (F := Ideal) v0 v1 (ix2 a j) = prod v0 v1 a j := by
  pointwise [k0_pay2]
  rfl
theorem dx_tile (a : Fin 512) (j : Fin 1024) : k0_pay6 (F := Ideal) v0 v1 v3 v4 v38 (ix2 a j)
    = drow (fun j => v3 (ix2 a j)) (gained v4 (prod v0 v1 a)) j + v38 (ix2 a j) := by
  pointwise [k0_pay6]
  simp only [meanSq_tile, inv_tile, prod_tile, Finset.univ_unique, Finset.sum_singleton]
  rfl
theorem dg_tile (z : Fin 1) (j : Fin 1024) : k0_pay5 (F := Ideal) v0 v1 v3 (ix2 z j)
    = ∑ a, dgainRow (fun j => v3 (ix2 a j)) (prod v0 v1 a) j := by
  pointwise [k0_pay5]
  simp only [inv_tile, prod_tile]
  rfl
end tile

/-! ## The whole grid -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

/-- The cotangent of the norm. -/
def dh : Fin 4096 → Row := prod (m ((c : Thread nD τ).loc main_arg0)) (m ((c : Thread nD τ).loc main_arg1))

theorem prod_blk (t : Fin cfg0.N) (a : Fin 512) : prod (iblk m c 0 t) (iblk m c 1 t) a = dh m c (rowOf t a) := by
  refine prod_congr (fun k => ?_) (fun k j => ?_)
  · blk_point [iblk, V, idx t]
    rfl
  · blk_point [iblk, V, idx t]
theorem x_blk (t : Fin cfg0.N) (a : Fin 512) :
    (fun j => (iblk m c 2 t : Vec Ideal S512x1024 .f32) (ix2 a j)) = row (m ((c : Thread nD τ).loc main_arg2)) (rowOf t a) := by
  funext j
  blk_point [iblk, V, idx t]
  rfl
theorem res_blk (t : Fin cfg0.N) (a : Fin 512) (j : Fin 1024) :
    (iblk m c 3 t : Vec Ideal S512x1024 .f32) (ix2 a j) = m ((c : Thread nD τ).loc main_arg3) (ix2 (rowOf t a) j) := by
  blk_point [iblk, V, idx t]
  rfl
theorem g_blk (t : Fin cfg0.N) : (iblk m c 4 t : Vec Ideal S1x1024 .f32) = m ((c : Thread nD τ).loc main_arg4) := by
  funext i
  blk_point [iblk, V, idx t]

theorem final5 : (dats m 0 c).arrAt 5 cfg0.N = dnorm (m ((c : Thread nD τ).loc main_arg2)) (m ((c : Thread nD τ).loc main_arg4))
    (dh m c) (m ((c : Thread nD τ).loc main_arg3)) := by
  refine (dats m 0 c).arrAt_eq_of_covers 5 _ (by decide +kernel) fun t hf y => ?_
  blk_simp
  rw [after0_5]
  have hout : (outsAt0 m c t.val t.isLt).1
      = k0_pay6 (F := Ideal) (iblk m c 0 t) (iblk m c 1 t) (iblk m c 2 t) (iblk m c 4 t) (iblk m c 3 t) := by
    have ht : t.val < 8 := Nat.lt_of_lt_of_eq t.isLt N_0
    by_cases h : 1 ≤ t.val
    · rw [outsAt0_B m c t (by omega) h]; frame_out
    · rw [outsAt0_A m c t (by omega) h]; frame_out
  rw [hout]
  obtain ⟨a, j, rfl⟩ : ∃ (a : Fin 512) (j : Fin 1024), y = ix2 a j := ⟨y 0, y 1, eq_ix2 (n0 := 512) (n1 := 1024) y⟩
  have e : (win0_5.blk t).view.emb (ix2 a j) = ix2 (rowOf t a) j := by
    blk_point [idx t]
    rfl
  refine Eq.trans ?_ (congrArg _ e.symm)
  rw [dx_tile, prod_blk, x_blk, res_blk, g_blk]
  rfl

theorem final6 : (dats m 0 c).arrAt 6 cfg0.N = dgain (m ((c : Thread nD τ).loc main_arg2)) (dh m c) := by
  have hg : ∀ (t : Fin cfg0.N) (i : S1x1024.Idx), k0_pay5 (F := Ideal) (iblk m c 0 t) (iblk m c 1 t) (iblk m c 2 t) i
      = ∑ a, dgainRow (row (m ((c : Thread nD τ).loc main_arg2)) (rowOf t a)) (dh m c (rowOf t a)) (i 1) := fun t i => by
    obtain ⟨z, j, rfl⟩ : ∃ (z : Fin 1) (j : Fin 1024), i = ix2 z j := ⟨i 0, i 1, eq_ix2 i⟩
    rw [dg_tile]
    simp only [prod_blk, x_blk]
    rfl
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t i => ∑ a, dgainRow (row (m ((c : Thread nD τ).loc main_arg2)) (rowOf t a)) (dh m c (rowOf t a)) ((i : S1x1024.Idx) 1))
    (fun t h j => by
      have ht : t.val < 8 := Nat.lt_of_lt_of_eq t.isLt N_0
      rw [outsAt0_A m c t h (by omega)]; frame_out
      exact (hg t j).trans (zero_add _).symm)
    (fun t h j => by
      have ht : t.val < 8 := Nat.lt_of_lt_of_eq t.isLt N_0
      rw [outsAt0_B m c t h (by omega)]; frame_out
      refine Eq.trans ?_ (congrArg (_ + ·) (hg t j))
      pointwise [k0_pay1])
    (le_of_eq N_0) t0_7 rfl j, zero_add]
  exact Fin.sum_mul_add_congr (S := 8) (n := 512) fun t a _ => rfl

end Cert.Kernel2Ideal.Value
end
-- ==== Proof.Reference3Read.lean ====
module

public import proofs.«01_k».proof.Proof.NormGrad
public import proofs.«01_k».proof.Proof.Gen.Reference3Ideal.Read

/-! The gradient of the token mixing's norm and product: what the reference computes, read stage by stage. -/

@[expose] public section
set_option maxRecDepth 16384
noncomputable section
namespace Cert.Reference3Ideal.Value
open Idealize.ShloMosaic Idealize.ShloMosaic.TcCoe Idealize.SL.Sem
open Cert.Reference3Ideal Cert.Reference3Ideal.Gen Cert.Reference3Ideal.Read
open Cert.NormGrad

variable (x0 : FVec Ideal S4096x7168 .bf16) (x1 : FVec Ideal S4096x128 .bf16) (x2 : FVec Ideal S7296x1024 .bf16)
  (x3 x4 : FVec Ideal S4096x1024 .f32) (x5 : FVec Ideal S1x1024 .f32)

theorem meanSq_read (r : Fin 4096) (z : Fin 1) : val_main_v10 (F := Ideal) x3 (ix2 r z) = meanSq (row x3 r) := by
  pointwise [val_main_v10, val_main_v9, val_main_cst_1, val_main_v8, val_main_v7, val_main_cst_0, val_main_v6, val_main_v5, val_main_cst,
    val_main_v4]
  rfl
theorem inv_read (r : Fin 4096) (z : Fin 1) : val_main_v11 (F := Ideal) x3 (ix2 r z) = inv (row x3 r) := by
  rw [val_main_v11_apply, meanSq_read]
  rfl
/-- The two cotangents side by side are multiplied by the whole weight: the sum of the two products. -/
theorem prod_read (r : Fin 4096) (j : Fin 1024) : val_main_v23 (F := Ideal) x0 x1 x2 (ix2 r j) = prodTwo x0 x1 x2 r j := by
  pointwise [val_main_v23, val_main_v22, val_main_v3, val_main_v2, val_main_v1, val_main_v0]
  rfl

theorem dgain_read : val_main_v26 (F := Ideal) x0 x1 x2 x3 = dgain x3 (prodTwo x0 x1 x2) := by
  funext i
  obtain ⟨z, j, rfl⟩ : ∃ (z : Fin 1) (j : Fin 1024), i = ix2 z j := ⟨i 0, i 1, eq_ix2 i⟩
  pointwise [val_main_v26, val_main_v25, val_main_cst_3, val_main_v24, val_main_v16, val_main_v15]
  simp only [inv_read, prod_read]
  rfl

theorem dsquare_read (r : Fin 4096) (j : Fin 1024) :
    val_main_v39 (F := Ideal) x0 x1 x2 x3 x5 (ix2 r j) = dsquare (row x3 r) (gained x5 (prodTwo x0 x1 x2 r)) := by
  pointwise [val_main_v39, val_main_v38, val_main_cst_6, val_main_v37, val_main_v36, val_main_cst_5, val_main_v35, val_main_v31,
    val_main_v30, val_main_cst_4, val_main_v29, val_main_v28, val_main_v27, val_main_v14, val_main_v13, val_main_cst_2, val_main_v12]
  simp only [inv_read, meanSq_read, prod_read, Finset.univ_unique, Finset.sum_singleton]
  rfl

theorem dnorm_read : val_main_v43 (F := Ideal) x0 x1 x2 x3 x4 x5 = dnorm x3 x5 (prodTwo x0 x1 x2) x4 := by
  funext i
  obtain ⟨r, j, rfl⟩ : ∃ (r : Fin 4096) (j : Fin 1024), i = ix2 r j := ⟨i 0, i 1, eq_ix2 i⟩
  pointwise [val_main_v43, val_main_v42, val_main_v41, val_main_v40, val_main_v34, val_main_v33, val_main_v32, val_main_v28, val_main_v27]
  simp only [inv_read, dsquare_read, prod_read]
  unfold dnorm drow
  rw [add_comm _ (x4 _), ← add_assoc, ← add_assoc]
  rfl

end Cert.Reference3Ideal.Value
end
-- ==== Proof.Kernel3Value.lean ====
module

public import proofs.«01_k».proof.Proof.NormGrad
public import proofs.«01_k».proof.Proof.Gen.Kernel3Ideal.Value

/-! The gradient of the token mixing's norm and product: the kernel's two results after the whole grid. -/

@[expose] public section
set_option maxRecDepth 16384
noncomputable section
namespace Cert.Kernel3Ideal.Value
open Idealize.ShloMosaic Idealize.ShloMosaic.TcCoe Idealize.SL.Sem
open Idealize.ShloMosaic.Pipeline (Dat)
open Cert.Kernel3Ideal Cert.Kernel3Ideal.Gen
open Cert.NormGrad

/-! ## One grid point: a tile of 512 rows -/

section tile
variable (v0 : Vec Ideal S512x7168 .bf16) (v1 : Vec Ideal S7168x1024 .bf16) (v3 : Vec Ideal S512x128 .bf16)
  (v4 : Vec Ideal S128x1024 .bf16) (v7 : Vec Ideal S512x1024 .f32) (v8 : Vec Ideal S1x1024 .f32) (v42 : Vec Ideal S512x1024 .f32)

/-- The tile's cotangent of the norm. -/
def tdh (a : Fin 512) : Row := fun j => prod v0 v1 a j + prod v3 v4 a j

theorem meanSq_tile (a : Fin 512) (z : Fin 1) : k0_pay4 (F := Ideal) v7 (ix2 a z) = meanSq fun j => v7 (ix2 a j) := by
  pointwise [k0_pay4]
  rfl
theorem inv_tile (a : Fin 512) (z : Fin 1) : k0_pay5 (F := Ideal) v7 (ix2 a z) = inv fun j => v7 (ix2 a j) := by
  pointwise [k0_pay5]
  rw [meanSq_tile]
  rfl
theorem tdh_tile (a : Fin 512) (j : Fin 1024) : k0_pay3 (F := Ideal) v0 v1 v3 v4 (ix2 a j) = tdh v0 v1 v3 v4 a j := by
  pointwise [k0_pay3]
  rfl
theorem dx_tile (a : Fin 512) (j : Fin 1024) :
    k0_pay1 (F := Ideal) v7 (k0_pay8 v0 v1 v3 v4 v7 v8) (k0_pay9 v0 v1 v3 v4 v7 v8) v42 (ix2 a j)
      = drow (fun j => v7 (ix2 a j)) (gained v8 (tdh v0 v1 v3 v4 a)) j + v42 (ix2 a j) := by
  pointwise [k0_pay1, k0_pay9, k0_pay8, k0_pay7]
  simp only [meanSq_tile, inv_tile, tdh_tile, Finset.univ_unique, Finset.sum_singleton]
  rfl
theorem dg_tile (z : Fin 1) (j : Fin 1024) : k0_pay6 (F := Ideal) v0 v1 v3 v4 v7 (ix2 z j)
    = ∑ a, dgainRow (fun j => v7 (ix2 a j)) (tdh v0 v1 v3 v4 a) j := by
  pointwise [k0_pay6]
  simp only [inv_tile, tdh_tile]
  rfl
end tile

/-! ## The whole grid -/

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![t.val, 0] ∧ win0_7.index t = ![0, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

/-- The cotangent of the norm. -/
def dh : Fin 4096 → Row := prodTwo (m ((c : Thread nD τ).loc main_arg0)) (m ((c : Thread nD τ).loc main_arg1)) (m ((c : Thread nD τ).loc main_arg2))

/-- The rows of the weight that grid point `t` loads for the first product. -/
abbrev w0 (t : Fin cfg0.N) : Vec Ideal S7168x1024 .bf16 :=
  View.ld (iblk m c 2 t) (Rect.unit ![0, 0] ![7168, 1024] inb_S7296x1024_S7168x1024_0_0)
/-- The rows of the weight that grid point `t` loads for the second product. -/
abbrev w1 (t : Fin cfg0.N) : Vec Ideal S128x1024 .bf16 :=
  View.ld (iblk m c 2 t) (Rect.unit ![7168, 0] ![128, 1024] inb_S7296x1024_S128x1024_7168_0)

theorem dh_blk (t : Fin cfg0.N) (a : Fin 512) :
    tdh (iblk m c 0 t) (w0 m c t) (iblk m c 1 t) (w1 m c t) a = dh m c (rowOf t a) := by
  refine funext fun j => congrArg₂ (fun p q : EReal => p + q) (congrFun (prod_congr (fun k => ?_) (fun k j => ?_)) j)
    (congrFun (prod_congr (fun k => ?_) (fun k j => ?_)) j)
  · blk_point [iblk, V, idx t]
    rfl
  · pointwise [w0]
    blk_point [iblk, V, idx t]
  · blk_point [iblk, V, idx t]
    rfl
  · pointwise [w1]
    blk_point [iblk, V, idx t]
theorem x_blk (t : Fin cfg0.N) (a : Fin 512) :
    (fun j => (iblk m c 3 t : Vec Ideal S512x1024 .f32) (ix2 a j)) = row (m ((c : Thread nD τ).loc main_arg3)) (rowOf t a) := by
  funext j
  blk_point [iblk, V, idx t]
  rfl
theorem res_blk (t : Fin cfg0.N) (a : Fin 512) (j : Fin 1024) :
    (iblk m c 4 t : Vec Ideal S512x1024 .f32) (ix2 a j) = m ((c : Thread nD τ).loc main_arg4) (ix2 (rowOf t a) j) := by
  blk_point [iblk, V, idx t]
  rfl
theorem g_blk (t : Fin cfg0.N) : (iblk m c 5 t : Vec Ideal S1x1024 .f32) = m ((c : Thread nD τ).loc main_arg5) := by
  funext i
  blk_point [iblk, V, idx t]

theorem final6 : (dats m 0 c).arrAt 6 cfg0.N = dnorm (m ((c : Thread nD τ).loc main_arg3)) (m ((c : Thread nD τ).loc main_arg5))
    (dh m c) (m ((c : Thread nD τ).loc main_arg4)) := by
  refine (dats m 0 c).arrAt_eq_of_covers 6 _ (by decide +kernel) fun t hf y => ?_
  blk_simp
  rw [after0_6]
  have hout : (outsAt0 m c t.val t.isLt).1 = k0_pay1 (F := Ideal) (iblk m c 3 t)
      (k0_pay8 (iblk m c 0 t) (w0 m c t) (iblk m c 1 t) (w1 m c t) (iblk m c 3 t) (iblk m c 5 t))
      (k0_pay9 (iblk m c 0 t) (w0 m c t) (iblk m c 1 t) (w1 m c t) (iblk m c 3 t) (iblk m c 5 t)) (iblk m c 4 t) := by
    have ht : t.val < 8 := Nat.lt_of_lt_of_eq t.isLt N_0
    by_cases h : 1 ≤ t.val
    · rw [outsAt0_B m c t (by omega) h]; frame_out; rfl
    · rw [outsAt0_A m c t (by omega) h]; frame_out; rfl
  rw [hout]
  obtain ⟨a, j, rfl⟩ : ∃ (a : Fin 512) (j : Fin 1024), y = ix2 a j := ⟨y 0, y 1, eq_ix2 (n0 := 512) (n1 := 1024) y⟩
  have e : (win0_6.blk t).view.emb (ix2 a j) = ix2 (rowOf t a) j := by
    blk_point [idx t]
    rfl
  refine Eq.trans ?_ (congrArg _ e.symm)
  rw [dx_tile, dh_blk, x_blk, res_blk, g_blk]
  rfl

theorem final7 : (dats m 0 c).arrAt 7 cfg0.N = dgain (m ((c : Thread nD τ).loc main_arg3)) (dh m c) := by
  have hg : ∀ (t : Fin cfg0.N) (i : S1x1024.Idx), k0_pay6 (F := Ideal) (iblk m c 0 t) (w0 m c t) (iblk m c 1 t) (w1 m c t) (iblk m c 3 t) i
      = ∑ a, dgainRow (row (m ((c : Thread nD τ).loc main_arg3)) (rowOf t a)) (dh m c (rowOf t a)) (i 1) := fun t i => by
    obtain ⟨z, j, rfl⟩ : ∃ (z : Fin 1) (j : Fin 1024), i = ix2 z j := ⟨i 0, i 1, eq_ix2 i⟩
    rw [dg_tile]
    simp only [dh_blk, x_blk]
    rfl
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0)
    (fun t i => ∑ a, dgainRow (row (m ((c : Thread nD τ).loc main_arg3)) (rowOf t a)) (dh m c (rowOf t a)) ((i : S1x1024.Idx) 1))
    (fun t h j => by
      have ht : t.val < 8 := Nat.lt_of_lt_of_eq t.isLt N_0
      rw [outsAt0_A m c t h (by omega)]; frame_out
      exact (hg t j).trans (zero_add _).symm)
    (fun t h j => by
      have ht : t.val < 8 := Nat.lt_of_lt_of_eq t.isLt N_0
      rw [outsAt0_B m c t h (by omega)]; frame_out
      refine Eq.trans ?_ (congrArg (_ + ·) (hg t j))
      pointwise [k0_pay2]
      rfl)
    (le_of_eq N_0) t0_7 rfl j, zero_add]
  exact Fin.sum_mul_add_congr (S := 8) (n := 512) fun t a _ => rfl

end Cert.Kernel3Ideal.Value
end
-- ==== Proof.Reference4Read.lean ====
module

public import proofs.«01_k».proof.Proof.NormGrad
public import proofs.«01_k».proof.Proof.Gen.Reference4Ideal.Read

/-! The gradient of a feed-forward block's first weight: what the reference computes. -/

@[expose] public section
set_option maxRecDepth 16384
noncomputable section
namespace Cert.Reference4Ideal.Value
open Idealize.ShloMosaic Idealize.ShloMosaic.TcCoe Idealize.SL.Sem
open Cert.Reference4Ideal Cert.Reference4Ideal.Gen Cert.Reference4Ideal.Read
open Cert.NormGrad

variable (x0 : FVec Ideal S4096x6144 .bf16) (x1 : FVec Ideal S4096x1024 .f32) (x2 : FVec Ideal S1x1024 .f32)

theorem norm_read (r : Fin 4096) (j : Fin 1024) : val_main_v12 (F := Ideal) x1 x2 (ix2 r j) = norm x1 x2 (ix2 r j) := by
  pointwise [val_main_v12, val_main_v11, val_main_v10, val_main_v9, val_main_v8, val_main_v7, val_main_v6, val_main_cst_2, val_main_v5,
    val_main_v4, val_main_cst_1, val_main_v3, val_main_v2, val_main_cst_0, val_main_v1]
  rfl

theorem wgrad_read : val_main_v19 (F := Ideal) x0 x1 x2 = wgrad x0 (norm x1 x2) := by
  funext i
  obtain ⟨a, j, rfl⟩ : ∃ (a : Fin 6144) (j : Fin 1024), i = ix2 a j := ⟨i 0, i 1, eq_ix2 i⟩
  pointwise [val_main_v19, val_main_v18, val_main_v17, val_main_v16, val_main_v15]
  simp only [norm_read]
  rfl

end Cert.Reference4Ideal.Value
end
-- ==== Proof.Kernel4Value.lean ====
module

public import proofs.«01_k».proof.Proof.NormGrad
public import proofs.«01_k».proof.Proof.Gen.Kernel4Ideal.Value

/-! The gradient of a feed-forward block's first weight: the kernel's result after the whole grid. -/

@[expose] public section
set_option maxRecDepth 16384
noncomputable section
namespace Cert.Kernel4Ideal.Value
open Idealize.ShloMosaic Idealize.ShloMosaic.TcCoe Idealize.SL.Sem
open Cert.Kernel4Ideal Cert.Kernel4Ideal.Gen
open Idealize.ShloMosaic.Pipeline (Dat)
open Cert.NormGrad

variable (m : (ℓ : Loc nD τ sig) → Buf (Elt Ideal) ℓ)

/-- One grid point: the weight's gradient for 768 of its rows. -/
theorem tile (v0 : Vec Ideal S4096x768 .bf16) (v1 : Vec Ideal S4096x1024 .bf16) (a : Fin 768) (j : Fin 1024) :
    k0_pay1 (F := Ideal) v0 v1 (ix2 a j) = ∑ r, v0 (ix2 r a) * v1 (ix2 r j) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- The row of the weight that row `a` of grid point `t`'s tile is. -/
def rowOf (t : Fin cfg0.N) (a : Fin 768) : Fin 6144 :=
  ⟨t.val * 768 + a.val, by have h : t.val < 8 := Nat.lt_of_lt_of_eq t.isLt N_0; omega⟩

variable (c : Dev nD)

/-- What the lines before the call leave: the normed array. -/
theorem saved : V m c main_v12 = norm (m ((c : Thread nD τ).loc main_arg1)) (m ((c : Thread nD τ).loc main_arg2)) := by
  unfold V
  after_results
  funext i
  obtain ⟨r, j, rfl⟩ : ∃ (r : Fin 4096) (j : Fin 1024), i = ix2 r j := ⟨i 0, i 1, eq_ix2 i⟩
  pointwise []
  rfl

theorem z_blk (t : Fin cfg0.N) (r : Fin 4096) (a : Fin 768) :
    (iblk m c 0 t : Vec Ideal S4096x768 .bf16) (ix2 r a) = m ((c : Thread nD τ).loc main_arg0) (ix2 r (rowOf t a)) := by
  blk_point [iblk, V, idx t]
  rfl
theorem h_blk (t : Fin cfg0.N) : (iblk m c 1 t : Vec Ideal S4096x1024 .bf16)
    = norm (m ((c : Thread nD τ).loc main_arg1)) (m ((c : Thread nD τ).loc main_arg2)) := by
  rw [← saved m c]
  funext i
  blk_point [iblk, idx t]

theorem final2 : (dats m 0 c).arrAt 2 cfg0.N = wgrad (m ((c : Thread nD τ).loc main_arg0))
    (norm (m ((c : Thread nD τ).loc main_arg1)) (m ((c : Thread nD τ).loc main_arg2))) := by
  refine (dats m 0 c).arrAt_eq_of_covers 2 _ (by decide +kernel) fun t hf y => ?_
  blk_simp
  rw [after0_2]
  frame_out
  obtain ⟨a, j, rfl⟩ : ∃ (a : Fin 768) (j : Fin 1024), y = ix2 a j := ⟨y 0, y 1, eq_ix2 (n0 := 768) (n1 := 1024) y⟩
  have e : (win0_2.blk t).view.emb (ix2 a j) = ix2 (rowOf t a) j := by
    blk_point [idx t]
    rfl
  refine Eq.trans ?_ (congrArg _ e.symm)
  rw [tile, h_blk]
  simp only [z_blk]
  rfl

end Cert.Kernel4Ideal.Value
end
-- ==== Proof.GateGrad.lean ====
module

public import proofs.«01_k».proof.Proof.NormGrad

/-! The gated activation of a feed-forward block.

The 6144 columns of a row of `u` come in four groups of 1536. The first 768 columns of a group are gates and the last 768
are values: an activation is `silu gate * value`. -/

@[expose] public section
noncomputable section
namespace Cert.GateGrad
open Idealize.ShloMosaic

abbrev Pre := (⟨2, ![4096, 6144]⟩ : Shape).Idx → EReal
abbrev Acts := (⟨2, ![4096, 3072]⟩ : Shape).Idx → EReal

/-- The column of the gate of activation `k`. -/
def gateCol (k : Fin 3072) : Fin 6144 := ⟨k.val / 768 * 1536 + k.val % 768, by omega⟩
/-- The column of the value of activation `k`. -/
def valueCol (k : Fin 3072) : Fin 6144 := ⟨k.val / 768 * 1536 + 768 + k.val % 768, by omega⟩

/-- The logistic function. -/
def logistic (a : EReal) : EReal := Ideal.div 1 (1 + Ideal.exp (-a))

/-- The activations. -/
def act (u : Pre) : Acts := fun i => u (ix2 (i 0) (gateCol (i 1))) * logistic (u (ix2 (i 0) (gateCol (i 1)))) * u (ix2 (i 0) (valueCol (i 1)))

/-! ## The gradient -/

/-- One half, as a 32-bit word. -/
def half : EReal := Ideal.ofBits FTy.f32 1056964608#32
/-- The logistic function by the hyperbolic tangent. -/
def tanhSig (a : EReal) : EReal := half * Ideal.tanh (half * a) + half
/-- The gradient of a gate `a` whose value is `b`; `d` is the cotangent of the activation and `s` the logistic function of `a`. -/
def dgateFactored (s d a b : EReal) : EReal := d * b * (s * (1 + a * (1 - s)))
/-- The same gradient, term by term. -/
def dgateSummed (s d a b : EReal) : EReal := d * b * s + a * (d * b) * (s * (1 - s))

/-- The output of a block before its norm: the activations times the weight. -/
def ffn (u : Pre) (w : (⟨2, ![3072, 1024]⟩ : Shape).Idx → EReal) : NormGrad.Rows := fun i => NormGrad.prod (act u) w (i 0) (i 1)
/-- The cotangent of the normed row `r`: the block is added with weight one half. -/
def dhalf (dout : NormGrad.Rows) (r : Fin 4096) : NormGrad.Row := fun j => half * dout (ix2 r j)
/-- The gradient of row `r` of the output before its norm. -/
def dffn (f : NormGrad.Rows) (g : NormGrad.Gain) (dout : NormGrad.Rows) (r : Fin 4096) : NormGrad.Row :=
  NormGrad.drow (NormGrad.row f r) (NormGrad.gained g (dhalf dout r))
/-- The cotangent of the activations of a row, from the gradient `df` of its output. -/
def dact (w : (⟨2, ![3072, 1024]⟩ : Shape).Idx → EReal) (df : NormGrad.Row) (k : Fin 3072) : EReal := ∑ j, df j * w (ix2 k j)

/-- The activation that column `c` is the gate or the value of. -/
def actOf (c : Fin 6144) : Fin 3072 := ⟨c.val / 1536 * 768 + c.val % 768, by omega⟩
/-- The gradient of a row of `u`. The logistic function and the gradient of a gate are given; `d` are the cotangents of the
activations. -/
def dpre (sgm : EReal → EReal) (dgate : EReal → EReal → EReal → EReal → EReal) (d : Fin 3072 → EReal) (u : Fin 6144 → EReal)
    (c : Fin 6144) : EReal :=
  let a := u (gateCol (actOf c))
  if c.val % 1536 < 768 then dgate (sgm a) (d (actOf c)) a (u (valueCol (actOf c))) else d (actOf c) * (a * sgm a)

/-- The gradient of the output before its norm, as an array. -/
def dffnArr (f : NormGrad.Rows) (g : NormGrad.Gain) (dout : NormGrad.Rows) : NormGrad.Rows := fun i => dffn f g dout (i 0) (i 1)
/-- The gradient of `u`, as an array. -/
def dpreArr (sgm : EReal → EReal) (dgate : EReal → EReal → EReal → EReal → EReal) (w : (⟨2, ![3072, 1024]⟩ : Shape).Idx → EReal)
    (f : NormGrad.Rows) (g : NormGrad.Gain) (dout : NormGrad.Rows) (u : Pre) : Pre := fun i =>
  dpre sgm dgate (dact w (dffn f g dout (i 0))) (fun c => u (ix2 (i 0) c)) (i 1)

section columns
variable (sgm : EReal → EReal) (dgate : EReal → EReal → EReal → EReal → EReal) (d : Fin 3072 → EReal) (u : Fin 6144 → EReal)
  {c : Fin 6144} {k : Fin 3072}

theorem dpre_gate (h : c.val = k.val / 768 * 1536 + k.val % 768) :
    dpre sgm dgate d u c = dgate (sgm (u (gateCol k))) (d k) (u (gateCol k)) (u (valueCol k)) := by
  have e : actOf c = k := Fin.ext (by show c.val / 1536 * 768 + c.val % 768 = k.val; omega)
  have hc : c.val % 1536 < 768 := by omega
  simp only [dpre, e, if_pos hc]
theorem dpre_value (h : c.val = k.val / 768 * 1536 + 768 + k.val % 768) :
    dpre sgm dgate d u c = d k * (u (gateCol k) * sgm (u (gateCol k))) := by
  have e : actOf c = k := Fin.ext (by show c.val / 1536 * 768 + c.val % 768 = k.val; omega)
  have hc : ¬c.val % 1536 < 768 := by omega
  simp only [dpre, e, if_neg hc]
/-- Two arrays, one nonzero on the columns of the values and the other on those of the gates, added. -/
theorem dpre_of_parts {P Q : Prop} {_ : Decidable P} {_ : Decidable Q} {X : P → EReal} {Y : Q → EReal}
    (hP : P ↔ ¬c.val % 1536 < 768) (hQ : Q ↔ c.val % 1536 < 768) (hk : k.val = c.val / 1536 * 768 + c.val % 768)
    {ga va : Fin 6144} (hg : gateCol k = ga) (hv : valueCol k = va) (hX : ∀ h, X h = d k * (u ga * sgm (u ga)))
    (hY : ∀ h, Y h = dgate (sgm (u ga)) (d k) (u ga) (u va)) :
    (if h : P then X h else 0) + (if h : Q then Y h else 0) = dpre sgm dgate d u c := by
  subst hg hv
  by_cases h : c.val % 1536 < 768
  · rw [dif_neg (fun hp => hP.1 hp h), dif_pos (hQ.2 h), zero_add, hY, dpre_gate sgm dgate d u (k := k) (by omega)]
  · rw [dif_pos (hP.2 h), dif_neg (fun hq => h (hQ.1 hq)), add_zero, hX, dpre_value sgm dgate d u (k := k) (by omega)]
end columns

/-! ## The two forms agree on real numbers -/

theorem half_eq : half = ((1 / 2 : ℝ) : EReal) := by
  unfold half
  simp [Ideal.ofBits, Ideal.ieee]
  rw [← EReal.coe_mul]
  congr 1
  norm_num

theorem logistic_coe (a : ℝ) : logistic (a : EReal) = ((1 / (1 + Real.exp (-a)) : ℝ) : EReal) := by
  unfold logistic
  have h : (1 : ℝ) + Real.exp (-a) ≠ 0 := by positivity
  rw [← EReal.coe_neg, Ideal.exp_coe, ← EReal.coe_one, ← EReal.coe_add, Ideal.div_coe h, ← EReal.coe_mul, one_mul]

theorem tanhSig_coe (a : ℝ) : tanhSig (a : EReal) = ((1 / (1 + Real.exp (-a)) : ℝ) : EReal) := by
  unfold tanhSig
  rw [half_eq, ← EReal.coe_mul, Ideal.tanh_coe, ← EReal.coe_mul, ← EReal.coe_add]
  congr 1
  have h : Real.exp (-a) = Real.exp (-(a / 2)) * Real.exp (-(a / 2)) := by rw [← Real.exp_add]; congr 1; ring
  have h1 : Real.exp (a / 2) * Real.exp (-(a / 2)) = 1 := by rw [← Real.exp_add]; simp
  have hp : 0 < Real.exp (a / 2) := Real.exp_pos _
  have hq : 0 < Real.exp (-(a / 2)) := Real.exp_pos _
  rw [show (1 / 2 : ℝ) * a = a / 2 by ring, Real.tanh_eq_sinh_div_cosh, Real.sinh_eq, Real.cosh_eq, h]
  generalize Real.exp (a / 2) = p at *
  generalize Real.exp (-(a / 2)) = q at *
  have hs : (1 : ℝ) + q * q = q * (p + q) := by linarith [mul_comm p q]
  rw [hs]
  field_simp
  linear_combination 2 * h1

theorem dgate_eq (s d a b : ℝ) : dgateFactored s d a b = dgateSummed s d a b := by
  unfold dgateFactored dgateSummed
  have h : ((1 : EReal)) = ((1 : ℝ) : EReal) := rfl
  rw [h]
  simp only [← EReal.coe_mul, ← EReal.coe_add, ← EReal.coe_sub]
  congr 1
  ring

end Cert.GateGrad
end
-- ==== Proof.Reference5Read.lean ====
module

public import proofs.«01_k».proof.Proof.GateGrad
public import proofs.«01_k».proof.Proof.Gen.Reference5Ideal.Read

/-! The gradient of a feed-forward block's last norm, second product and gate: the reference, read at an index. -/

@[expose] public section
set_option maxRecDepth 16384
noncomputable section
namespace Cert.Reference5Ideal.Value
open Idealize.ShloMosaic Idealize.ShloMosaic.TcCoe Idealize.SL.Sem
open Cert.Reference5Ideal Cert.Reference5Ideal.Gen Cert.Reference5Ideal.Read
open Cert.NormGrad Cert.GateGrad

variable (x0 : FVec Ideal S4096x1024 .f32) (x1 : FVec Ideal S1x1024 .f32) (x2 : FVec Ideal S3072x1024 .bf16)
  (x3 : FVec Ideal S4096x6144 .bf16)

theorem gate_read (r : Fin 4096) (j : Fin 4) (k : Fin 768) :
    val_main_v4 (F := Ideal) x3 (ix3 r j k) = x3 (ix2 r ⟨j.val * 1536 + k.val, by omega⟩) := by
  pointwise [val_main_v4, val_main_v3, val_main_v2, val_main_v1]
theorem value_read (r : Fin 4096) (j : Fin 4) (k : Fin 768) :
    val_main_v7 (F := Ideal) x3 (ix3 r j k) = x3 (ix2 r ⟨j.val * 1536 + 768 + k.val, by omega⟩) := by
  pointwise [val_main_v7, val_main_v6, val_main_v2, val_main_v1]
theorem logistic_read (r : Fin 4096) (j : Fin 4) (k : Fin 768) :
    val_main_v5_2 (F := Ideal) x3 (ix3 r j k) = logistic (x3 (ix2 r ⟨j.val * 1536 + k.val, by omega⟩)) := by
  pointwise [val_main_v5_2, val_main_call0_v4, val_main_call0_cst_0, val_main_call0_v3, val_main_call0_v2, val_main_call0_cst,
    val_main_call0_v1, val_main_call0_v0]
  simp only [gate_read]
  rfl
theorem slope_read (r : Fin 4096) (j : Fin 4) (k : Fin 768) :
    val_main_v5_1 (F := Ideal) x3 (ix3 r j k)
      = logistic (x3 (ix2 r ⟨j.val * 1536 + k.val, by omega⟩)) * (1 - logistic (x3 (ix2 r ⟨j.val * 1536 + k.val, by omega⟩))) := by
  pointwise [val_main_v5_1, val_main_call0_v7, val_main_call0_v6, val_main_call0_cst_1]
  simp only [logistic_read]
theorem silu_read (r : Fin 4096) (j : Fin 4) (k : Fin 768) : val_main_v5_0 (F := Ideal) x3 (ix3 r j k)
    = x3 (ix2 r ⟨j.val * 1536 + k.val, by omega⟩) * logistic (x3 (ix2 r ⟨j.val * 1536 + k.val, by omega⟩)) := by
  pointwise [val_main_v5_0]
  simp only [gate_read, logistic_read]
theorem act_read (r : Fin 4096) (k : Fin 3072) : val_main_v9 (F := Ideal) x3 (ix2 r k) = act x3 (ix2 r k) := by
  pointwise [val_main_v9, val_main_v8]
  simp only [silu_read, value_read]
  rfl
theorem ffn_read (r : Fin 4096) (j : Fin 1024) : val_main_v10 (F := Ideal) x2 x3 (ix2 r j) = ffn x3 x2 (ix2 r j) := by
  pointwise [val_main_v10, val_main_v0]
  simp only [act_read]
  rfl
theorem meanSq_read (r : Fin 4096) (z : Fin 1) : val_main_v17 (F := Ideal) x2 x3 (ix2 r z) = meanSq (row (ffn x3 x2) r) := by
  pointwise [val_main_v17, val_main_v16, val_main_cst_1, val_main_v15, val_main_v14, val_main_cst_0, val_main_v13, val_main_v12, val_main_cst,
    val_main_v11]
  simp only [ffn_read]
  rfl
theorem inv_read (r : Fin 4096) (z : Fin 1) : val_main_v18 (F := Ideal) x2 x3 (ix2 r z) = inv (row (ffn x3 x2) r) := by
  rw [val_main_v18_apply, meanSq_read]
  rfl
theorem dhalf_read (r : Fin 4096) (j : Fin 1024) : val_main_v29 (F := Ideal) x0 (ix2 r j) = dhalf x0 r j := by
  pointwise [val_main_v29, val_main_v28, val_main_cst_3]
  rfl
theorem dgain_read : val_main_v32 (F := Ideal) x0 x2 x3 = dgain (ffn x3 x2) (dhalf x0) := by
  funext i
  obtain ⟨z, j, rfl⟩ : ∃ (z : Fin 1) (j : Fin 1024), i = ix2 z j := ⟨i 0, i 1, eq_ix2 i⟩
  pointwise [val_main_v32, val_main_v31, val_main_cst_5, val_main_v30, val_main_v23, val_main_v22]
  simp only [inv_read, dhalf_read, ffn_read]
  rfl
theorem dsquare_read (r : Fin 4096) (j : Fin 1024) :
    val_main_v44 (F := Ideal) x0 x1 x2 x3 (ix2 r j) = dsquare (row (ffn x3 x2) r) (gained x1 (dhalf x0 r)) := by
  pointwise [val_main_v44, val_main_v43, val_main_cst_8, val_main_v42, val_main_v41, val_main_cst_7, val_main_v40, val_main_v37,
    val_main_v36, val_main_cst_6, val_main_v35, val_main_v34, val_main_v33, val_main_v21, val_main_v20, val_main_cst_2, val_main_v19]
  simp only [inv_read, meanSq_read, dhalf_read, ffn_read, Finset.univ_unique, Finset.sum_singleton]
  rfl
theorem dffn_read (r : Fin 4096) (j : Fin 1024) : val_main_v48 (F := Ideal) x0 x1 x2 x3 (ix2 r j) = dffn (ffn x3 x2) x1 x0 r j := by
  pointwise [val_main_v48, val_main_v47, val_main_v46, val_main_v45, val_main_v39, val_main_v38, val_main_v34, val_main_v33]
  simp only [inv_read, dsquare_read, dhalf_read, ffn_read]
  rfl
theorem dact_read (r : Fin 4096) (k : Fin 3072) : val_main_v49 (F := Ideal) x0 x1 x2 x3 (ix2 r k) = dact x2 (dffn (ffn x3 x2) x1 x0 r) k := by
  pointwise [val_main_v49, val_main_v0]
  simp only [dffn_read]
  rfl

/-- The array of the gradients of the output before the norm. -/
theorem dffn_array : val_main_v60 (F := Ideal) x0 x1 x2 x3 = dffnArr (ffn x3 x2) x1 x0 := by
  funext i
  obtain ⟨r, j, rfl⟩ : ∃ (r : Fin 4096) (j : Fin 1024), i = ix2 r j := ⟨i 0, i 1, eq_ix2 i⟩
  pointwise [val_main_v60]
  exact dffn_read x0 x1 x2 x3 r j

theorem dpre_array : val_main_v61 (F := Ideal) x0 x1 x2 x3
    = dpreArr logistic dgateSummed x2 (ffn x3 x2) x1 x0 x3 := by
  funext i
  obtain ⟨r, c, rfl⟩ : ∃ (r : Fin 4096) (c : Fin 6144), i = ix2 r c := ⟨i 0, i 1, eq_ix2 i⟩
  pointwise [val_main_v61, val_main_v59, val_main_v58, val_main_v57, val_main_v56, val_main_v55, val_main_call1_v2, val_main_call1_v1, val_main_call1_v0,
    val_main_v54, val_main_v53, val_main_v52, val_main_v51, val_main_v50, val_main_cst_9, val_main_cst_10]
  show _ = dpre logistic dgateSummed (dact x2 (dffn (ffn x3 x2) x1 x0 r)) (fun c => x3 (ix2 r c)) c
  simp only [dact_read, silu_read, value_read, logistic_read, slope_read, gate_read]
  have hg : gateCol ⟨c.val / 1536 * 768 + c.val % 768, by omega⟩ = ⟨c.val / 1536 * 1536 + c.val % 768, by omega⟩ :=
    Fin.ext (by show (c.val / 1536 * 768 + c.val % 768) / 768 * 1536 + (c.val / 1536 * 768 + c.val % 768) % 768 = c.val / 1536 * 1536 + c.val % 768; omega)
  have hv : valueCol ⟨c.val / 1536 * 768 + c.val % 768, by omega⟩ = ⟨c.val / 1536 * 1536 + 768 + c.val % 768, by omega⟩ :=
    Fin.ext (by show (c.val / 1536 * 768 + c.val % 768) / 768 * 1536 + 768 + (c.val / 1536 * 768 + c.val % 768) % 768
      = c.val / 1536 * 1536 + 768 + c.val % 768; omega)
  refine dpre_of_parts logistic dgateSummed _ _ ?_ ?_ (k := ⟨c.val / 1536 * 768 + c.val % 768, by omega⟩) rfl hg hv (fun h => ?_) (fun h => ?_)
  · omega
  · omega
  · exact mul_comm _ _
  · rfl

end Cert.Reference5Ideal.Value
end
-- ==== Proof.Kernel5Value.lean ====
module

public import proofs.«01_k».proof.Proof.GateGrad
public import proofs.«01_k».proof.Proof.Gen.Kernel5Ideal.Value

/-! The gradient of a feed-forward block's last norm, second product and gate: the kernel's three results after the whole grid. -/

@[expose] public section
set_option maxRecDepth 16384
noncomputable section
namespace Cert.Kernel5Ideal.Value
open Idealize.ShloMosaic Idealize.ShloMosaic.TcCoe Idealize.SL.Sem
open Idealize.ShloMosaic.Pipeline (Dat)
open Cert.Kernel5Ideal Cert.Kernel5Ideal.Gen
open Cert.NormGrad Cert.GateGrad

/-! ## One grid point: a tile of 512 rows -/

section tile
variable (v0 : Vec Ideal S512x1024 .bf16) (v3 : Vec Ideal S1x1024 .f32) (v4 : Vec Ideal S512x1024 .f32)

theorem half_tile (a : Fin 512) (j : Fin 1024) : k0_pay3 (F := Ideal) v4 (ix2 a j) = half * v4 (ix2 a j) := by
  pointwise [k0_pay3]
  rfl
theorem meanSq_tile (a : Fin 512) (z : Fin 1) : k0_pay4 (F := Ideal) v0 (ix2 a z) = meanSq fun j => v0 (ix2 a j) := by
  pointwise [k0_pay4, k0_pay2]
  rfl
theorem inv_tile (a : Fin 512) (z : Fin 1) : k0_pay5 (F := Ideal) v0 (ix2 a z) = NormGrad.inv fun j => v0 (ix2 a j) := by
  pointwise [k0_pay5]
  rw [meanSq_tile]
  rfl
theorem df_tile (a : Fin 512) (j : Fin 1024) : k0_pay7 (F := Ideal) v0 v3 v4 (ix2 a j)
    = drow (fun j => v0 (ix2 a j)) (gained v3 fun j => half * v4 (ix2 a j)) j := by
  pointwise [k0_pay7, k0_pay2]
  simp only [meanSq_tile, inv_tile, half_tile, Finset.univ_unique, Finset.sum_singleton]
  rfl
theorem dg_tile (z : Fin 1) (j : Fin 1024) : k0_pay6 (F := Ideal) v0 v4 (ix2 z j)
    = ∑ a, dgainRow (fun j => v0 (ix2 a j)) (fun j => half * v4 (ix2 a j)) j := by
  pointwise [k0_pay6, k0_pay2]
  simp only [inv_tile, half_tile]
  rfl
end tile

/-! ### One group of columns: 768 gates and 768 values -/

section group
variable (y : FVec Ideal S512x1024 .bf16) (w : Vec Ideal S768x1024 .bf16) (u : Vec Ideal S512x1536 .bf16) (a : Fin 512) (k : Fin 768)

/-- The cotangent of the activation whose weights are row `k` of `w`. -/
def dcol : EReal := ∑ j, y (ix2 a j) * w (ix2 k j)
/-- The gate. -/
def gcol : EReal := u (ix2 a ⟨k.val, by omega⟩)
/-- The value. -/
def vcol : EReal := u (ix2 a ⟨768 + k.val, by omega⟩)

theorem gate0 : k0_pay13 (F := Ideal) y w u (ix2 a k) = dgateFactored (tanhSig (gcol u a k)) (dcol y w a k) (gcol u a k) (vcol u a k) := by
  pointwise [k0_pay13, k0_pay12, k0_pay11, k0_pay10, k0_pay9]
  rfl
theorem value0 : k0_pay14 (F := Ideal) y w u (ix2 a k) = dcol y w a k * (gcol u a k * tanhSig (gcol u a k)) := by
  pointwise [k0_pay14, k0_pay12, k0_pay11, k0_pay10, k0_pay9]
  rfl
theorem gate1 : k0_pay19 (F := Ideal) y w (constant S512x768 .f32 0x00000000#32) u (ix2 a k)
    = dgateFactored (tanhSig (gcol u a k)) (dcol y w a k) (gcol u a k) (vcol u a k) := by
  pointwise [k0_pay19, k0_pay18, k0_pay17, k0_pay16, k0_pay15]
  rfl
theorem value1 : k0_pay20 (F := Ideal) y w (constant S512x768 .f32 0x00000000#32) u (ix2 a k)
    = dcol y w a k * (gcol u a k * tanhSig (gcol u a k)) := by
  pointwise [k0_pay20, k0_pay18, k0_pay17, k0_pay16, k0_pay15]
  rfl
theorem gate2 : k0_pay26 (F := Ideal) (k0_pay21 y w) (k0_pay23 u) (k0_pay24 u) (k0_pay25 u) (ix2 a k)
    = dgateFactored (tanhSig (gcol u a k)) (dcol y w a k) (gcol u a k) (vcol u a k) := by
  pointwise [k0_pay26, k0_pay25, k0_pay24, k0_pay23, k0_pay22, k0_pay21]
  rfl
theorem value2 : k0_pay27 (F := Ideal) (k0_pay21 y w) (k0_pay23 u) (k0_pay25 u) (ix2 a k)
    = dcol y w a k * (gcol u a k * tanhSig (gcol u a k)) := by
  pointwise [k0_pay27, k0_pay25, k0_pay23, k0_pay22, k0_pay21]
  rfl
theorem gate3 : k0_pay32 (F := Ideal) y w u (ix2 a k) = dgateFactored (tanhSig (gcol u a k)) (dcol y w a k) (gcol u a k) (vcol u a k) := by
  pointwise [k0_pay32, k0_pay31, k0_pay30, k0_pay29, k0_pay28]
  rfl
theorem value3 : k0_pay1 (F := Ideal) (k0_pay33 y w u) (ix2 a k) = dcol y w a k * (gcol u a k * tanhSig (gcol u a k)) := by
  pointwise [k0_pay1, k0_pay33, k0_pay31, k0_pay30, k0_pay29, k0_pay28]
  rfl

variable {y w u a k} {W : Vec Ideal S3072x1024 .bf16} {U : Vec Ideal S512x6144 .bf16} {c : Fin 6144}

/-- The group's gates are columns of the gradient of the whole row. -/
theorem gate_part (g : ℕ) (hg : g < 4) (hw : ∀ j, w (ix2 k j) = W (ix2 ⟨768 * g + k.val, by omega⟩ j))
    (hu : ∀ b : Fin 1536, u (ix2 a b) = U (ix2 a ⟨1536 * g + b.val, by omega⟩)) (hc : c.val = 1536 * g + k.val) :
    dgateFactored (tanhSig (gcol u a k)) (dcol y w a k) (gcol u a k) (vcol u a k)
      = dpre tanhSig dgateFactored (dact W fun j => y (ix2 a j)) (fun c => U (ix2 a c)) c := by
  rw [dpre_gate tanhSig dgateFactored _ _ (k := ⟨768 * g + k.val, by omega⟩) (by show c.val = (768 * g + k.val) / 768 * 1536 + (768 * g + k.val) % 768; omega)]
  simp only [gcol, vcol, dcol, dact, hw, hu]
  have h1 : gateCol ⟨768 * g + k.val, by omega⟩ = ⟨1536 * g + k.val, by omega⟩ :=
    Fin.ext (by show (768 * g + k.val) / 768 * 1536 + (768 * g + k.val) % 768 = 1536 * g + k.val; omega)
  have h2 : valueCol ⟨768 * g + k.val, by omega⟩ = ⟨1536 * g + (768 + k.val), by omega⟩ :=
    Fin.ext (by show (768 * g + k.val) / 768 * 1536 + 768 + (768 * g + k.val) % 768 = 1536 * g + (768 + k.val); omega)
  rw [h1, h2]
/-- The group's values are columns of the gradient of the whole row. -/
theorem value_part (g : ℕ) (hg : g < 4) (hw : ∀ j, w (ix2 k j) = W (ix2 ⟨768 * g + k.val, by omega⟩ j))
    (hu : ∀ b : Fin 1536, u (ix2 a b) = U (ix2 a ⟨1536 * g + b.val, by omega⟩)) (hc : c.val = 1536 * g + 768 + k.val) :
    dcol y w a k * (gcol u a k * tanhSig (gcol u a k))
      = dpre tanhSig dgateFactored (dact W fun j => y (ix2 a j)) (fun c => U (ix2 a c)) c := by
  rw [dpre_value tanhSig dgateFactored _ _ (k := ⟨768 * g + k.val, by omega⟩) (by show c.val = (768 * g + k.val) / 768 * 1536 + 768 + (768 * g + k.val) % 768; omega)]
  simp only [gcol, vcol, dcol, dact, hw, hu]
  have h1 : gateCol ⟨768 * g + k.val, by omega⟩ = ⟨1536 * g + k.val, by omega⟩ :=
    Fin.ext (by show (768 * g + k.val) / 768 * 1536 + (768 * g + k.val) % 768 = 1536 * g + k.val; omega)
  rw [h1]
end group

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

theorem du_tile (t : Fin cfg0.N) (a : Fin 512) (d : Fin 6144) : (outsAt0 m c t.val t.isLt).2.1 (ix2 a d)
    = dpre tanhSig dgateFactored
        (dact (iblk m c 3 t : Vec Ideal S3072x1024 .bf16) fun j => k0_pay7 (F := Ideal) (iblk m c 0 t) (iblk m c 2 t) (iblk m c 1 t) (ix2 a j))
        (fun d => (iblk m c 4 t : Vec Ideal S512x6144 .bf16) (ix2 a d)) d := by
  have ht : t.val < 8 := Nat.lt_of_lt_of_eq t.isLt N_0
  by_cases hh : 1 ≤ t.val
  on_goal 1 => rw [outsAt0_B m c t (by omega) hh]; frame_out
  on_goal 2 => rw [outsAt0_A m c t (by omega) hh]; frame_out
  all_goals
    clear hh
    canon_tiles x h
    all_goals
      obtain ⟨a', k, rfl⟩ : ∃ (a' : Fin 512) (k : Fin 768), x = ix2 a' k := ⟨x 0, x 1, eq_ix2 x⟩
      obtain rfl : a = a' := Fin.ext h0
    case piece0 =>
      refine (value3 _ _ _ a k).trans (value_part 3 (by omega) (fun j => ?_) (fun b => ?_) h1)
      · pointwise []
      · pointwise []
    case piece1 =>
      refine (gate3 _ _ _ a k).trans (gate_part 3 (by omega) (fun j => ?_) (fun b => ?_) h1)
      · pointwise []
      · pointwise []
    case piece2 =>
      refine (value2 _ _ _ a k).trans (value_part 2 (by omega) (fun j => ?_) (fun b => ?_) h1)
      · pointwise []
      · pointwise []
    case piece3 =>
      refine (gate2 _ _ _ a k).trans (gate_part 2 (by omega) (fun j => ?_) (fun b => ?_) h1)
      · pointwise []
      · pointwise []
    case piece4 =>
      refine (value1 _ _ _ a k).trans (value_part 1 (by omega) (fun j => ?_) (fun b => ?_) h1)
      · pointwise []
      · pointwise []
    case piece5 =>
      refine (gate1 _ _ _ a k).trans (gate_part 1 (by omega) (fun j => ?_) (fun b => ?_) h1)
      · pointwise []
      · pointwise []
    case piece6 =>
      refine (value0 _ _ _ a k).trans (value_part 0 (by omega) (fun j => ?_) (fun b => ?_) h1)
      · pointwise []
      · pointwise []
    case piece7 =>
      refine (gate0 _ _ _ a k).trans (gate_part 0 (by omega) (fun j => ?_) (fun b => ?_) (h1.trans (by show k.val = 1536 * 0 + k.val; omega)))
      · pointwise []
      · pointwise []

/-! ## The whole grid -/

/-- What the lines before the call leave: the output before its norm. -/
theorem saved : V m c main_v11 = ffn (m ((c : Thread nD τ).loc main_arg3)) (m ((c : Thread nD τ).loc main_arg2)) := by
  unfold V
  simp only [hostOps0, hostOps0_1, hostOps0_2, List.flatten_cons, List.flatten_nil, List.cons_append, List.nil_append]
  after_results_simp
  simp -implicitDefEqProofs only [StableHlo.TRef.toBuf, StableHlo.TRef.ofBuf, cast_cast, cast_eq]
  funext i
  obtain ⟨r, k, rfl⟩ : ∃ (r : Fin 4096) (k : Fin 1024), i = ix2 r k := ⟨i 0, i 1, eq_ix2 i⟩
  pointwise []
  rfl

/-- The output before its norm. -/
def fArr : Rows := ffn (m ((c : Thread nD τ).loc main_arg3)) (m ((c : Thread nD τ).loc main_arg2))

theorem f_blk (t : Fin cfg0.N) (a : Fin 512) :
    (fun j => (iblk m c 0 t : Vec Ideal S512x1024 .bf16) (ix2 a j)) = row (fArr m c) (rowOf t a) := by
  unfold fArr
  rw [← saved m c]
  funext j
  blk_point [iblk, idx t]
  rfl
theorem dout_blk (t : Fin cfg0.N) (a : Fin 512) :
    (fun j => half * (iblk m c 1 t : Vec Ideal S512x1024 .f32) (ix2 a j)) = dhalf (m ((c : Thread nD τ).loc main_arg0)) (rowOf t a) := by
  funext j
  refine congrArg (half * ·) ?_
  blk_point [iblk, V, idx t]
  rfl
theorem g_blk (t : Fin cfg0.N) : (iblk m c 2 t : Vec Ideal S1x1024 .f32) = (m ((c : Thread nD τ).loc main_arg1)) := by
  funext i
  blk_point [iblk, V, idx t]
theorem w_blk (t : Fin cfg0.N) : (iblk m c 3 t : Vec Ideal S3072x1024 .bf16) = (m ((c : Thread nD τ).loc main_arg2)) := by
  funext i
  blk_point [iblk, V, idx t]
theorem u_blk (t : Fin cfg0.N) (a : Fin 512) :
    (fun d => (iblk m c 4 t : Vec Ideal S512x6144 .bf16) (ix2 a d)) = fun d => (m ((c : Thread nD τ).loc main_arg3)) (ix2 (rowOf t a) d) := by
  funext j
  blk_point [iblk, V, idx t]
  rfl
theorem df_blk (t : Fin cfg0.N) (a : Fin 512) :
    (fun j => k0_pay7 (F := Ideal) (iblk m c 0 t) (iblk m c 2 t) (iblk m c 1 t) (ix2 a j))
      = dffn (fArr m c) (m ((c : Thread nD τ).loc main_arg1)) (m ((c : Thread nD τ).loc main_arg0)) (rowOf t a) := by
  funext j
  rw [df_tile, f_blk, dout_blk, g_blk]
  rfl

theorem final5 : (dats m 0 c).arrAt 5 cfg0.N = dffnArr (fArr m c) (m ((c : Thread nD τ).loc main_arg1)) (m ((c : Thread nD τ).loc main_arg0)) := by
  refine (dats m 0 c).arrAt_eq_of_covers 5 _ (by decide +kernel) fun t hf y => ?_
  blk_simp
  rw [after0_5]
  have hout : (outsAt0 m c t.val t.isLt).1 = k0_pay7 (F := Ideal) (iblk m c 0 t) (iblk m c 2 t) (iblk m c 1 t) := by
    have ht : t.val < 8 := Nat.lt_of_lt_of_eq t.isLt N_0
    by_cases h : 1 ≤ t.val
    · rw [outsAt0_B m c t (by omega) h]; frame_out
    · rw [outsAt0_A m c t (by omega) h]; frame_out
  rw [hout]
  obtain ⟨a, j, rfl⟩ : ∃ (a : Fin 512) (j : Fin 1024), y = ix2 a j := ⟨y 0, y 1, eq_ix2 (n0 := 512) (n1 := 1024) y⟩
  have e : (win0_5.blk t).view.emb (ix2 a j) = ix2 (rowOf t a) j := by
    blk_point [idx t]
    rfl
  refine Eq.trans ?_ (congrArg _ e.symm)
  exact congrFun (df_blk m c t a) j

theorem final6 : (dats m 0 c).arrAt 6 cfg0.N
    = dpreArr tanhSig dgateFactored (m ((c : Thread nD τ).loc main_arg2)) (fArr m c) (m ((c : Thread nD τ).loc main_arg1)) (m ((c : Thread nD τ).loc main_arg0)) (m ((c : Thread nD τ).loc main_arg3)) := by
  refine (dats m 0 c).arrAt_eq_of_covers 6 _ (by decide +kernel) fun t hf y => ?_
  blk_simp
  rw [after0_6]
  obtain ⟨a, d, rfl⟩ : ∃ (a : Fin 512) (d : Fin 6144), y = ix2 a d := ⟨y 0, y 1, eq_ix2 (n0 := 512) (n1 := 6144) y⟩
  have e : (win0_6.blk t).view.emb (ix2 a d) = ix2 (rowOf t a) d := by
    blk_point [idx t]
    rfl
  refine Eq.trans ?_ (congrArg _ e.symm)
  rw [du_tile, df_blk, w_blk, u_blk]
  rfl

theorem final7 : (dats m 0 c).arrAt 7 cfg0.N = dgain (fArr m c) (dhalf (m ((c : Thread nD τ).loc main_arg0))) := by
  have hg : ∀ (t : Fin cfg0.N) (i : S1x1024.Idx), k0_pay6 (F := Ideal) (iblk m c 0 t) (iblk m c 1 t) i
      = ∑ a, dgainRow (row (fArr m c) (rowOf t a)) (dhalf (m ((c : Thread nD τ).loc main_arg0)) (rowOf t a)) (i 1) := fun t i => by
    obtain ⟨z, j, rfl⟩ : ∃ (z : Fin 1) (j : Fin 1024), i = ix2 z j := ⟨i 0, i 1, eq_ix2 i⟩
    rw [dg_tile]
    simp only [f_blk, dout_blk]
    rfl
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t i => ∑ a, dgainRow (row (fArr m c) (rowOf t a)) (dhalf (m ((c : Thread nD τ).loc main_arg0)) (rowOf t a)) ((i : S1x1024.Idx) 1))
    (fun t h j => by
      have ht : t.val < 8 := Nat.lt_of_lt_of_eq t.isLt N_0
      rw [outsAt0_A m c t h (by omega)]; frame_out
      exact (hg t j).trans (zero_add _).symm)
    (fun t h j => by
      have ht : t.val < 8 := Nat.lt_of_lt_of_eq t.isLt N_0
      rw [outsAt0_B m c t h (by omega)]; frame_out
      refine Eq.trans ?_ (congrArg (_ + ·) (hg t j))
      pointwise [k0_pay8])
    (le_of_eq N_0) t0_7 rfl j, zero_add]
  exact Fin.sum_mul_add_congr (S := 8) (n := 512) fun t a _ => rfl

end Cert.Kernel5Ideal.Value
end
-- ==== Proof.GateReal.lean ====
module

public import proofs.«01_k».proof.Proof.GateGrad
public import proofs.«01_k».proof.Proof.SoftmaxGrad

/-! On finite arrays every number in the gradient of a feed-forward block is real, so that the two forms of the gate's gradient agree. -/

@[expose] public section
noncomputable section
namespace Cert.GateGrad
open Idealize.ShloMosaic Cert.NormGrad Cert.SoftmaxGrad

theorem width_eq : width = ((1024 : ℝ) : EReal) := by
  unfold width
  simp [Ideal.ofBits, Ideal.ieee]
  rw [← EReal.coe_mul]
  congr 1
  norm_num
theorem isReal_half : IsReal half := ⟨_, half_eq⟩
theorem eps_pos : ∃ e : ℝ, 0 < e ∧ Ideal.ofBits FTy.f32 897988541#32 = (e : EReal) := by
  refine ⟨8796093 * (2 ^ 43 : ℝ)⁻¹, by norm_num, ?_⟩
  simp [Ideal.ofBits, Ideal.ieee]
theorem minusHalf_real : IsReal (Ideal.ofBits FTy.f32 3204448256#32) := by
  refine ⟨-(8388608 * (2 ^ 24 : ℝ)⁻¹), ?_⟩
  simp [Ideal.ofBits, Ideal.ieee]

theorem meanSq_pos {x : Row} (hx : ∀ j, IsReal (x j)) : ∃ r : ℝ, 0 < r ∧ meanSq x = (r : EReal) := by
  obtain ⟨e, he, h⟩ := eps_pos
  choose y hy using hx
  refine ⟨(∑ j, y j * y j) * (1 / 1024) + e, add_pos_of_nonneg_of_pos
    (mul_nonneg (Finset.sum_nonneg fun j _ => mul_self_nonneg _) (by norm_num)) he, ?_⟩
  unfold meanSq
  rw [h, width_eq, Ideal.div_coe (by norm_num)]
  simp only [hy, ← EReal.coe_mul, ← coe_sum_fin, ← EReal.coe_add]

theorem inv_real {x : Row} (hx : ∀ j, IsReal (x j)) : IsReal (NormGrad.inv x) := by
  obtain ⟨r, hr, h⟩ := meanSq_pos hx
  unfold NormGrad.inv
  rw [h, Ideal.rsqrt_coe, if_neg (not_lt.2 hr.le), if_neg hr.ne']
  exact ⟨_, rfl⟩

theorem drow_real {x y : Row} (hx : ∀ j, IsReal (x j)) (hy : ∀ j, IsReal (y j)) (j : Fin 1024) : IsReal (drow x y j) := by
  have hi := inv_real hx
  obtain ⟨r, hr, h⟩ := meanSq_pos hx
  have hd : IsReal (dsquare x y) := by
    unfold dsquare
    rw [h, width_eq, Ideal.div_coe (by norm_num), Ideal.div_coe hr.ne']
    exact ((IsReal.sum fun k _ => (hx k).mul (hy k)).mul (minusHalf_real.mul (hi.mul ⟨_, rfl⟩))).mul ⟨_, rfl⟩
  exact (((hy j).mul hi).add ((hx j).mul hd)).add (hd.mul (hx j))

theorem logistic_real {a : EReal} (ha : IsReal a) : IsReal (logistic a) := by
  obtain ⟨r, rfl⟩ := ha
  exact ⟨_, logistic_coe r⟩
theorem act_real {u : Pre} (hu : ∀ i, IsReal (u i)) (i) : IsReal (act u i) :=
  ((hu _).mul (logistic_real (hu _))).mul (hu _)
theorem ffn_real {u : Pre} {w : (⟨2, ![3072, 1024]⟩ : Shape).Idx → EReal} (hu : ∀ i, IsReal (u i)) (hw : ∀ i, IsReal (w i)) (i) :
    IsReal (ffn u w i) := by
  unfold ffn NormGrad.prod
  exact IsReal.sum fun _ _ => (act_real hu _).mul (hw _)
theorem dact_real {w : (⟨2, ![3072, 1024]⟩ : Shape).Idx → EReal} {f dout : Rows} {g : Gain} (hw : ∀ i, IsReal (w i))
    (hf : ∀ i, IsReal (f i)) (hg : ∀ i, IsReal (g i)) (hd : ∀ i, IsReal (dout i)) (r : Fin 4096) (k : Fin 3072) :
    IsReal (dact w (dffn f g dout r) k) := by
  unfold dact
  exact IsReal.sum fun j _ => (drow_real (fun _ => hf _) (fun _ => (isReal_half.mul (hd _)).mul (hg _)) j).mul (hw _)

/-- The gradient of a row of `u` by the hyperbolic tangent and the factored form is the one by the exponential, term by term. -/
theorem dpre_eq {d : Fin 3072 → EReal} {u : Fin 6144 → EReal} (hd : ∀ k, IsReal (d k)) (hu : ∀ c, IsReal (u c)) (c : Fin 6144) :
    dpre tanhSig dgateFactored d u c = dpre logistic dgateSummed d u c := by
  obtain ⟨a, ha⟩ := hu (gateCol (actOf c))
  obtain ⟨b, hb⟩ := hu (valueCol (actOf c))
  obtain ⟨e, he⟩ := hd (actOf c)
  simp only [dpre, ha, hb, he, logistic_coe, tanhSig_coe, dgate_eq]

/-- The two gradients of `u` agree when every argument is real. -/
theorem dpreArr_eq {w : (⟨2, ![3072, 1024]⟩ : Shape).Idx → EReal} {u : Pre} {dout : Rows} {g : Gain} (hd : ∀ i, IsReal (dout i))
    (hg : ∀ i, IsReal (g i)) (hw : ∀ i, IsReal (w i)) (hu : ∀ i, IsReal (u i)) :
    dpreArr tanhSig dgateFactored w (ffn u w) g dout u = dpreArr logistic dgateSummed w (ffn u w) g dout u :=
  funext fun i => dpre_eq (dact_real hw (ffn_real hu hw) hg hd (i 0)) (fun _ => hu _) (i 1)

end Cert.GateGrad
end
-- ==== Proof.PreconditionGate.lean ====
module

public import proofs.«01_k».proof.Proof.GateReal
public import proofs.«01_k».proof.Proof.Precondition
public import proofs.«01_k».proof.Proof.Gen.Pre_finite5

/-! The precondition of the gate's gradient: every entry of the arguments is a real number. -/

@[expose] public section
set_option maxRecDepth 16384
noncomputable section
namespace Cert.Pre_finite5
open Idealize.ShloMosaic Cert.SoftmaxGrad Cert.Pre_finite5.Gen

theorem real_of_pre (x0 : FVec Ideal S4096x1024 .f32) (x1 : FVec Ideal S1x1024 .f32) (x2 : FVec Ideal S3072x1024 .bf16)
    (x3 : FVec Ideal S4096x6144 .bf16) (h : fn (F := Ideal) x0 x1 x2 x3 = fun _ => 1#1) :
    (∀ i, IsReal (x0 i)) ∧ (∀ i, IsReal (x1 i)) ∧ (∀ i, IsReal (x2 i)) ∧ ∀ i, IsReal (x3 i) := by
  have h0 := congrFun h (Shape.Idx.first h_S_)
  unfold fn fn_part1 at h0
  obtain ⟨h1, hd⟩ := IntOp.andi_eq_one.1 h0
  obtain ⟨h2, hc⟩ := IntOp.andi_eq_one.1 h1
  obtain ⟨ha, hb⟩ := IntOp.andi_eq_one.1 h2
  exact ⟨fun i => Pre_finite.isReal_of_cmp _ (Host.reduce_andi_all _ _ _ _ _ ha i),
    fun i => Pre_finite.isReal_of_cmp _ (Host.reduce_andi_all _ _ _ _ _ hb i),
    fun i => Pre_finite.isReal_of_cmp _ (Host.reduce_andi_all _ _ _ _ _ hc i),
    fun i => Pre_finite.isReal_of_cmp _ (Host.reduce_andi_all _ _ _ _ _ hd i)⟩

end Cert.Pre_finite5
end
-- ==== Proof.Reference6Read.lean ====
module

public import proofs.«01_k».proof.Proof.GateGrad
public import proofs.«01_k».proof.Proof.Gen.Reference6Ideal.Read

/-! The gradient of a feed-forward block's second weight: the reference, read at an index. -/

@[expose] public section
set_option maxRecDepth 16384
noncomputable section
namespace Cert.Reference6Ideal.Value
open Idealize.ShloMosaic Idealize.ShloMosaic.TcCoe Idealize.SL.Sem
open Cert.Reference6Ideal Cert.Reference6Ideal.Gen Cert.Reference6Ideal.Read
open Cert.NormGrad Cert.GateGrad

variable (x0 : FVec Ideal S4096x1024 .bf16) (x1 : FVec Ideal S4096x6144 .bf16)

theorem act_read (r : Fin 4096) (k : Fin 3072) : val_main_v9 (F := Ideal) x1 (ix2 r k) = act x1 (ix2 r k) := by
  pointwise [val_main_v9, val_main_v8, val_main_v7, val_main_v6, val_main_v5, val_main_call0_v5, val_main_call0_v4, val_main_call0_cst_0,
    val_main_call0_v3, val_main_call0_v2, val_main_call0_cst, val_main_call0_v1, val_main_call0_v0, val_main_v4, val_main_v3, val_main_v2, val_main_v1]
  rfl

theorem wgrad_read : val_main_v14 (F := Ideal) x0 x1 = wgrad (act x1) x0 := by
  funext i
  obtain ⟨a, j, rfl⟩ : ∃ (a : Fin 3072) (j : Fin 1024), i = ix2 a j := ⟨i 0, i 1, eq_ix2 i⟩
  pointwise [val_main_v14, val_main_v13, val_main_v12, val_main_v11]
  simp only [act_read]
  exact Finset.sum_congr rfl fun _ _ => mul_comm _ _

end Cert.Reference6Ideal.Value
end
-- ==== Proof.Kernel6Value.lean ====
module

public import proofs.«01_k».proof.Proof.GateGrad
public import proofs.«01_k».proof.Proof.Gen.Kernel6Ideal.Value

/-! The gradient of a feed-forward block's second weight: the kernel's result after the whole grid. -/

@[expose] public section
set_option maxRecDepth 16384
noncomputable section
namespace Cert.Kernel6Ideal.Value
open Idealize.ShloMosaic Idealize.ShloMosaic.TcCoe Idealize.SL.Sem
open Cert.Kernel6Ideal Cert.Kernel6Ideal.Gen
open Idealize.ShloMosaic.Pipeline (Dat)
open Cert.NormGrad Cert.GateGrad

variable (m : (ℓ : Loc nD τ sig) → Buf (Elt Ideal) ℓ)

/-- One grid point: the weight's gradient for 768 of its rows. -/
theorem tile (v0 : Vec Ideal S4096x768 .bf16) (v1 : Vec Ideal S4096x1024 .bf16) (a : Fin 768) (j : Fin 1024) :
    k0_pay1 (F := Ideal) v0 v1 (ix2 a j) = ∑ r, v0 (ix2 r a) * v1 (ix2 r j) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- The row of the weight that row `a` of grid point `t`'s tile is. -/
def rowOf (t : Fin cfg0.N) (a : Fin 768) : Fin 3072 :=
  ⟨t.val * 768 + a.val, by have h : t.val < 4 := Nat.lt_of_lt_of_eq t.isLt N_0; omega⟩

variable (c : Dev nD)

/-- What the lines before the call leave: the activations. -/
theorem saved : V m c main_v9 = act (m ((c : Thread nD τ).loc main_arg1)) := by
  unfold V
  simp only [hostOps0, hostOps0_1, hostOps0_2, List.flatten_cons, List.flatten_nil, List.cons_append, List.nil_append]
  after_results_simp
  simp -implicitDefEqProofs only [StableHlo.TRef.toBuf, StableHlo.TRef.ofBuf, cast_cast, cast_eq]
  funext i
  obtain ⟨r, k, rfl⟩ : ∃ (r : Fin 4096) (k : Fin 3072), i = ix2 r k := ⟨i 0, i 1, eq_ix2 i⟩
  pointwise []
  rfl

theorem z_blk (t : Fin cfg0.N) (r : Fin 4096) (a : Fin 768) :
    (iblk m c 0 t : Vec Ideal S4096x768 .bf16) (ix2 r a) = act (m ((c : Thread nD τ).loc main_arg1)) (ix2 r (rowOf t a)) := by
  rw [← saved m c]
  blk_point [iblk, idx t]
  rfl
theorem h_blk (t : Fin cfg0.N) : (iblk m c 1 t : Vec Ideal S4096x1024 .bf16) = m ((c : Thread nD τ).loc main_arg0) := by
  funext i
  blk_point [iblk, V, idx t]

theorem final2 : (dats m 0 c).arrAt 2 cfg0.N = wgrad (act (m ((c : Thread nD τ).loc main_arg1)))
    (m ((c : Thread nD τ).loc main_arg0)) := by
  refine (dats m 0 c).arrAt_eq_of_covers 2 _ (by decide +kernel) fun t hf y => ?_
  blk_simp
  rw [after0_2]
  frame_out
  obtain ⟨a, j, rfl⟩ : ∃ (a : Fin 768) (j : Fin 1024), y = ix2 a j := ⟨y 0, y 1, eq_ix2 (n0 := 768) (n1 := 1024) y⟩
  have e : (win0_2.blk t).view.emb (ix2 a j) = ix2 (rowOf t a) j := by
    blk_point [idx t]
    rfl
  refine Eq.trans ?_ (congrArg _ e.symm)
  rw [tile, h_blk]
  simp only [z_blk]
  rfl

end Cert.Kernel6Ideal.Value
end
-- ==== Proof.Reference7Read.lean ====
module

public import proofs.«01_k».proof.Proof.NormGrad
public import proofs.«01_k».proof.Proof.Gen.Reference7Ideal.Read

/-! The gradient of the token mixing's first weight: what the reference computes. -/

@[expose] public section
set_option maxRecDepth 16384
noncomputable section
namespace Cert.Reference7Ideal.Value
open Idealize.ShloMosaic Idealize.ShloMosaic.TcCoe Idealize.SL.Sem
open Cert.Reference7Ideal Cert.Reference7Ideal.Gen Cert.Reference7Ideal.Read
open Cert.NormGrad

variable (x0 : FVec Ideal S4096x7168 .bf16) (x1 : FVec Ideal S4096x1024 .f32) (x2 : FVec Ideal S1x1024 .f32)

theorem norm_read (r : Fin 4096) (j : Fin 1024) : val_main_v12 (F := Ideal) x1 x2 (ix2 r j) = norm x1 x2 (ix2 r j) := by
  pointwise [val_main_v12, val_main_v11, val_main_v10, val_main_v9, val_main_v8, val_main_v7, val_main_v6, val_main_cst_2, val_main_v5,
    val_main_v4, val_main_cst_1, val_main_v3, val_main_v2, val_main_cst_0, val_main_v1]
  rfl

theorem wgrad_read : val_main_v19 (F := Ideal) x0 x1 x2 = wgrad x0 (norm x1 x2) := by
  funext i
  obtain ⟨a, j, rfl⟩ : ∃ (a : Fin 7168) (j : Fin 1024), i = ix2 a j := ⟨i 0, i 1, eq_ix2 i⟩
  pointwise [val_main_v19, val_main_v18, val_main_v17, val_main_v16, val_main_v15]
  simp only [norm_read]
  rfl

end Cert.Reference7Ideal.Value
end
-- ==== Proof.Kernel7Value.lean ====
module

public import proofs.«01_k».proof.Proof.NormGrad
public import proofs.«01_k».proof.Proof.Gen.Kernel7Ideal.Value

/-! The gradient of the token mixing's first weight: the kernel's result after the whole grid. -/

@[expose] public section
set_option maxRecDepth 16384
noncomputable section
namespace Cert.Kernel7Ideal.Value
open Idealize.ShloMosaic Idealize.ShloMosaic.TcCoe Idealize.SL.Sem
open Cert.Kernel7Ideal Cert.Kernel7Ideal.Gen
open Idealize.ShloMosaic.Pipeline (Dat)
open Cert.NormGrad

variable (m : (ℓ : Loc nD τ sig) → Buf (Elt Ideal) ℓ)

/-- One grid point: the weight's gradient for 896 of its rows. -/
theorem tile (v0 : Vec Ideal S4096x896 .bf16) (v1 : Vec Ideal S4096x1024 .bf16) (a : Fin 896) (j : Fin 1024) :
    k0_pay1 (F := Ideal) v0 v1 (ix2 a j) = ∑ r, v0 (ix2 r a) * v1 (ix2 r j) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- The row of the weight that row `a` of grid point `t`'s tile is. -/
def rowOf (t : Fin cfg0.N) (a : Fin 896) : Fin 7168 :=
  ⟨t.val * 896 + a.val, by have h : t.val < 8 := Nat.lt_of_lt_of_eq t.isLt N_0; omega⟩

variable (c : Dev nD)

/-- What the lines before the call leave: the normed array. -/
theorem saved : V m c main_v12 = norm (m ((c : Thread nD τ).loc main_arg1)) (m ((c : Thread nD τ).loc main_arg2)) := by
  unfold V
  after_results
  funext i
  obtain ⟨r, j, rfl⟩ : ∃ (r : Fin 4096) (j : Fin 1024), i = ix2 r j := ⟨i 0, i 1, eq_ix2 i⟩
  pointwise []
  rfl

theorem z_blk (t : Fin cfg0.N) (r : Fin 4096) (a : Fin 896) :
    (iblk m c 0 t : Vec Ideal S4096x896 .bf16) (ix2 r a) = m ((c : Thread nD τ).loc main_arg0) (ix2 r (rowOf t a)) := by
  blk_point [iblk, V, idx t]
  rfl
theorem h_blk (t : Fin cfg0.N) : (iblk m c 1 t : Vec Ideal S4096x1024 .bf16)
    = norm (m ((c : Thread nD τ).loc main_arg1)) (m ((c : Thread nD τ).loc main_arg2)) := by
  rw [← saved m c]
  funext i
  blk_point [iblk, idx t]

theorem final2 : (dats m 0 c).arrAt 2 cfg0.N = wgrad (m ((c : Thread nD τ).loc main_arg0))
    (norm (m ((c : Thread nD τ).loc main_arg1)) (m ((c : Thread nD τ).loc main_arg2))) := by
  refine (dats m 0 c).arrAt_eq_of_covers 2 _ (by decide +kernel) fun t hf y => ?_
  blk_simp
  rw [after0_2]
  frame_out
  obtain ⟨a, j, rfl⟩ : ∃ (a : Fin 896) (j : Fin 1024), y = ix2 a j := ⟨y 0, y 1, eq_ix2 (n0 := 896) (n1 := 1024) y⟩
  have e : (win0_2.blk t).view.emb (ix2 a j) = ix2 (rowOf t a) j := by
    blk_point [idx t]
    rfl
  refine Eq.trans ?_ (congrArg _ e.symm)
  rw [tile, h_blk]
  simp only [z_blk]
  rfl

end Cert.Kernel7Ideal.Value
end
-- ==== Proof.Forward.lean ====
module

public import proofs.«01_k».proof.Proof.GateGrad

/-! The forward pass: products with a transposed weight, the gated activation, and norms added to a residual.

The kernel takes the logistic function by the hyperbolic tangent and the reference by the exponential. Both have the same value at
every extended real. -/

@[expose] public section
noncomputable section
namespace Cert.Forward
open Idealize.ShloMosaic Cert.NormGrad Cert.GateGrad

/-- The product of an array with the transpose of a weight. -/
def prodT {n k d : ℕ} (z : (⟨2, ![n, k]⟩ : Shape).Idx → EReal) (w : (⟨2, ![d, k]⟩ : Shape).Idx → EReal) :
    (⟨2, ![n, d]⟩ : Shape).Idx → EReal := fun i => ∑ t, z (ix2 (i 0) t) * w (ix2 (i 1) t)
/-- The product of an array with a weight of 1024 columns, as an array. -/
def prodArr {n k : ℕ} (z : (⟨2, ![n, k]⟩ : Shape).Idx → EReal) (w : (⟨2, ![k, 1024]⟩ : Shape).Idx → EReal) :
    (⟨2, ![n, 1024]⟩ : Shape).Idx → EReal := fun i => prod z w (i 0) (i 1)
/-- Half of the norm of `f`, added to `x`. -/
def addHalfNorm (x f : Rows) (g : Gain) : Rows := fun i => x i + half * norm f g i

theorem tanhSig_eq (a : EReal) : tanhSig a = logistic a := by
  have h2 : (0 : ℝ) < 1 / 2 := by norm_num
  have one : (1 : EReal) = ((1 : ℝ) : EReal) := rfl
  induction a using EReal.rec with
  | bot =>
    unfold tanhSig GateGrad.logistic
    have h : Ideal.exp (-⊥) = ⊤ := rfl
    have h' : Ideal.tanh ⊥ = -1 := rfl
    rw [half_eq, EReal.coe_mul_bot_of_pos h2, h, h', one, EReal.coe_add_top, Ideal.div, if_neg EReal.top_ne_zero, EReal.inv_top,
      ← EReal.coe_neg, ← EReal.coe_mul, ← EReal.coe_add, mul_zero]
    norm_num
  | top =>
    unfold tanhSig GateGrad.logistic
    have h : Ideal.exp (-⊤) = 0 := rfl
    have h' : Ideal.tanh ⊤ = 1 := rfl
    rw [half_eq, EReal.coe_mul_top_of_pos h2, h, h', add_zero, one, Ideal.div_coe one_ne_zero, ← EReal.coe_mul, ← EReal.coe_add,
      ← EReal.coe_mul]
    norm_num
  | coe r => rw [tanhSig_coe, logistic_coe]

/-- An activation with the logistic function by the hyperbolic tangent. -/
theorem act_eq (u : Pre) (r : Fin 4096) (k : Fin 3072) {ga va : EReal} (hg : ga = u (ix2 r (gateCol k))) (hv : va = u (ix2 r (valueCol k))) :
    ga * tanhSig ga * va = act u (ix2 r k) := by
  rw [tanhSig_eq, hg, hv]
  rfl

theorem prodT_congr {n n' k d d' : ℕ} {z : (⟨2, ![n, k]⟩ : Shape).Idx → EReal} {z' : (⟨2, ![n', k]⟩ : Shape).Idx → EReal}
    {w : (⟨2, ![d, k]⟩ : Shape).Idx → EReal} {w' : (⟨2, ![d', k]⟩ : Shape).Idx → EReal} {r : Fin n} {r' : Fin n'} {c : Fin d} {c' : Fin d'}
    (hz : ∀ t, z (ix2 r t) = z' (ix2 r' t)) (hw : ∀ t, w (ix2 c t) = w' (ix2 c' t)) : prodT z w (ix2 r c) = prodT z' w' (ix2 r' c') :=
  Finset.sum_congr rfl fun t _ => congrArg₂ (· * ·) (hz t) (hw t)

end Cert.Forward
end
-- ==== Proof.Reference8Read.lean ====
module

public import proofs.«01_k».proof.Proof.Forward
public import proofs.«01_k».proof.Proof.Gen.Reference8Ideal.Read

/-! A feed-forward block's first product and gated activation: what the reference computes. -/

@[expose] public section
set_option maxRecDepth 16384
noncomputable section
namespace Cert.Reference8Ideal.Value
open Idealize.ShloMosaic Idealize.ShloMosaic.TcCoe Idealize.SL.Sem
open Cert.Reference8Ideal Cert.Reference8Ideal.Gen Cert.Reference8Ideal.Read
open Cert.NormGrad Cert.GateGrad Cert.Forward

variable (x0 : FVec Ideal S4096x1024 .f32) (x1 : FVec Ideal S1x1024 .f32) (x2 : FVec Ideal S6144x1024 .bf16)

theorem norm_read (r : Fin 4096) (j : Fin 1024) : val_main_v11 (F := Ideal) x0 x1 (ix2 r j) = norm x0 x1 (ix2 r j) := by
  pointwise [val_main_v11, val_main_v10, val_main_v9, val_main_v8, val_main_v7, val_main_v6, val_main_v5, val_main_cst_1, val_main_v4,
    val_main_v3, val_main_cst_0, val_main_v2, val_main_v1, val_main_cst, val_main_v0]
  rfl
theorem pre_read (r : Fin 4096) (c : Fin 6144) : val_main_v14 (F := Ideal) x0 x1 x2 (ix2 r c) = prodT (norm x0 x1) x2 (ix2 r c) := by
  pointwise [val_main_v14, val_main_v13, val_main_v12]
  simp only [norm_read]
  rfl
theorem pre_array : val_main_v15 (F := Ideal) x0 x1 x2 = prodT (norm x0 x1) x2 := by
  funext i
  obtain ⟨r, c, rfl⟩ : ∃ (r : Fin 4096) (c : Fin 6144), i = ix2 r c := ⟨i 0, i 1, eq_ix2 i⟩
  pointwise [val_main_v15]
  exact pre_read x0 x1 x2 r c
theorem act_array : val_main_v24 (F := Ideal) x0 x1 x2 = act (prodT (norm x0 x1) x2) := by
  funext i
  obtain ⟨r, k, rfl⟩ : ∃ (r : Fin 4096) (k : Fin 3072), i = ix2 r k := ⟨i 0, i 1, eq_ix2 i⟩
  pointwise [val_main_v24, val_main_v23, val_main_v22, val_main_v21, val_main_v20, val_main_v19, val_main_call0_v5, val_main_call0_v4, val_main_call0_cst_0,
    val_main_call0_v3, val_main_call0_v2, val_main_call0_cst, val_main_call0_v1, val_main_call0_v0, val_main_v18, val_main_v17, val_main_v16]
  simp only [pre_read]
  rfl

end Cert.Reference8Ideal.Value
end
-- ==== Proof.Kernel8Value.lean ====
module

public import proofs.«01_k».proof.Proof.Forward
public import proofs.«01_k».proof.Proof.Gen.Kernel8Ideal.Value

/-! A feed-forward block's first product and gated activation: the kernel's two results after the whole grid. -/

@[expose] public section
set_option maxRecDepth 16384
noncomputable section
namespace Cert.Kernel8Ideal.Value
open Idealize.ShloMosaic Idealize.ShloMosaic.TcCoe Idealize.SL.Sem
open Idealize.ShloMosaic.Pipeline (Dat)
open Cert.Kernel8Ideal Cert.Kernel8Ideal.Gen
open Cert.NormGrad Cert.GateGrad Cert.Forward

/-! ## One grid point and one group of columns: 768 gates and 768 values -/

section group
variable (h : Vec Ideal S512x1024 .bf16) (w : Vec Ideal S1536x1024 .bf16) (a : Fin 512) (b : Fin 1536) (k : Fin 768)

/-- An entry of the product. -/
def entry : EReal := prodT h w (ix2 a b)
/-- An activation of the group. -/
def acted : EReal := entry h w a ⟨k.val, by omega⟩ * tanhSig (entry h w a ⟨k.val, by omega⟩) * entry h w a ⟨768 + k.val, by omega⟩

theorem pre0 : k0_pay3 (F := Ideal) h w (ix2 a b) = entry h w a b := by
  pointwise [k0_pay3, k0_pay2, k0_pay1]
  rfl
theorem pre1 : k0_pay6 (F := Ideal) h w (ix2 a b) = entry h w a b := by
  pointwise [k0_pay6, k0_pay5, k0_pay1]
  rfl
theorem pre2 : k0_pay9 (F := Ideal) (k0_pay1 h) w (ix2 a b) = entry h w a b := by
  pointwise [k0_pay9, k0_pay8, k0_pay1]
  rfl
theorem pre3 : k0_pay12 (F := Ideal) (k0_pay1 h) w (ix2 a b) = entry h w a b := by
  pointwise [k0_pay12, k0_pay11, k0_pay1]
  rfl
theorem act0 : k0_pay4 (F := Ideal) h w (ix2 a k) = acted h w a k := by
  pointwise [k0_pay4, k0_pay2, k0_pay1]
  rfl
theorem act1 : k0_pay7 (F := Ideal) h w (ix2 a k) = acted h w a k := by
  pointwise [k0_pay7, k0_pay5, k0_pay1]
  rfl
theorem act2 : k0_pay10 (F := Ideal) (k0_pay1 h) w (ix2 a k) = acted h w a k := by
  pointwise [k0_pay10, k0_pay8, k0_pay1]
  rfl
theorem act3 : k0_pay13 (F := Ideal) (k0_pay1 h) w (ix2 a k) = acted h w a k := by
  pointwise [k0_pay13, k0_pay11, k0_pay1]
  rfl

variable {h w a b k} {H : Rows} {W : Vec Ideal S6144x1024 .bf16} {r : Fin 4096}

theorem entry_part (c : Fin 6144) (hh : ∀ t, h (ix2 a t) = H (ix2 r t)) (hw : ∀ t, w (ix2 b t) = W (ix2 c t)) :
    entry h w a b = prodT H W (ix2 r c) :=
  prodT_congr hh hw
/-- The group's activations are columns of the whole array of activations. -/
theorem acted_part (g : ℕ) (hg : g < 4) (hh : ∀ t, h (ix2 a t) = H (ix2 r t))
    (hw : ∀ (b : Fin 1536) (t : Fin 1024), w (ix2 b t) = W (ix2 ⟨1536 * g + b.val, by omega⟩ t)) {d : Fin 3072} (hd : d.val = 768 * g + k.val) :
    acted h w a k = act (prodT H W) (ix2 r d) := by
  refine act_eq _ r d (entry_part _ hh fun t => ?_) (entry_part _ hh fun t => ?_)
  · rw [hw]
    congr 2
    exact Fin.ext (by show 1536 * g + k.val = d.val / 768 * 1536 + d.val % 768; omega)
  · rw [hw]
    congr 2
    exact Fin.ext (by show 1536 * g + (768 + k.val) = d.val / 768 * 1536 + 768 + d.val % 768; omega)
end group

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

/-- The normed input. -/
def hArr : Rows := norm (m ((c : Thread nD τ).loc main_arg0)) (m ((c : Thread nD τ).loc main_arg1))

/-- What the lines before the call leave: the normed input. -/
theorem saved : V m c main_v12 = hArr m c := by
  unfold V
  after_results
  funext i
  obtain ⟨r, j, rfl⟩ : ∃ (r : Fin 4096) (j : Fin 1024), i = ix2 r j := ⟨i 0, i 1, eq_ix2 i⟩
  pointwise []
  rfl

theorem h_blk (t : Fin cfg0.N) (a : Fin 512) (j : Fin 1024) :
    (iblk m c 0 t : Vec Ideal S512x1024 .bf16) (ix2 a j) = hArr m c (ix2 (rowOf t a) j) := by
  rw [← saved m c]
  blk_point [iblk, idx t]
  rfl
theorem w_blk (t : Fin cfg0.N) : (iblk m c 1 t : Vec Ideal S6144x1024 .bf16) = (m ((c : Thread nD τ).loc main_arg2)) := by
  funext i
  blk_point [iblk, V, idx t]

theorem u_tile (t : Fin cfg0.N) (a : Fin 512) (d : Fin 6144) :
    out0_2 (F := Ideal) (iblk m c 0 t) (iblk m c 1 t) (ix2 a d) = prodT (hArr m c) (m ((c : Thread nD τ).loc main_arg2)) (ix2 (rowOf t a) d) := by
  rw [← w_blk m c t]
  frame_out
  canon_tiles x h
  all_goals
    obtain ⟨a', b, rfl⟩ : ∃ (a' : Fin 512) (b : Fin 1536), x = ix2 a' b := ⟨x 0, x 1, eq_ix2 x⟩
    obtain rfl : a = a' := Fin.ext h0
  case piece0 =>
    refine (pre3 _ _ a b).trans (entry_part d (fun j => ?_) (fun j => ?_))
    · refine Eq.trans ?_ (h_blk m c t a j)
      pointwise []
    · have e : d = ⟨4608 + b.val, by omega⟩ := Fin.ext h1
      rw [e]
      pointwise []
  case piece1 =>
    refine (pre2 _ _ a b).trans (entry_part d (fun j => ?_) (fun j => ?_))
    · refine Eq.trans ?_ (h_blk m c t a j)
      pointwise []
    · have e : d = ⟨3072 + b.val, by omega⟩ := Fin.ext h1
      rw [e]
      pointwise []
  case piece2 =>
    refine (pre1 _ _ a b).trans (entry_part d (fun j => ?_) (fun j => ?_))
    · refine Eq.trans ?_ (h_blk m c t a j)
      pointwise []
    · have e : d = ⟨1536 + b.val, by omega⟩ := Fin.ext h1
      rw [e]
      pointwise []
  case piece3 =>
    refine (pre0 _ _ a b).trans (entry_part d (fun j => ?_) (fun j => ?_))
    · refine Eq.trans ?_ (h_blk m c t a j)
      pointwise []
    · have e : d = ⟨b.val, by omega⟩ := Fin.ext h1
      rw [e]
      pointwise []

theorem act_tile (t : Fin cfg0.N) (a : Fin 512) (d : Fin 3072) : out0_3 (F := Ideal) (iblk m c 0 t) (iblk m c 1 t) (ix2 a d)
    = act (prodT (hArr m c) (m ((c : Thread nD τ).loc main_arg2))) (ix2 (rowOf t a) d) := by
  rw [← w_blk m c t]
  frame_out
  canon_tiles x h
  all_goals
    obtain ⟨a', b, rfl⟩ : ∃ (a' : Fin 512) (b : Fin 768), x = ix2 a' b := ⟨x 0, x 1, eq_ix2 x⟩
    obtain rfl : a = a' := Fin.ext h0
  case piece0 =>
    refine (act3 _ _ a b).trans (acted_part 3 (by omega) (fun j => ?_) (fun b j => ?_) h1)
    · refine Eq.trans ?_ (h_blk m c t a j)
      pointwise []
    · pointwise []
  case piece1 =>
    refine (act2 _ _ a b).trans (acted_part 2 (by omega) (fun j => ?_) (fun b j => ?_) h1)
    · refine Eq.trans ?_ (h_blk m c t a j)
      pointwise []
    · pointwise []
  case piece2 =>
    refine (act1 _ _ a b).trans (acted_part 1 (by omega) (fun j => ?_) (fun b j => ?_) h1)
    · refine Eq.trans ?_ (h_blk m c t a j)
      pointwise []
    · pointwise []
  case piece3 =>
    refine (act0 _ _ a b).trans (acted_part 0 (by omega) (fun j => ?_) (fun b j => ?_) (h1.trans (by show b.val = 768 * 0 + b.val; omega)))
    · refine Eq.trans ?_ (h_blk m c t a j)
      pointwise []
    · pointwise []

theorem final2 : (dats m 0 c).arrAt 2 cfg0.N = prodT (hArr m c) (m ((c : Thread nD τ).loc main_arg2)) := by
  refine (dats m 0 c).arrAt_eq_of_covers 2 _ (by decide +kernel) fun t hf y => ?_
  blk_simp
  rw [after0_2]
  obtain ⟨a, j, rfl⟩ : ∃ (a : Fin 512) (j : Fin 6144), y = ix2 a j := ⟨y 0, y 1, eq_ix2 (n0 := 512) (n1 := 6144) y⟩
  have e : (win0_2.blk t).view.emb (ix2 a j) = ix2 (rowOf t a) j := by
    blk_point [idx t]
    rfl
  refine Eq.trans ?_ (congrArg _ e.symm)
  exact u_tile m c t a j

theorem final3 : (dats m 0 c).arrAt 3 cfg0.N = act (prodT (hArr m c) (m ((c : Thread nD τ).loc main_arg2))) := by
  refine (dats m 0 c).arrAt_eq_of_covers 3 _ (by decide +kernel) fun t hf y => ?_
  blk_simp
  rw [after0_3]
  obtain ⟨a, j, rfl⟩ : ∃ (a : Fin 512) (j : Fin 3072), y = ix2 a j := ⟨y 0, y 1, eq_ix2 (n0 := 512) (n1 := 3072) y⟩
  have e : (win0_3.blk t).view.emb (ix2 a j) = ix2 (rowOf t a) j := by
    blk_point [idx t]
    rfl
  refine Eq.trans ?_ (congrArg _ e.symm)
  exact act_tile m c t a j

end Cert.Kernel8Ideal.Value
end
-- ==== Proof.Reference9Read.lean ====
module

public import proofs.«01_k».proof.Proof.Forward
public import proofs.«01_k».proof.Proof.Gen.Reference9Ideal.Read

/-! A feed-forward block's second product, norm and residual, and the next norm: what the reference computes. -/

@[expose] public section
set_option maxRecDepth 16384
noncomputable section
namespace Cert.Reference9Ideal.Value
open Idealize.ShloMosaic Idealize.ShloMosaic.TcCoe Idealize.SL.Sem
open Cert.Reference9Ideal Cert.Reference9Ideal.Gen Cert.Reference9Ideal.Read
open Cert.NormGrad Cert.GateGrad Cert.Forward

variable (x0 : FVec Ideal S4096x6144 .bf16) (x1 : FVec Ideal S3072x1024 .bf16) (x2 : FVec Ideal S4096x1024 .f32)
  (x3 x4 : FVec Ideal S1x1024 .f32)

theorem act_read (r : Fin 4096) (k : Fin 3072) : val_main_v8 (F := Ideal) x0 (ix2 r k) = act x0 (ix2 r k) := by
  pointwise [val_main_v8, val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2, val_main_v1, val_main_v0]
  rfl
theorem f_read (r : Fin 4096) (j : Fin 1024) : val_main_v10 (F := Ideal) x0 x1 (ix2 r j) = ffn x0 x1 (ix2 r j) := by
  pointwise [val_main_v10, val_main_v9]
  simp only [act_read]
  rfl
theorem f_array : val_main_v38 (F := Ideal) x0 x1 = ffn x0 x1 := by
  funext i
  obtain ⟨r, j, rfl⟩ : ∃ (r : Fin 4096) (j : Fin 1024), i = ix2 r j := ⟨i 0, i 1, eq_ix2 i⟩
  pointwise [val_main_v38]
  exact f_read x0 x1 r j
theorem x_read (r : Fin 4096) (j : Fin 1024) :
    val_main_v25 (F := Ideal) x0 x1 x2 x3 (ix2 r j) = addHalfNorm x2 (ffn x0 x1) x3 (ix2 r j) := by
  pointwise [val_main_v25, val_main_v24, val_main_v23, val_main_cst_2, val_main_v22, val_main_v21, val_main_v20, val_main_v19, val_main_v18,
    val_main_v17, val_main_v16, val_main_cst_1, val_main_v15, val_main_v14, val_main_cst_0, val_main_v13, val_main_v12, val_main_cst, val_main_v11]
  simp only [f_read]
  rfl
theorem x_array : val_main_v25 (F := Ideal) x0 x1 x2 x3 = addHalfNorm x2 (ffn x0 x1) x3 := by
  funext i
  obtain ⟨r, j, rfl⟩ : ∃ (r : Fin 4096) (j : Fin 1024), i = ix2 r j := ⟨i 0, i 1, eq_ix2 i⟩
  exact x_read x0 x1 x2 x3 r j
theorem h_array : val_main_v39 (F := Ideal) x0 x1 x2 x3 x4 = norm (addHalfNorm x2 (ffn x0 x1) x3) x4 := by
  funext i
  obtain ⟨r, j, rfl⟩ : ∃ (r : Fin 4096) (j : Fin 1024), i = ix2 r j := ⟨i 0, i 1, eq_ix2 i⟩
  pointwise [val_main_v39, val_main_v37, val_main_v36, val_main_v35, val_main_v34, val_main_v33, val_main_v32, val_main_v31, val_main_cst_5,
    val_main_v30, val_main_v29, val_main_cst_4, val_main_v28, val_main_v27, val_main_cst_3, val_main_v26]
  simp only [x_read]
  rfl

end Cert.Reference9Ideal.Value
end
-- ==== Proof.Kernel9Value.lean ====
module

public import proofs.«01_k».proof.Proof.Forward
public import proofs.«01_k».proof.Proof.Gen.Kernel9Ideal.Value

/-! A feed-forward block's second product, norm and residual, and the next norm: the kernel's three results after the whole grid. -/

@[expose] public section
set_option maxRecDepth 16384
noncomputable section
namespace Cert.Kernel9Ideal.Value
open Idealize.ShloMosaic Idealize.ShloMosaic.TcCoe Idealize.SL.Sem
open Idealize.ShloMosaic.Pipeline (Dat)
open Cert.Kernel9Ideal Cert.Kernel9Ideal.Gen
open Cert.NormGrad Cert.GateGrad Cert.Forward

/-! ## One grid point: a tile of 512 rows -/

section tile
variable (v0 : Vec Ideal S512x3072 .bf16) (v2 : Vec Ideal S3072x1024 .bf16) (v6 : Vec Ideal S512x1024 .f32) (v7 v24 : Vec Ideal S1x1024 .f32)
  (a : Fin 512) (j : Fin 1024)

/-- A row of the block's result: half of the norm of the product, added to the residual. -/
def xRow : Row := fun j => v6 (ix2 a j) + half * (prod v0 v2 a j * NormGrad.inv (prod v0 v2 a) * v7 (ix2 0 j))

theorem prod_tile : k0_pay2 (F := Ideal) v0 v2 (ix2 a j) = prod v0 v2 a j := by
  pointwise [k0_pay2]
  rfl
theorem f_tile : k0_pay3 (F := Ideal) v0 v2 (ix2 a j) = prod v0 v2 a j := by
  pointwise [k0_pay3]
  exact prod_tile v0 v2 a j
theorem x_tile : k0_pay4 (F := Ideal) v0 v2 v6 v7 (ix2 a j) = xRow v0 v2 v6 v7 a j := by
  pointwise [k0_pay4]
  simp only [prod_tile]
  rfl
theorem h_tile : k0_pay1 (F := Ideal) v24 (k0_pay5 v0 v2 v6 v7) (ix2 a j)
    = xRow v0 v2 v6 v7 a j * NormGrad.inv (xRow v0 v2 v6 v7 a) * v24 (ix2 0 j) := by
  pointwise [k0_pay1, k0_pay5]
  simp only [x_tile]
  rfl
end tile

/-! ## The whole grid -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

/-- What the lines before the call leave: the activations. -/
theorem saved : V m c main_v9 = act (m ((c : Thread nD τ).loc main_arg0)) := by
  unfold V
  simp only [hostOps0, hostOps0_1, hostOps0_2, List.flatten_cons, List.flatten_nil, List.cons_append, List.nil_append]
  after_results_simp
  simp -implicitDefEqProofs only [StableHlo.TRef.toBuf, StableHlo.TRef.ofBuf, cast_cast, cast_eq]
  funext i
  obtain ⟨r, k, rfl⟩ : ∃ (r : Fin 4096) (k : Fin 3072), i = ix2 r k := ⟨i 0, i 1, eq_ix2 i⟩
  pointwise []
  rfl

/-- The block's output before its norm. -/
def fArr : Rows := ffn (m ((c : Thread nD τ).loc main_arg0)) (m ((c : Thread nD τ).loc main_arg1))
/-- The block's result. -/
def xArr : Rows := addHalfNorm (m ((c : Thread nD τ).loc main_arg2)) (fArr m c) (m ((c : Thread nD τ).loc main_arg3))

theorem f_blk (t : Fin cfg0.N) (a : Fin 512) : prod (iblk m c 0 t) (iblk m c 1 t) a = row (fArr m c) (rowOf t a) := by
  refine prod_congr (fun k => ?_) (fun k j => ?_)
  · rw [← saved m c]
    blk_point [iblk, idx t]
  · blk_point [iblk, V, idx t]
theorem res_blk (t : Fin cfg0.N) (a : Fin 512) (j : Fin 1024) :
    (iblk m c 2 t : Vec Ideal S512x1024 .f32) (ix2 a j) = m ((c : Thread nD τ).loc main_arg2) (ix2 (rowOf t a) j) := by
  blk_point [iblk, V, idx t]
  rfl
theorem g_blk (t : Fin cfg0.N) : (iblk m c 3 t : Vec Ideal S1x1024 .f32) = m ((c : Thread nD τ).loc main_arg3) := by
  funext i
  blk_point [iblk, V, idx t]
theorem gn_blk (t : Fin cfg0.N) : (iblk m c 4 t : Vec Ideal S1x1024 .f32) = m ((c : Thread nD τ).loc main_arg4) := by
  funext i
  blk_point [iblk, V, idx t]
theorem x_blk (t : Fin cfg0.N) (a : Fin 512) :
    xRow (iblk m c 0 t) (iblk m c 1 t) (iblk m c 2 t) (iblk m c 3 t) a = row (xArr m c) (rowOf t a) := by
  funext j
  unfold xRow
  rw [f_blk, res_blk, g_blk]
  rfl

theorem final5 : (dats m 0 c).arrAt 5 cfg0.N = fArr m c := by
  refine (dats m 0 c).arrAt_eq_of_covers 5 _ (by decide +kernel) fun t hf y => ?_
  blk_simp
  rw [after0_5]
  frame_out
  obtain ⟨a, j, rfl⟩ : ∃ (a : Fin 512) (j : Fin 1024), y = ix2 a j := ⟨y 0, y 1, eq_ix2 (n0 := 512) (n1 := 1024) y⟩
  have e : (win0_5.blk t).view.emb (ix2 a j) = ix2 (rowOf t a) j := by
    blk_point [idx t]
    rfl
  refine Eq.trans ?_ (congrArg _ e.symm)
  rw [f_tile, f_blk]
  rfl

theorem final6 : (dats m 0 c).arrAt 6 cfg0.N = xArr m c := by
  refine (dats m 0 c).arrAt_eq_of_covers 6 _ (by decide +kernel) fun t hf y => ?_
  blk_simp
  rw [after0_6]
  frame_out
  obtain ⟨a, j, rfl⟩ : ∃ (a : Fin 512) (j : Fin 1024), y = ix2 a j := ⟨y 0, y 1, eq_ix2 (n0 := 512) (n1 := 1024) y⟩
  have e : (win0_6.blk t).view.emb (ix2 a j) = ix2 (rowOf t a) j := by
    blk_point [idx t]
    rfl
  refine Eq.trans ?_ (congrArg _ e.symm)
  rw [x_tile, x_blk]
  rfl

theorem final7 : (dats m 0 c).arrAt 7 cfg0.N = norm (xArr m c) (m ((c : Thread nD τ).loc main_arg4)) := by
  refine (dats m 0 c).arrAt_eq_of_covers 7 _ (by decide +kernel) fun t hf y => ?_
  blk_simp
  rw [after0_7]
  frame_out
  obtain ⟨a, j, rfl⟩ : ∃ (a : Fin 512) (j : Fin 1024), y = ix2 a j := ⟨y 0, y 1, eq_ix2 (n0 := 512) (n1 := 1024) y⟩
  have e : (win0_7.blk t).view.emb (ix2 a j) = ix2 (rowOf t a) j := by
    blk_point [idx t]
    rfl
  refine Eq.trans ?_ (congrArg _ e.symm)
  rw [h_tile, x_blk, gn_blk]
  rfl

end Cert.Kernel9Ideal.Value
end
-- ==== Proof.LossHead.lean ====
module

public import proofs.«01_k».proof.Proof.Forward

/-! The loss head: half of the mean square of the normed rows' distances from their targets, summed over the rows, and its gradient.

The kernel halves the sum of each tile and the reference halves the sum of all. The kernel multiplies a distance by 1/1024 and the
reference by (1/2 * 1)/1024 and by 2. Both hold at every extended real. -/

@[expose] public section
noncomputable section
namespace Cert.LossHead
open Idealize.ShloMosaic Cert.NormGrad Cert.GateGrad Cert.Forward

/-- A row's distances from the target's row `t`. -/
def dist (x : Row) (g : Gain) (t : Row) : Row := fun j => x j * NormGrad.inv x * g (ix2 0 j) - t j
/-- The mean of the squares of a row of distances. -/
def meanDist (e : Row) : EReal := Ideal.div (∑ j, e j * e j) width
/-- One part in 1024, as a 32-bit word. -/
def part : EReal := Ideal.ofBits FTy.f32 981467136#32
/-- Two, as a 32-bit word. -/
def two : EReal := Ideal.ofBits FTy.f32 1073741824#32
/-- The cotangent of a row of distances. -/
def ddist (e : Row) : Row := fun j => e j * part

/-- The distances of row `r`. -/
def distRow (x : Rows) (g : Gain) (t : Rows) (r : Fin 4096) : Row := dist (row x r) g (row t r)
/-- The loss. -/
def loss (x : Rows) (g : Gain) (t : Rows) : EReal := half * ∑ r, meanDist (distRow x g t r)
/-- The cotangents of the normed rows. -/
def cot (x : Rows) (g : Gain) (t : Rows) (r : Fin 4096) : Row := ddist (distRow x g t r)
/-- The gradient of the head's input. -/
def dhead (x : Rows) (g : Gain) (t : Rows) : Rows := fun i => drow (row x (i 0)) (gained g (cot x g t (i 0))) (i 1)

/-- The result of the feed-forward block that the head follows. -/
def blockOut (x : Rows) (g : Gain) (w : (⟨2, ![6144, 1024]⟩ : Shape).Idx → EReal) (g' : Gain) (w' : (⟨2, ![3072, 1024]⟩ : Shape).Idx → EReal) : Rows :=
  addHalfNorm x (ffn (prodT (norm x g) w) w') g'

theorem part_eq : part = ((1 / 1024 : ℝ) : EReal) := by
  unfold part
  simp [Ideal.ofBits, Ideal.ieee]
  rw [← EReal.coe_mul]
  congr 1
  norm_num
theorem two_eq : two = ((2 : ℝ) : EReal) := by
  unfold two
  simp [Ideal.ofBits, Ideal.ieee]
  rw [← EReal.coe_mul]
  congr 1
  norm_num
theorem width_eq : width = ((1024 : ℝ) : EReal) := by
  unfold width
  simp [Ideal.ofBits, Ideal.ieee]
  rw [← EReal.coe_mul]
  congr 1
  norm_num

/-- The cotangent of a distance as the reference takes it. -/
theorem ddist_eq (e : EReal) : Ideal.div half width * (two * e) = e * part := by
  rw [half_eq, width_eq, two_eq, part_eq, Ideal.div_coe (by norm_num), ← EReal.coe_mul, ← mul_assoc, ← EReal.coe_mul, mul_comm]
  congr 2
  norm_num

/-- Half of a sum is the sum of the halves. -/
theorem half_sum {ι : Type} (s : Finset ι) (f : ι → EReal) : half * ∑ i ∈ s, f i = ∑ i ∈ s, half * f i := by
  classical
  induction s using Finset.induction_on with
  | empty => rw [Finset.sum_empty, Finset.sum_empty, mul_zero]
  | insert a s h ih =>
    rw [Finset.sum_insert h, Finset.sum_insert h, ← ih]
    refine EReal.left_distrib_of_nonneg_of_ne_top ?_ ?_ _ _
    · rw [half_eq]
      exact EReal.coe_nonneg.2 (by norm_num)
    · rw [half_eq]
      exact EReal.coe_ne_top _

end Cert.LossHead
end
-- ==== Proof.Reference10Read.lean ====
module

public import proofs.«01_k».proof.Proof.LossHead
public import proofs.«01_k».proof.Proof.Gen.Reference10Ideal.Read

/-! The last feed-forward block with the loss and its gradient: what the reference computes. -/

@[expose] public section
set_option maxRecDepth 16384
noncomputable section
namespace Cert.Reference10Ideal.Value
open Idealize.ShloMosaic Idealize.ShloMosaic.TcCoe Idealize.SL.Sem
open Cert.Reference10Ideal Cert.Reference10Ideal.Gen Cert.Reference10Ideal.Read
open Cert.NormGrad Cert.GateGrad Cert.Forward Cert.LossHead

variable (x0 : FVec Ideal S4096x1024 .f32) (x1 : FVec Ideal S1x1024 .f32) (x2 : FVec Ideal S6144x1024 .bf16)
  (x3 : FVec Ideal S1x1024 .f32) (x4 : FVec Ideal S3072x1024 .bf16) (x5 : FVec Ideal S1x1024 .f32) (x6 : FVec Ideal S4096x1024 .f32)

theorem norm_read (r : Fin 4096) (j : Fin 1024) : val_main_v11 (F := Ideal) x0 x1 (ix2 r j) = norm x0 x1 (ix2 r j) := by
  pointwise [val_main_v11, val_main_v10, val_main_v9, val_main_v8, val_main_v7, val_main_v6, val_main_v5, val_main_cst_1, val_main_v4,
    val_main_v3, val_main_cst_0, val_main_v2, val_main_v1, val_main_cst, val_main_v0]
  rfl
theorem pre_read (r : Fin 4096) (c : Fin 6144) : val_main_v14 (F := Ideal) x0 x1 x2 (ix2 r c) = prodT (norm x0 x1) x2 (ix2 r c) := by
  pointwise [val_main_v14, val_main_v13, val_main_v12]
  simp only [norm_read]
  rfl
theorem pre_array : val_main_v90 (F := Ideal) x0 x1 x2 = prodT (norm x0 x1) x2 := by
  funext i
  obtain ⟨r, c, rfl⟩ : ∃ (r : Fin 4096) (c : Fin 6144), i = ix2 r c := ⟨i 0, i 1, eq_ix2 i⟩
  pointwise [val_main_v90]
  exact pre_read x0 x1 x2 r c
theorem act_read (r : Fin 4096) (k : Fin 3072) : val_main_v22 (F := Ideal) x0 x1 x2 (ix2 r k) = act (prodT (norm x0 x1) x2) (ix2 r k) := by
  pointwise [val_main_v22, val_main_v21, val_main_v20, val_main_v19, val_main_v18, val_main_v17, val_main_call0_v5, val_main_call0_v4, val_main_call0_cst_0,
    val_main_call0_v3, val_main_call0_v2, val_main_call0_cst, val_main_call0_v1, val_main_call0_v0, val_main_v16, val_main_v15]
  simp only [pre_read]
  rfl
theorem act_array : val_main_v91 (F := Ideal) x0 x1 x2 = act (prodT (norm x0 x1) x2) := by
  funext i
  obtain ⟨r, k, rfl⟩ : ∃ (r : Fin 4096) (k : Fin 3072), i = ix2 r k := ⟨i 0, i 1, eq_ix2 i⟩
  pointwise [val_main_v91]
  exact act_read x0 x1 x2 r k
theorem f_read (r : Fin 4096) (j : Fin 1024) : val_main_v24 (F := Ideal) x0 x1 x2 x4 (ix2 r j) = ffn (prodT (norm x0 x1) x2) x4 (ix2 r j) := by
  pointwise [val_main_v24, val_main_v23]
  simp only [act_read]
  rfl
theorem f_array : val_main_v92 (F := Ideal) x0 x1 x2 x4 = ffn (prodT (norm x0 x1) x2) x4 := by
  funext i
  obtain ⟨r, j, rfl⟩ : ∃ (r : Fin 4096) (j : Fin 1024), i = ix2 r j := ⟨i 0, i 1, eq_ix2 i⟩
  pointwise [val_main_v92]
  exact f_read x0 x1 x2 x4 r j
theorem x_read (r : Fin 4096) (j : Fin 1024) :
    val_main_v39 (F := Ideal) x0 x1 x2 x3 x4 (ix2 r j) = blockOut x0 x1 x2 x3 x4 (ix2 r j) := by
  pointwise [val_main_v39, val_main_v38, val_main_v37, val_main_cst_5, val_main_v36, val_main_v35, val_main_v34, val_main_v33, val_main_v32,
    val_main_v31, val_main_v30, val_main_cst_4, val_main_v29, val_main_v28, val_main_cst_3, val_main_v27, val_main_v26, val_main_cst_2, val_main_v25]
  simp only [f_read]
  rfl

/-! ## The loss head, of the block's result -/

theorem inv_read (r : Fin 4096) (z : Fin 1) : val_main_v47 (F := Ideal) x0 x1 x2 x3 x4 (ix2 r z)
    = NormGrad.inv (row (blockOut x0 x1 x2 x3 x4) r) := by
  pointwise [val_main_v47, val_main_v46, val_main_v45, val_main_cst_8, val_main_v44, val_main_v43, val_main_cst_7, val_main_v42, val_main_v41,
    val_main_cst_6, val_main_v40]
  simp only [x_read]
  rfl
theorem scale_read (r : Fin 4096) (z : Fin 1) : val_main_v50 (F := Ideal) x0 x1 x2 x3 x4 (ix2 r z)
    = Ideal.ofBits FTy.f32 3204448256#32 * Ideal.div (NormGrad.inv (row (blockOut x0 x1 x2 x3 x4) r))
      (meanSq (row (blockOut x0 x1 x2 x3 x4) r)) := by
  pointwise [val_main_v50, val_main_v49, val_main_cst_9, val_main_v48, val_main_v46, val_main_v45, val_main_cst_8, val_main_v44, val_main_v43,
    val_main_cst_7, val_main_v42, val_main_v41, val_main_cst_6, val_main_v40]
  simp only [inv_read, x_read]
  rfl
theorem dist_read (r : Fin 4096) (j : Fin 1024) : val_main_v55 (F := Ideal) x0 x1 x2 x3 x4 x5 x6 (ix2 r j)
    = distRow (blockOut x0 x1 x2 x3 x4) x5 x6 r j := by
  pointwise [val_main_v55, val_main_v54, val_main_v53, val_main_v52, val_main_v51]
  simp only [inv_read, x_read]
  rfl
theorem loss_read (i : S_.Idx) : val_main_v63 (F := Ideal) x0 x1 x2 x3 x4 x5 x6 i = loss (blockOut x0 x1 x2 x3 x4) x5 x6 := by
  have h (r : Fin 4096) : val_main_v61 (F := Ideal) x0 x1 x2 x3 x4 x5 x6 (ix1 r)
      = meanDist (distRow (blockOut x0 x1 x2 x3 x4) x5 x6 r) := by
    pointwise [val_main_v61, val_main_v60, val_main_cst_12, val_main_v59, val_main_cst_11, val_main_v56]
    simp only [dist_read]
    rfl
  pointwise [val_main_v63, val_main_cst_14, val_main_v62, val_main_cst_13]
  simp only [h]
  rfl
theorem loss_array : val_main_v89 (F := Ideal) x0 x1 x2 x3 x4 x5 x6 = fun _ => loss (blockOut x0 x1 x2 x3 x4) x5 x6 := by
  funext i
  obtain ⟨z, l, rfl⟩ : ∃ (z : Fin 1) (l : Fin 128), i = ix2 z l := ⟨i 0, i 1, eq_ix2 i⟩
  pointwise [val_main_v89]
  exact loss_read x0 x1 x2 x3 x4 x5 x6 _
theorem cot_read (r : Fin 4096) (j : Fin 1024) : val_main_v69 (F := Ideal) x0 x1 x2 x3 x4 x5 x6 (ix2 r j)
    = cot (blockOut x0 x1 x2 x3 x4) x5 x6 r j := by
  refine Eq.trans ?_ (ddist_eq _)
  pointwise [val_main_v69, val_main_v68, val_main_v67, val_main_v66, val_main_cst_17, val_main_v65, val_main_v64, val_main_cst_15, val_main_cst_16,
    val_main_v58, val_main_v57, val_main_cst_10]
  simp only [dist_read]
  rfl
theorem dg_array : val_main_v72 (F := Ideal) x0 x1 x2 x3 x4 x5 x6 = dgain (blockOut x0 x1 x2 x3 x4)
    (cot (blockOut x0 x1 x2 x3 x4) x5 x6) := by
  funext i
  obtain ⟨z, j, rfl⟩ : ∃ (z : Fin 1) (j : Fin 1024), i = ix2 z j := ⟨i 0, i 1, eq_ix2 i⟩
  pointwise [val_main_v72, val_main_v71, val_main_cst_18, val_main_v70, val_main_v52, val_main_v51]
  simp only [cot_read, inv_read, x_read]
  rfl
theorem dx_array : val_main_v88 (F := Ideal) x0 x1 x2 x3 x4 x5 x6 = dhead (blockOut x0 x1 x2 x3 x4) x5 x6 := by
  funext i
  obtain ⟨r, j, rfl⟩ : ∃ (r : Fin 4096) (j : Fin 1024), i = ix2 r j := ⟨i 0, i 1, eq_ix2 i⟩
  pointwise [val_main_v88, val_main_v87, val_main_v86, val_main_v85, val_main_v84, val_main_v83, val_main_cst_21, val_main_v82, val_main_v81,
    val_main_cst_20, val_main_v80, val_main_v79, val_main_v78, val_main_v77, val_main_v76, val_main_cst_19, val_main_v75, val_main_v74, val_main_v73]
  simp only [cot_read, inv_read, scale_read, x_read, Finset.univ_unique, Finset.sum_singleton]
  rfl

end Cert.Reference10Ideal.Value
end
-- ==== Proof.Kernel10Tile.lean ====
module

public import proofs.«01_k».proof.Proof.LossHead
public import proofs.«01_k».proof.Proof.Gen.Kernel10Ideal.Value

/-! The last feed-forward block with the loss and its gradient: one grid point's tile of the kernel. -/

@[expose] public section
set_option maxRecDepth 16384
noncomputable section
namespace Cert.Kernel10Ideal.Value
open Idealize.ShloMosaic Idealize.ShloMosaic.TcCoe Idealize.SL.Sem
open Cert.Kernel10Ideal Cert.Kernel10Ideal.Gen
open Cert.NormGrad Cert.GateGrad Cert.Forward Cert.LossHead

/-! ## One grid point and one group of columns: 768 gates and 768 values -/

section group
variable (h : Vec Ideal S256x1024 .bf16) (w : Vec Ideal S1536x1024 .bf16) (a : Fin 256) (b : Fin 1536) (k : Fin 768)

/-- An entry of the product. -/
def entry : EReal := prodT h w (ix2 a b)
/-- An activation of the group. -/
def acted : EReal := entry h w a ⟨k.val, by omega⟩ * tanhSig (entry h w a ⟨k.val, by omega⟩) * entry h w a ⟨768 + k.val, by omega⟩

theorem pre0 : k0_pay5 (F := Ideal) h w (ix2 a b) = entry h w a b := by
  pointwise [k0_pay5, k0_pay4, k0_pay3]
  rfl
theorem pre1 : k0_pay8 (F := Ideal) h w (ix2 a b) = entry h w a b := by
  pointwise [k0_pay8, k0_pay7, k0_pay3]
  rfl
theorem pre2 : k0_pay11 (F := Ideal) (k0_pay3 h) w (ix2 a b) = entry h w a b := by
  pointwise [k0_pay11, k0_pay10, k0_pay3]
  rfl
theorem pre3 : k0_pay14 (F := Ideal) (k0_pay3 h) w (ix2 a b) = entry h w a b := by
  pointwise [k0_pay14, k0_pay13, k0_pay3]
  rfl
theorem act0 : k0_pay6 (F := Ideal) h w (ix2 a k) = acted h w a k := by
  pointwise [k0_pay6, k0_pay4, k0_pay3]
  rfl
theorem act1 : k0_pay9 (F := Ideal) h w (ix2 a k) = acted h w a k := by
  pointwise [k0_pay9, k0_pay7, k0_pay3]
  rfl
theorem act2 : k0_pay12 (F := Ideal) (k0_pay3 h) w (ix2 a k) = acted h w a k := by
  pointwise [k0_pay12, k0_pay10, k0_pay3]
  rfl
theorem act3 : k0_pay15 (F := Ideal) (k0_pay3 h) w (ix2 a k) = acted h w a k := by
  pointwise [k0_pay15, k0_pay13, k0_pay3]
  rfl

variable {h w a b k} {H : Rows} {W : Vec Ideal S6144x1024 .bf16} {r : Fin 4096}

theorem entry_part (c : Fin 6144) (hh : ∀ t, h (ix2 a t) = H (ix2 r t)) (hw : ∀ t, w (ix2 b t) = W (ix2 c t)) :
    entry h w a b = prodT H W (ix2 r c) :=
  prodT_congr hh hw
/-- The group's activations are columns of the whole array of activations. -/
theorem acted_part (g : ℕ) (hg : g < 4) (hh : ∀ t, h (ix2 a t) = H (ix2 r t))
    (hw : ∀ (b : Fin 1536) (t : Fin 1024), w (ix2 b t) = W (ix2 ⟨1536 * g + b.val, by omega⟩ t)) {d : Fin 3072} (hd : d.val = 768 * g + k.val) :
    acted h w a k = act (prodT H W) (ix2 r d) := by
  refine act_eq _ r d (entry_part _ hh fun t => ?_) (entry_part _ hh fun t => ?_)
  · rw [hw]
    congr 2
    exact Fin.ext (by show 1536 * g + k.val = d.val / 768 * 1536 + d.val % 768; omega)
  · rw [hw]
    congr 2
    exact Fin.ext (by show 1536 * g + (768 + k.val) = d.val / 768 * 1536 + 768 + d.val % 768; omega)
end group

/-! ## One grid point: the block's result and the loss head -/

section tile
variable (v70 : Vec Ideal S256x3072 .bf16) (v72 : Vec Ideal S3072x1024 .bf16) (v76 : Vec Ideal S256x1024 .f32) (v77 v93 : Vec Ideal S1x1024 .f32)
  (v109 : Vec Ideal S256x1024 .f32) (a : Fin 256) (j : Fin 1024)

/-- A row of the block's result: half of the norm of the product, added to the residual. -/
def xRow : Row := fun j => v76 (ix2 a j) + half * (prod v70 v72 a j * NormGrad.inv (prod v70 v72 a) * v77 (ix2 0 j))
/-- A row's distances from the targets. -/
def eRow : Row := dist (xRow v70 v72 v76 v77 a) v93 fun j => v109 (ix2 a j)

theorem prod_tile : k0_pay16 (F := Ideal) v70 v72 (ix2 a j) = prod v70 v72 a j := by
  pointwise [k0_pay16]
  rfl
theorem f_tile : k0_pay17 (F := Ideal) v70 v72 (ix2 a j) = prod v70 v72 a j := by
  pointwise [k0_pay17]
  exact prod_tile v70 v72 a j
theorem x_tile : k0_pay18 (F := Ideal) v70 v72 v76 v77 (ix2 a j) = xRow v70 v72 v76 v77 a j := by
  pointwise [k0_pay18]
  simp only [prod_tile]
  rfl
theorem meanSq_tile (z : Fin 1) : k0_pay19 (F := Ideal) v70 v72 v76 v77 (ix2 a z) = meanSq (xRow v70 v72 v76 v77 a) := by
  pointwise [k0_pay19]
  simp only [x_tile]
  rfl
theorem inv_tile (z : Fin 1) : k0_pay20 (F := Ideal) v70 v72 v76 v77 (ix2 a z) = NormGrad.inv (xRow v70 v72 v76 v77 a) := by
  pointwise [k0_pay20]
  rw [meanSq_tile]
  rfl
theorem scale_tile (z : Fin 1) : k0_pay21 (F := Ideal) v70 v72 v76 v77 (ix2 a z)
    = Ideal.ofBits FTy.f32 3204448256#32 * Ideal.div (NormGrad.inv (xRow v70 v72 v76 v77 a)) (meanSq (xRow v70 v72 v76 v77 a)) := by
  pointwise [k0_pay21]
  rw [meanSq_tile, inv_tile]
theorem normed_tile : k0_pay22 (F := Ideal) v70 v72 v76 v77 (ix2 a j)
    = xRow v70 v72 v76 v77 a j * NormGrad.inv (xRow v70 v72 v76 v77 a) := by
  pointwise [k0_pay22]
  rw [x_tile, inv_tile]
theorem dist_tile : k0_pay23 (F := Ideal) v93 (k0_pay22 v70 v72 v76 v77) v109 (ix2 a j) = eRow v70 v72 v76 v77 v93 v109 a j := by
  pointwise [k0_pay23]
  rw [normed_tile]
  rfl
theorem loss_tile (z w : Fin 1) : k0_pay24 (F := Ideal) v93 (k0_pay22 v70 v72 v76 v77) v109 (ix2 z w)
    = half * ∑ a, meanDist (eRow v70 v72 v76 v77 v93 v109 a) := by
  pointwise [k0_pay24]
  simp only [dist_tile, Finset.univ_unique, Finset.sum_singleton]
  rfl
theorem lossOut_tile (z : Fin 1) (l : Fin 128) : k0_pay28 (F := Ideal) v93 (k0_pay22 v70 v72 v76 v77) v109 (ix2 z l)
    = half * ∑ a, meanDist (eRow v70 v72 v76 v77 v93 v109 a) := by
  pointwise [k0_pay28]
  exact loss_tile v70 v72 v76 v77 v93 v109 _ _
theorem cot_tile : k0_pay25 (F := Ideal) v93 (k0_pay22 v70 v72 v76 v77) v109 (ix2 a j) = ddist (eRow v70 v72 v76 v77 v93 v109 a) j := by
  pointwise [k0_pay25]
  rw [dist_tile]
  rfl
theorem dg_tile (z : Fin 1) : k0_pay26 (F := Ideal) v93 (k0_pay22 v70 v72 v76 v77) v109 (ix2 z j)
    = ∑ a, dgainRow (xRow v70 v72 v76 v77 a) (ddist (eRow v70 v72 v76 v77 v93 v109 a)) j := by
  pointwise [k0_pay26]
  simp only [cot_tile, normed_tile]
  rfl
theorem dx_tile : k0_pay27 (F := Ideal) (k0_pay18 v70 v72 v76 v77) v93 (k0_pay20 v70 v72 v76 v77) (k0_pay21 v70 v72 v76 v77)
      (k0_pay22 v70 v72 v76 v77) v109 (ix2 a j)
    = drow (xRow v70 v72 v76 v77 a) (gained v93 (ddist (eRow v70 v72 v76 v77 v93 v109 a))) j := by
  pointwise [k0_pay27]
  simp only [cot_tile, x_tile, inv_tile, scale_tile, Finset.univ_unique, Finset.sum_singleton]
  rfl
end tile

/-! ## The whole grid -/

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

/-- The row of the arrays that row `a` of grid point `t`'s tile is. -/
def rowOf (t : Fin cfg0.N) (a : Fin 256) : Fin 4096 :=
  ⟨t.val * 256 + a.val, by have h : t.val < 16 := Nat.lt_of_lt_of_eq t.isLt N_0; omega⟩

variable (c : Dev nD)

/-- The normed input. -/
def hArr : Rows := norm (m ((c : Thread nD τ).loc main_arg0)) (m ((c : Thread nD τ).loc main_arg1))
/-- The first product. -/
def uArr : Pre := prodT (hArr m c) (m ((c : Thread nD τ).loc main_arg2))
/-- The second product. -/
def fArr : Rows := ffn (uArr m c) (m ((c : Thread nD τ).loc main_arg4))
/-- The block's result. -/
def xArr : Rows := addHalfNorm (m ((c : Thread nD τ).loc main_arg0)) (fArr m c) (m ((c : Thread nD τ).loc main_arg3))

/-- What the lines before the call leave: the normed input. -/
theorem saved : V m c main_v12 = hArr m c := by
  unfold V
  after_results
  funext i
  obtain ⟨r, j, rfl⟩ : ∃ (r : Fin 4096) (j : Fin 1024), i = ix2 r j := ⟨i 0, i 1, eq_ix2 i⟩
  pointwise []
  rfl

theorem h_blk (t : Fin cfg0.N) (a : Fin 256) (j : Fin 1024) :
    (iblk m c 0 t : Vec Ideal S256x1024 .bf16) (ix2 a j) = hArr m c (ix2 (rowOf t a) j) := by
  rw [← saved m c]
  blk_point [iblk, idx t]
  rfl
theorem w_blk (t : Fin cfg0.N) : (iblk m c 1 t : Vec Ideal S6144x1024 .bf16) = m ((c : Thread nD τ).loc main_arg2) := by
  funext i
  blk_point [iblk, V, idx t]
theorem wo_blk (t : Fin cfg0.N) : (iblk m c 2 t : Vec Ideal S3072x1024 .bf16) = m ((c : Thread nD τ).loc main_arg4) := by
  funext i
  blk_point [iblk, V, idx t]
theorem res_blk (t : Fin cfg0.N) (a : Fin 256) (j : Fin 1024) :
    (iblk m c 3 t : Vec Ideal S256x1024 .f32) (ix2 a j) = m ((c : Thread nD τ).loc main_arg0) (ix2 (rowOf t a) j) := by
  blk_point [iblk, V, idx t]
  rfl
theorem g_blk (t : Fin cfg0.N) : (iblk m c 4 t : Vec Ideal S1x1024 .f32) = m ((c : Thread nD τ).loc main_arg3) := by
  funext i
  blk_point [iblk, V, idx t]
theorem gl_blk (t : Fin cfg0.N) : (iblk m c 5 t : Vec Ideal S1x1024 .f32) = m ((c : Thread nD τ).loc main_arg5) := by
  funext i
  blk_point [iblk, V, idx t]
theorem tgt_blk (t : Fin cfg0.N) (a : Fin 256) (j : Fin 1024) :
    (iblk m c 6 t : Vec Ideal S256x1024 .f32) (ix2 a j) = m ((c : Thread nD τ).loc main_arg6) (ix2 (rowOf t a) j) := by
  blk_point [iblk, V, idx t]
  rfl

section rows
variable {m c} {t : Fin cfg0.N} {acts : Vec Ideal S256x3072 .bf16} (hacts : ∀ a k, acts (ix2 a k) = act (uArr m c) (ix2 (rowOf t a) k))
include hacts
theorem f_blk (a : Fin 256) : prod acts (iblk m c 2 t : Vec Ideal S3072x1024 .bf16) a = row (fArr m c) (rowOf t a) :=
  prod_congr (fun k => hacts a k) (fun k j => by rw [wo_blk])
theorem x_blk (a : Fin 256) : xRow acts (iblk m c 2 t) (iblk m c 3 t) (iblk m c 4 t) a = row (xArr m c) (rowOf t a) := by
  funext j
  unfold xRow
  rw [f_blk hacts, res_blk, g_blk]
  rfl
theorem e_blk (a : Fin 256) : eRow acts (iblk m c 2 t) (iblk m c 3 t) (iblk m c 4 t) (iblk m c 5 t) (iblk m c 6 t) a
    = distRow (xArr m c) (m ((c : Thread nD τ).loc main_arg5)) (m ((c : Thread nD τ).loc main_arg6)) (rowOf t a) := by
  unfold eRow
  rw [x_blk hacts, gl_blk, funext fun j => tgt_blk m c t a j]
  rfl
end rows

end Cert.Kernel10Ideal.Value
end
-- ==== Proof.Kernel10Value.lean ====
module

public import proofs.«01_k».proof.Proof.Kernel10Tile

/-! The last feed-forward block with the loss and its gradient: the kernel's six results after the whole grid. -/

@[expose] public section
set_option maxRecDepth 16384
noncomputable section
namespace Cert.Kernel10Ideal.Value
open Idealize.ShloMosaic Idealize.ShloMosaic.TcCoe Idealize.SL.Sem
open Idealize.ShloMosaic.Pipeline (Dat)
open Cert.Kernel10Ideal Cert.Kernel10Ideal.Gen
open Cert.NormGrad Cert.GateGrad Cert.Forward Cert.LossHead

variable (m : (ℓ : Loc nD τ sig) → Buf (Elt Ideal) ℓ) (c : Dev nD)

/-! ## The first product and the activations: four groups of columns -/

/-- What grid point `t` stores into its tile of the first product. -/
abbrev uPieces (t : Fin cfg0.N) : List (View.Piece (Elt Ideal) S256x6144 .bf16) := [⟨Rect.unit ![0, 4608] ![256, 1536] inb_S256x6144_S256x1536_0_4608, k0_pay14 (k0_pay3 (iblk m c 0 t))
    (View.ld (iblk m c 1 t) (Rect.unit ![4608, 0] ![1536, 1024] inb_S6144x1024_S1536x1024_4608_0))⟩,
  ⟨Rect.unit ![0, 3072] ![256, 1536] inb_S256x6144_S256x1536_0_3072, k0_pay11 (k0_pay3 (iblk m c 0 t))
    (View.ld (iblk m c 1 t) (Rect.unit ![3072, 0] ![1536, 1024] inb_S6144x1024_S1536x1024_3072_0))⟩,
  ⟨Rect.unit ![0, 1536] ![256, 1536] inb_S256x6144_S256x1536_0_1536, k0_pay8 (iblk m c 0 t)
    (View.ld (iblk m c 1 t) (Rect.unit ![1536, 0] ![1536, 1024] inb_S6144x1024_S1536x1024_1536_0))⟩,
  ⟨Rect.unit ![0, 0] ![256, 1536] inb_S256x6144_S256x1536_0_0, k0_pay5 (iblk m c 0 t)
    (View.ld (iblk m c 1 t) (Rect.unit ![0, 0] ![1536, 1024] inb_S6144x1024_S1536x1024_0_0))⟩]
/-- What grid point `t` stores into its tile of the activations. -/
abbrev actPieces (t : Fin cfg0.N) : List (View.Piece (Elt Ideal) S256x3072 .bf16) := [⟨Rect.unit ![0, 2304] ![256, 768] inb_S256x3072_S256x768_0_2304, k0_pay15 (k0_pay3 (iblk m c 0 t))
    (View.ld (iblk m c 1 t) (Rect.unit ![4608, 0] ![1536, 1024] inb_S6144x1024_S1536x1024_4608_0))⟩,
  ⟨Rect.unit ![0, 1536] ![256, 768] inb_S256x3072_S256x768_0_1536, k0_pay12 (k0_pay3 (iblk m c 0 t))
    (View.ld (iblk m c 1 t) (Rect.unit ![3072, 0] ![1536, 1024] inb_S6144x1024_S1536x1024_3072_0))⟩,
  ⟨Rect.unit ![0, 768] ![256, 768] inb_S256x3072_S256x768_0_768, k0_pay9 (iblk m c 0 t)
    (View.ld (iblk m c 1 t) (Rect.unit ![1536, 0] ![1536, 1024] inb_S6144x1024_S1536x1024_1536_0))⟩,
  ⟨Rect.unit ![0, 0] ![256, 768] inb_S256x3072_S256x768_0_0, k0_pay6 (iblk m c 0 t)
    (View.ld (iblk m c 1 t) (Rect.unit ![0, 0] ![1536, 1024] inb_S6144x1024_S1536x1024_0_0))⟩]

theorem u_blk (t : Fin cfg0.N) (a : Fin 256) (d : Fin 6144) : View.canon (uPieces m c t) (ix2 a d) = uArr m c (ix2 (rowOf t a) d) := by
  unfold uArr
  rw [← w_blk m c t]
  canon_tiles x h
  all_goals
    obtain ⟨a', b, rfl⟩ : ∃ (a' : Fin 256) (b : Fin 1536), x = ix2 a' b := ⟨x 0, x 1, eq_ix2 x⟩
    obtain rfl : a = a' := Fin.ext h0
  case piece0 =>
    refine (pre3 _ _ a b).trans (entry_part d (fun j => ?_) (fun j => ?_))
    · refine Eq.trans ?_ (h_blk m c t a j)
      pointwise []
    · have e : d = ⟨4608 + b.val, by omega⟩ := Fin.ext h1
      rw [e]
      pointwise []
  case piece1 =>
    refine (pre2 _ _ a b).trans (entry_part d (fun j => ?_) (fun j => ?_))
    · refine Eq.trans ?_ (h_blk m c t a j)
      pointwise []
    · have e : d = ⟨3072 + b.val, by omega⟩ := Fin.ext h1
      rw [e]
      pointwise []
  case piece2 =>
    refine (pre1 _ _ a b).trans (entry_part d (fun j => ?_) (fun j => ?_))
    · refine Eq.trans ?_ (h_blk m c t a j)
      pointwise []
    · have e : d = ⟨1536 + b.val, by omega⟩ := Fin.ext h1
      rw [e]
      pointwise []
  case piece3 =>
    refine (pre0 _ _ a b).trans (entry_part d (fun j => ?_) (fun j => ?_))
    · refine Eq.trans ?_ (h_blk m c t a j)
      pointwise []
    · have e : d = ⟨b.val, by omega⟩ := Fin.ext h1
      rw [e]
      pointwise []

theorem act_blk (t : Fin cfg0.N) (a : Fin 256) (d : Fin 3072) : View.canon (actPieces m c t) (ix2 a d) = act (uArr m c) (ix2 (rowOf t a) d) := by
  unfold uArr
  rw [← w_blk m c t]
  canon_tiles x h
  all_goals
    obtain ⟨a', b, rfl⟩ : ∃ (a' : Fin 256) (b : Fin 768), x = ix2 a' b := ⟨x 0, x 1, eq_ix2 x⟩
    obtain rfl : a = a' := Fin.ext h0
  case piece0 =>
    refine (act3 _ _ a b).trans (acted_part 3 (by omega) (fun j => ?_) (fun b j => ?_) h1)
    · refine Eq.trans ?_ (h_blk m c t a j)
      pointwise []
    · pointwise []
  case piece1 =>
    refine (act2 _ _ a b).trans (acted_part 2 (by omega) (fun j => ?_) (fun b j => ?_) h1)
    · refine Eq.trans ?_ (h_blk m c t a j)
      pointwise []
    · pointwise []
  case piece2 =>
    refine (act1 _ _ a b).trans (acted_part 1 (by omega) (fun j => ?_) (fun b j => ?_) h1)
    · refine Eq.trans ?_ (h_blk m c t a j)
      pointwise []
    · pointwise []
  case piece3 =>
    refine (act0 _ _ a b).trans (acted_part 0 (by omega) (fun j => ?_) (fun b j => ?_) (h1.trans (by show b.val = 768 * 0 + b.val; omega)))
    · refine Eq.trans ?_ (h_blk m c t a j)
      pointwise []
    · pointwise []

/-- The activations that the second product takes: the kernel reads the tile that it has stored. -/
abbrev acts (t : Fin cfg0.N) : Vec Ideal S256x3072 .bf16 := ((ms0_8 t).view.readCov (actPieces m c t)
  (Rect.unit (s := S256x3072) ![0, 0] ![256, 3072] inb_S256x3072_S256x3072_0_0).toLoadRect :)
theorem acts_blk (t : Fin cfg0.N) (a : Fin 256) (d : Fin 3072) : acts m c t (ix2 a d) = act (uArr m c) (ix2 (rowOf t a) d) := by
  unfold acts
  rw [View.readCov_eq_canon']
  refine Eq.trans (congrArg (View.canon (actPieces m c t)) ?_) (act_blk m c t a d)
  funext i
  apply Fin.ext
  fin_cases i
  · show 0 + 1 * a.val = a.val; omega
  · show 0 + 1 * d.val = d.val; omega

theorem final7 : (dats m 0 c).arrAt 7 cfg0.N = uArr m c := by
  refine (dats m 0 c).arrAt_eq_of_covers 7 _ (by decide +kernel) fun t hf y => ?_
  have ht : t.val < 16 := Nat.lt_of_lt_of_eq t.isLt N_0
  blk_simp
  rw [after0_7]
  obtain ⟨a, j, rfl⟩ : ∃ (a : Fin 256) (j : Fin 6144), y = ix2 a j := ⟨y 0, y 1, eq_ix2 (n0 := 256) (n1 := 6144) y⟩
  have e : (win0_7.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact u_blk m c t a j
  · rw [outsAt0_A m c t (by omega) h]
    frame_out
    exact u_blk m c t a j
theorem final8 : (dats m 0 c).arrAt 8 cfg0.N = act (uArr m c) := by
  refine (dats m 0 c).arrAt_eq_of_covers 8 _ (by decide +kernel) fun t hf y => ?_
  have ht : t.val < 16 := Nat.lt_of_lt_of_eq t.isLt N_0
  blk_simp
  rw [after0_8]
  obtain ⟨a, j, rfl⟩ : ∃ (a : Fin 256) (j : Fin 3072), y = ix2 a j := ⟨y 0, y 1, eq_ix2 (n0 := 256) (n1 := 3072) y⟩
  have e : (win0_8.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact act_blk m c t a j
  · rw [outsAt0_A m c t (by omega) h]
    frame_out
    exact act_blk m c t a j
theorem final9 : (dats m 0 c).arrAt 9 cfg0.N = fArr m c := by
  refine (dats m 0 c).arrAt_eq_of_covers 9 _ (by decide +kernel) fun t hf y => ?_
  have ht : t.val < 16 := Nat.lt_of_lt_of_eq t.isLt N_0
  blk_simp
  rw [after0_9]
  obtain ⟨a, j, rfl⟩ : ∃ (a : Fin 256) (j : Fin 1024), y = ix2 a j := ⟨y 0, y 1, eq_ix2 (n0 := 256) (n1 := 1024) y⟩
  have e : (win0_9.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact (f_tile _ _ a j).trans (congrFun (f_blk (acts_blk m c t) a) j)
  · rw [outsAt0_A m c t (by omega) h]
    frame_out
    exact (f_tile _ _ a j).trans (congrFun (f_blk (acts_blk m c t) a) j)
theorem dx_blk (t : Fin cfg0.N) (a : Fin 256) (j : Fin 1024) :
    drow (xRow (acts m c t) (iblk m c 2 t) (iblk m c 3 t) (iblk m c 4 t) a) (gained (iblk m c 5 t)
      (ddist (eRow (acts m c t) (iblk m c 2 t) (iblk m c 3 t) (iblk m c 4 t) (iblk m c 5 t) (iblk m c 6 t) a))) j
    = dhead (xArr m c) (m ((c : Thread nD τ).loc main_arg5)) (m ((c : Thread nD τ).loc main_arg6)) (ix2 (rowOf t a) j) := by
  rw [x_blk (acts_blk m c t), e_blk (acts_blk m c t), gl_blk]
  rfl
theorem final10 : (dats m 0 c).arrAt 10 cfg0.N = dhead (xArr m c) (m ((c : Thread nD τ).loc main_arg5)) (m ((c : Thread nD τ).loc main_arg6)) := by
  refine (dats m 0 c).arrAt_eq_of_covers 10 _ (by decide +kernel) fun t hf y => ?_
  have ht : t.val < 16 := Nat.lt_of_lt_of_eq t.isLt N_0
  blk_simp
  rw [after0_10]
  obtain ⟨a, j, rfl⟩ : ∃ (a : Fin 256) (j : Fin 1024), y = ix2 a j := ⟨y 0, y 1, eq_ix2 (n0 := 256) (n1 := 1024) y⟩
  have e : (win0_10.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact (dx_tile _ _ _ _ _ _ a j).trans (dx_blk m c t a j)
  · rw [outsAt0_A m c t (by omega) h]
    frame_out
    exact (dx_tile _ _ _ _ _ _ a j).trans (dx_blk m c t a j)
theorem lossOut_blk (t : Fin cfg0.N) (z : Fin 1) (l : Fin 128) :
    k0_pay28 (F := Ideal) (iblk m c 5 t) (k0_pay22 (acts m c t) (iblk m c 2 t) (iblk m c 3 t) (iblk m c 4 t)) (iblk m c 6 t) (ix2 z l)
    = half * ∑ a, meanDist (distRow (xArr m c) (m ((c : Thread nD τ).loc main_arg5)) (m ((c : Thread nD τ).loc main_arg6)) (rowOf t a)) := by
  refine (lossOut_tile _ _ _ _ _ _ z l).trans (congrArg (half * ·) (Finset.sum_congr rfl fun a _ => ?_))
  rw [e_blk (acts_blk m c t)]
theorem final11 : (dats m 0 c).arrAt 11 cfg0.N = fun _ => loss (xArr m c) (m ((c : Thread nD τ).loc main_arg5)) (m ((c : Thread nD τ).loc main_arg6)) := by
  have hg : ∀ (t : Fin cfg0.N) (i : S1x128.Idx), k0_pay28 (F := Ideal) (iblk m c 5 t) (k0_pay22 (acts m c t) (iblk m c 2 t) (iblk m c 3 t) (iblk m c 4 t)) (iblk m c 6 t) i
      = half * ∑ a, meanDist (distRow (xArr m c) (m ((c : Thread nD τ).loc main_arg5)) (m ((c : Thread nD τ).loc main_arg6)) (rowOf t a)) := fun t i => by
    obtain ⟨z, j, rfl⟩ : ∃ (z : Fin 1) (j : Fin 128), i = ix2 z j := ⟨i 0, i 1, eq_ix2 i⟩
    exact lossOut_blk m c t z j
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun t i => half * ∑ a, meanDist (distRow (xArr m c) (m ((c : Thread nD τ).loc main_arg5)) (m ((c : Thread nD τ).loc main_arg6)) (rowOf t a)))
    (fun t h j => by
      have ht : t.val < 16 := Nat.lt_of_lt_of_eq t.isLt N_0
      rw [outsAt0_A m c t h (by omega)]; frame_out
      exact (hg t j).trans (zero_add _).symm)
    (fun t h j => by
      have ht : t.val < 16 := Nat.lt_of_lt_of_eq t.isLt N_0
      rw [outsAt0_B m c t h (by omega)]; frame_out
      refine Eq.trans ?_ (congrArg (_ + ·) (hg t j))
      pointwise [k0_pay1, k0_pay28]
      rfl)
    (le_of_eq N_0) t0_15 rfl j, zero_add]
  exact (half_sum _ _).symm.trans (congrArg (half * ·) (Fin.sum_mul_add_congr (S := 16) (n := 256) fun t a _ => rfl))
theorem dg_blk (t : Fin cfg0.N) (z : Fin 1) (j : Fin 1024) :
    k0_pay26 (F := Ideal) (iblk m c 5 t) (k0_pay22 (acts m c t) (iblk m c 2 t) (iblk m c 3 t) (iblk m c 4 t)) (iblk m c 6 t) (ix2 z j)
    = ∑ a, dgainRow (row (xArr m c) (rowOf t a)) (cot (xArr m c) (m ((c : Thread nD τ).loc main_arg5)) (m ((c : Thread nD τ).loc main_arg6)) (rowOf t a)) j := by
  refine (dg_tile _ _ _ _ _ _ j z).trans (Finset.sum_congr rfl fun a _ => ?_)
  rw [x_blk (acts_blk m c t), e_blk (acts_blk m c t)]
  rfl
theorem final12 : (dats m 0 c).arrAt 12 cfg0.N = dgain (xArr m c) (cot (xArr m c) (m ((c : Thread nD τ).loc main_arg5)) (m ((c : Thread nD τ).loc main_arg6))) := by
  have hg : ∀ (t : Fin cfg0.N) (i : S1x1024.Idx), k0_pay26 (F := Ideal) (iblk m c 5 t) (k0_pay22 (acts m c t) (iblk m c 2 t) (iblk m c 3 t) (iblk m c 4 t)) (iblk m c 6 t) i
      = ∑ a, dgainRow (row (xArr m c) (rowOf t a)) (cot (xArr m c) (m ((c : Thread nD τ).loc main_arg5)) (m ((c : Thread nD τ).loc main_arg6)) (rowOf t a)) (i 1) := fun t i => by
    obtain ⟨z, j, rfl⟩ : ∃ (z : Fin 1) (j : Fin 1024), i = ix2 z j := ⟨i 0, i 1, eq_ix2 i⟩
    exact dg_blk m c t z j
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun t i => ∑ a, dgainRow (row (xArr m c) (rowOf t a)) (cot (xArr m c) (m ((c : Thread nD τ).loc main_arg5)) (m ((c : Thread nD τ).loc main_arg6)) (rowOf t a)) ((i : S1x1024.Idx) 1))
    (fun t h j => by
      have ht : t.val < 16 := Nat.lt_of_lt_of_eq t.isLt N_0
      rw [outsAt0_A m c t h (by omega)]; frame_out
      exact (hg t j).trans (zero_add _).symm)
    (fun t h j => by
      have ht : t.val < 16 := Nat.lt_of_lt_of_eq t.isLt N_0
      rw [outsAt0_B m c t h (by omega)]; frame_out
      refine Eq.trans ?_ (congrArg (_ + ·) (hg t j))
      pointwise [k0_pay2]
      rfl)
    (le_of_eq N_0) t0_15 rfl j, zero_add]
  exact Fin.sum_mul_add_congr (S := 16) (n := 256) fun t a _ => rfl

end Cert.Kernel10Ideal.Value
end
-- ==== Proof.Reference11Read.lean ====
module

public import proofs.«01_k».proof.Proof.Forward
public import proofs.«01_k».proof.Proof.Gen.Reference11Ideal.Read

/-! The token mixing's first product: what the reference computes. -/

@[expose] public section
set_option maxRecDepth 16384
noncomputable section
namespace Cert.Reference11Ideal.Value
open Idealize.ShloMosaic Idealize.ShloMosaic.TcCoe Idealize.SL.Sem
open Cert.Reference11Ideal Cert.Reference11Ideal.Gen Cert.Reference11Ideal.Read
open Cert.NormGrad Cert.Forward

variable (x0 : FVec Ideal S4096x1024 .f32) (x1 : FVec Ideal S1x1024 .f32) (x2 : FVec Ideal S7296x1024 .bf16)

theorem norm_read (r : Fin 4096) (j : Fin 1024) : val_main_v11 (F := Ideal) x0 x1 (ix2 r j) = norm x0 x1 (ix2 r j) := by
  pointwise [val_main_v11, val_main_v10, val_main_v9, val_main_v8, val_main_v7, val_main_v6, val_main_v5, val_main_cst_1, val_main_v4,
    val_main_v3, val_main_cst_0, val_main_v2, val_main_v1, val_main_cst, val_main_v0]
  rfl
theorem proj_read : val_main_v15 (F := Ideal) x0 x1 x2 = prodT (norm x0 x1) x2 := by
  funext i
  obtain ⟨r, c, rfl⟩ : ∃ (r : Fin 4096) (c : Fin 7296), i = ix2 r c := ⟨i 0, i 1, eq_ix2 i⟩
  pointwise [val_main_v15, val_main_v14, val_main_v13, val_main_v12]
  simp only [norm_read]
  rfl

end Cert.Reference11Ideal.Value
end
-- ==== Proof.Kernel11Value.lean ====
module

public import proofs.«01_k».proof.Proof.Forward
public import proofs.«01_k».proof.Proof.Gen.Kernel11Ideal.Value

/-! The token mixing's first product: the kernel's result after the whole grid. -/

@[expose] public section
set_option maxRecDepth 16384
noncomputable section
namespace Cert.Kernel11Ideal.Value
open Idealize.ShloMosaic Idealize.ShloMosaic.TcCoe Idealize.SL.Sem
open Idealize.ShloMosaic.Pipeline (Dat)
open Cert.Kernel11Ideal Cert.Kernel11Ideal.Gen
open Cert.NormGrad Cert.Forward

/-! ## One grid point and one of the three groups of 2432 columns -/

section group
variable (h : Vec Ideal S512x1024 .bf16) (w : Vec Ideal S2432x1024 .bf16) (a : Fin 512) (b : Fin 2432)

theorem group0 : k0_pay2 (F := Ideal) h w (ix2 a b) = prodT h w (ix2 a b) := by
  pointwise [k0_pay2, k0_pay1]
  rfl
theorem group1 : k0_pay3 (F := Ideal) h w (ix2 a b) = prodT h w (ix2 a b) := by
  pointwise [k0_pay3, k0_pay1]
  rfl
theorem group2 : k0_pay4 (F := Ideal) h w (ix2 a b) = prodT h w (ix2 a b) := by
  pointwise [k0_pay4, k0_pay1]
  rfl
end group

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

/-- The normed input. -/
def hArr : Rows := norm (m ((c : Thread nD τ).loc main_arg0)) (m ((c : Thread nD τ).loc main_arg1))

/-- What the lines before the call leave: the normed input. -/
theorem saved : V m c main_v12 = hArr m c := by
  unfold V
  after_results
  funext i
  obtain ⟨r, j, rfl⟩ : ∃ (r : Fin 4096) (j : Fin 1024), i = ix2 r j := ⟨i 0, i 1, eq_ix2 i⟩
  pointwise []
  rfl

theorem h_blk (t : Fin cfg0.N) (a : Fin 512) (j : Fin 1024) :
    (iblk m c 0 t : Vec Ideal S512x1024 .bf16) (ix2 a j) = hArr m c (ix2 (rowOf t a) j) := by
  rw [← saved m c]
  blk_point [iblk, idx t]
  rfl
theorem w_blk (t : Fin cfg0.N) : (iblk m c 1 t : Vec Ideal S7296x1024 .bf16) = (m ((c : Thread nD τ).loc main_arg2)) := by
  funext i
  blk_point [iblk, V, idx t]

theorem proj_tile (t : Fin cfg0.N) (a : Fin 512) (d : Fin 7296) :
    out0_2 (F := Ideal) (iblk m c 0 t) (iblk m c 1 t) (ix2 a d) = prodT (hArr m c) (m ((c : Thread nD τ).loc main_arg2)) (ix2 (rowOf t a) d) := by
  rw [← w_blk m c t]
  frame_out
  canon_tiles x h
  all_goals
    obtain ⟨a', b, rfl⟩ : ∃ (a' : Fin 512) (b : Fin 2432), x = ix2 a' b := ⟨x 0, x 1, eq_ix2 x⟩
    obtain rfl : a = a' := Fin.ext h0
  case piece0 =>
    refine (group2 _ _ a b).trans (prodT_congr (fun j => ?_) (fun j => ?_))
    · refine Eq.trans ?_ (h_blk m c t a j)
      pointwise []
    · have e : d = ⟨4864 + b.val, by omega⟩ := Fin.ext h1
      rw [e]
      pointwise []
  case piece1 =>
    refine (group1 _ _ a b).trans (prodT_congr (fun j => ?_) (fun j => ?_))
    · refine Eq.trans ?_ (h_blk m c t a j)
      pointwise []
    · have e : d = ⟨2432 + b.val, by omega⟩ := Fin.ext h1
      rw [e]
      pointwise []
  case piece2 =>
    refine (group0 _ _ a b).trans (prodT_congr (fun j => ?_) (fun j => ?_))
    · refine Eq.trans ?_ (h_blk m c t a j)
      pointwise []
    · have e : d = ⟨b.val, by omega⟩ := Fin.ext h1
      rw [e]
      pointwise []

theorem final2 : (dats m 0 c).arrAt 2 cfg0.N = prodT (hArr m c) (m ((c : Thread nD τ).loc main_arg2)) := by
  refine (dats m 0 c).arrAt_eq_of_covers 2 _ (by decide +kernel) fun t hf y => ?_
  blk_simp
  rw [after0_2]
  obtain ⟨a, j, rfl⟩ : ∃ (a : Fin 512) (j : Fin 7296), y = ix2 a j := ⟨y 0, y 1, eq_ix2 (n0 := 512) (n1 := 7296) y⟩
  have e : (win0_2.blk t).view.emb (ix2 a j) = ix2 (rowOf t a) j := by
    blk_point [idx t]
    rfl
  refine Eq.trans ?_ (congrArg _ e.symm)
  exact proj_tile m c t a j

end Cert.Kernel11Ideal.Value
end
-- ==== Proof.Merge.lean ====
module

public import proofs.«01_k».proof.Proof.Forward

/-! The gated merge of the token mixing's three branches.

Columns 3072 to 6143 of the projection are the gates: 1024 for each branch. -/

@[expose] public section
noncomputable section
namespace Cert.Merge
open Idealize.ShloMosaic Cert.NormGrad Cert.GateGrad Cert.Forward

abbrev Proj := (⟨2, ![4096, 7296]⟩ : Shape).Idx → EReal
abbrev Square := (⟨2, ![1024, 1024]⟩ : Shape).Idx → EReal

/-- The gates of branch `b` in row `r`. -/
def gates (p : Proj) (b : Fin 3) (r : Fin 4096) : Row := fun j => p (ix2 r ⟨3072 + (b.val * 1024 + j.val), by omega⟩)
/-- A row of the merge: each branch times the logistic function of its gates. -/
def mergeRow (ga gb gc a b c : Row) : Row := fun j =>
  GateGrad.logistic (ga j) * a j + GateGrad.logistic (gb j) * b j + GateGrad.logistic (gc j) * c j
/-- The merged array. -/
def merge (p : Proj) (ya yb yc : Rows) : Rows := fun i =>
  mergeRow (gates p 0 (i 0)) (gates p 1 (i 0)) (gates p 2 (i 0)) (row ya (i 0)) (row yb (i 0)) (row yc (i 0)) (i 1)
/-- A row times a matrix. -/
def prodRow (x : Row) (w : Square) : Row := fun j => ∑ t, x t * w (ix2 t j)
/-- The norm of `y`, added to `x`. -/
def addNorm (x y : Rows) (g : Gain) : Rows := fun i => x i + norm y g i

end Cert.Merge
end
-- ==== Proof.Reference12Read.lean ====
module

public import proofs.«01_k».proof.Proof.Merge
public import proofs.«01_k».proof.Proof.Gen.Reference12Ideal.Read

/-! The token mixing's gated merge and last products: what the reference computes. -/

@[expose] public section
set_option maxRecDepth 16384
noncomputable section
namespace Cert.Reference12Ideal.Value
open Idealize.ShloMosaic Idealize.ShloMosaic.TcCoe Idealize.SL.Sem
open Cert.Reference12Ideal Cert.Reference12Ideal.Gen Cert.Reference12Ideal.Read
open Cert.NormGrad Cert.Forward Cert.Merge

variable (x0 : FVec Ideal S4096x7296 .bf16) (x1 : FVec Ideal S4096x1024 .bf16) (x2 x3 : FVec Ideal S4096x512 .bf16)
  (x4 : FVec Ideal S4096x1024 .f32) (x5 : FVec Ideal S1024x1024 .bf16) (x6 x7 : FVec Ideal S512x1024 .bf16)
  (x8 : FVec Ideal S1024x1024 .bf16) (x9 x10 : FVec Ideal S1x1024 .f32)

theorem ya_read (r : Fin 4096) (j : Fin 1024) : val_main_v7 (F := Ideal) x1 x5 (ix2 r j) = prodArr x1 x5 (ix2 r j) := by
  pointwise [val_main_v7, val_main_v3, val_main_v0]
  rfl
theorem yb_read (r : Fin 4096) (j : Fin 1024) : val_main_v8 (F := Ideal) x2 x6 (ix2 r j) = prodArr x2 x6 (ix2 r j) := by
  pointwise [val_main_v8, val_main_v4, val_main_v1]
  rfl
theorem yc_read (r : Fin 4096) (j : Fin 1024) : val_main_v9 (F := Ideal) x3 x7 (ix2 r j) = prodArr x3 x7 (ix2 r j) := by
  pointwise [val_main_v9, val_main_v5, val_main_v2]
  rfl
theorem ya_array : val_main_v56 (F := Ideal) x1 x5 = prodArr x1 x5 := by
  funext i
  obtain ⟨r, j, rfl⟩ : ∃ (r : Fin 4096) (j : Fin 1024), i = ix2 r j := ⟨i 0, i 1, eq_ix2 i⟩
  pointwise [val_main_v56]
  exact ya_read x1 x5 r j
theorem yb_array : val_main_v57 (F := Ideal) x2 x6 = prodArr x2 x6 := by
  funext i
  obtain ⟨r, j, rfl⟩ : ∃ (r : Fin 4096) (j : Fin 1024), i = ix2 r j := ⟨i 0, i 1, eq_ix2 i⟩
  pointwise [val_main_v57]
  exact yb_read x2 x6 r j
theorem yc_array : val_main_v58 (F := Ideal) x3 x7 = prodArr x3 x7 := by
  funext i
  obtain ⟨r, j, rfl⟩ : ∃ (r : Fin 4096) (j : Fin 1024), i = ix2 r j := ⟨i 0, i 1, eq_ix2 i⟩
  pointwise [val_main_v58]
  exact yc_read x3 x7 r j

/-- The merged array, as the reference has it. -/
abbrev merged : Rows := merge x0 (prodArr x1 x5) (prodArr x2 x6) (prodArr x3 x7)

theorem sig_read (r : Fin 4096) (b : Fin 3) (j : Fin 1024) :
    val_main_v18 (F := Ideal) x0 (ix3 r b j) = GateGrad.logistic (gates x0 b r j) := by
  pointwise [val_main_v18, val_main_v17, val_main_cst_0, val_main_v16, val_main_v15, val_main_cst, val_main_v14, val_main_v13, val_main_v12,
    val_main_v11, val_main_v10]
  rfl
theorem merged_read (r : Fin 4096) (j : Fin 1024) :
    val_main_v29 (F := Ideal) x0 x1 x2 x3 x5 x6 x7 (ix2 r j) = merged x0 x1 x2 x3 x5 x6 x7 (ix2 r j) := by
  pointwise [val_main_v29, val_main_v28, val_main_v27, val_main_v26, val_main_v25, val_main_v24, val_main_v23, val_main_v22, val_main_v21,
    val_main_v20, val_main_v19]
  simp only [sig_read, ya_read, yb_read, yc_read]
  rfl
theorem merged_array : val_main_v59 (F := Ideal) x0 x1 x2 x3 x5 x6 x7 = merged x0 x1 x2 x3 x5 x6 x7 := by
  funext i
  obtain ⟨r, j, rfl⟩ : ∃ (r : Fin 4096) (j : Fin 1024), i = ix2 r j := ⟨i 0, i 1, eq_ix2 i⟩
  pointwise [val_main_v59]
  exact merged_read x0 x1 x2 x3 x5 x6 x7 r j
theorem y_read (r : Fin 4096) (j : Fin 1024) : val_main_v30 (F := Ideal) x0 x1 x2 x3 x5 x6 x7 x8 (ix2 r j)
    = prodArr (merged x0 x1 x2 x3 x5 x6 x7) x8 (ix2 r j) := by
  pointwise [val_main_v30, val_main_v6]
  simp only [merged_read]
  rfl
theorem y_array : val_main_v60 (F := Ideal) x0 x1 x2 x3 x5 x6 x7 x8 = prodArr (merged x0 x1 x2 x3 x5 x6 x7) x8 := by
  funext i
  obtain ⟨r, j, rfl⟩ : ∃ (r : Fin 4096) (j : Fin 1024), i = ix2 r j := ⟨i 0, i 1, eq_ix2 i⟩
  pointwise [val_main_v60]
  exact y_read x0 x1 x2 x3 x5 x6 x7 x8 r j
theorem x_read (r : Fin 4096) (j : Fin 1024) : val_main_v43 (F := Ideal) x0 x1 x2 x3 x4 x5 x6 x7 x8 x9 (ix2 r j)
    = addNorm x4 (prodArr (merged x0 x1 x2 x3 x5 x6 x7) x8) x9 (ix2 r j) := by
  pointwise [val_main_v43, val_main_v42, val_main_v41, val_main_v40, val_main_v39, val_main_v38, val_main_v37, val_main_v36, val_main_cst_3,
    val_main_v35, val_main_v34, val_main_cst_2, val_main_v33, val_main_v32, val_main_cst_1, val_main_v31]
  simp only [y_read]
  rfl
theorem x_array : val_main_v43 (F := Ideal) x0 x1 x2 x3 x4 x5 x6 x7 x8 x9
    = addNorm x4 (prodArr (merged x0 x1 x2 x3 x5 x6 x7) x8) x9 := by
  funext i
  obtain ⟨r, j, rfl⟩ : ∃ (r : Fin 4096) (j : Fin 1024), i = ix2 r j := ⟨i 0, i 1, eq_ix2 i⟩
  exact x_read x0 x1 x2 x3 x4 x5 x6 x7 x8 x9 r j
theorem h_array : val_main_v61 (F := Ideal) x0 x1 x2 x3 x4 x5 x6 x7 x8 x9 x10
    = norm (addNorm x4 (prodArr (merged x0 x1 x2 x3 x5 x6 x7) x8) x9) x10 := by
  funext i
  obtain ⟨r, j, rfl⟩ : ∃ (r : Fin 4096) (j : Fin 1024), i = ix2 r j := ⟨i 0, i 1, eq_ix2 i⟩
  pointwise [val_main_v61, val_main_v55, val_main_v54, val_main_v53, val_main_v52, val_main_v51, val_main_v50, val_main_v49, val_main_cst_6,
    val_main_v48, val_main_v47, val_main_cst_5, val_main_v46, val_main_v45, val_main_cst_4, val_main_v44]
  simp only [x_read]
  rfl

end Cert.Reference12Ideal.Value
end
-- ==== Proof.Kernel12Value.lean ====
module

public import proofs.«01_k».proof.Proof.Merge
public import proofs.«01_k».proof.Proof.Gen.Kernel12Ideal.Value

/-! The token mixing's gated merge and last products: the kernel's seven results after the whole grid. -/

@[expose] public section
set_option maxRecDepth 16384
noncomputable section
namespace Cert.Kernel12Ideal.Value
open Idealize.ShloMosaic Idealize.ShloMosaic.TcCoe Idealize.SL.Sem
open Idealize.ShloMosaic.Pipeline (Dat)
open Cert.Kernel12Ideal Cert.Kernel12Ideal.Gen
open Cert.NormGrad Cert.GateGrad Cert.Forward Cert.Merge

/-! ## One grid point: a tile of 512 rows -/

section tile
variable (v0 : Vec Ideal S512x3072 .bf16) (v1 : Vec Ideal S512x1024 .bf16) (v2 v3 : Vec Ideal S512x512 .bf16) (v4 : Vec Ideal S512x1024 .f32)
  (v5 : Vec Ideal S1024x1024 .bf16) (v6 v7 : Vec Ideal S512x1024 .bf16) (v8 : Vec Ideal S1024x1024 .bf16) (v9 v10 : Vec Ideal S1x1024 .f32)
  (a : Fin 512) (j : Fin 1024)

/-- The gates of branch `b`. -/
def gate (b : Fin 3) : Row := fun j => v0 (ix2 a ⟨b.val * 1024 + j.val, by omega⟩)
theorem gate_zero : gate v0 a 0 j = v0 (ix2 a ⟨j.val, by omega⟩) := by
  unfold gate
  congr 3
  simp
theorem gate_one : gate v0 a 1 j = v0 (ix2 a ⟨1024 + j.val, by omega⟩) := by
  unfold gate
  congr 3
theorem gate_two : gate v0 a 2 j = v0 (ix2 a ⟨2048 + j.val, by omega⟩) := by
  unfold gate
  rfl
/-- A row of the merge. -/
def mRow : Row := mergeRow (gate v0 a 0) (gate v0 a 1) (gate v0 a 2) (prod v1 v5 a) (prod v2 v6 a) (prod v3 v7 a)
/-- A row of the result: the norm of the merge's product, added to the residual. -/
def xRow : Row := fun j => v4 (ix2 a j) + prodRow (mRow v0 v1 v2 v3 v5 v6 v7 a) v8 j
  * NormGrad.inv (prodRow (mRow v0 v1 v2 v3 v5 v6 v7 a) v8) * v9 (ix2 0 j)

theorem ya_tile : k0_pay3 (F := Ideal) v1 v5 (ix2 a j) = prod v1 v5 a j := by
  pointwise [k0_pay3]
  rfl
theorem yb_tile : k0_pay4 (F := Ideal) v2 v6 (ix2 a j) = prod v2 v6 a j := by
  pointwise [k0_pay4]
  rfl
theorem yc_tile : k0_pay5 (F := Ideal) v3 v7 (ix2 a j) = prod v3 v7 a j := by
  pointwise [k0_pay5]
  rfl
theorem m_tile : k0_pay11 (F := Ideal) (k0_pay6 v0) (k0_pay7 v2 v6) (k0_pay8 v3 v7) (k0_pay9 v0 v1 v5) (k0_pay10 v0) (ix2 a j)
    = mRow v0 v1 v2 v3 v5 v6 v7 a j := by
  pointwise [k0_pay11, k0_pay10, k0_pay9, k0_pay8, k0_pay7, k0_pay6]
  simp only [ya_tile, yb_tile, yc_tile]
  simp only [mRow, mergeRow, ← tanhSig_eq, gate_zero, gate_one, gate_two]
  rfl
theorem y_tile : k0_pay12 (F := Ideal) v8 (k0_pay6 v0) (k0_pay7 v2 v6) (k0_pay8 v3 v7) (k0_pay9 v0 v1 v5) (k0_pay10 v0) (ix2 a j)
    = prodRow (mRow v0 v1 v2 v3 v5 v6 v7 a) v8 j := by
  pointwise [k0_pay12]
  simp only [m_tile]
  rfl
theorem x_tile : k0_pay13 (F := Ideal) v4 v8 v9 (k0_pay6 v0) (k0_pay7 v2 v6) (k0_pay8 v3 v7) (k0_pay9 v0 v1 v5) (k0_pay10 v0) (ix2 a j)
    = xRow v0 v1 v2 v3 v4 v5 v6 v7 v8 v9 a j := by
  pointwise [k0_pay13]
  simp only [y_tile]
  rfl
theorem h_tile : k0_pay2 (F := Ideal) (k0_pay14 v4 v8 v9 v10 (k0_pay6 v0) (k0_pay7 v2 v6) (k0_pay8 v3 v7) (k0_pay9 v0 v1 v5) (k0_pay10 v0)) (ix2 a j)
    = xRow v0 v1 v2 v3 v4 v5 v6 v7 v8 v9 a j * NormGrad.inv (xRow v0 v1 v2 v3 v4 v5 v6 v7 v8 v9 a) * v10 (ix2 0 j) := by
  pointwise [k0_pay2, k0_pay14]
  simp only [x_tile]
  rfl
theorem yout_tile : k0_pay1 (F := Ideal) (k0_pay12 v8 (k0_pay6 v0) (k0_pay7 v2 v6) (k0_pay8 v3 v7) (k0_pay9 v0 v1 v5) (k0_pay10 v0)) (ix2 a j)
    = prodRow (mRow v0 v1 v2 v3 v5 v6 v7 a) v8 j := by
  pointwise [k0_pay1]
  exact y_tile v0 v1 v2 v3 v5 v6 v7 v8 a j
end tile

/-! ## The whole grid -/

variable (m : (ℓ : Loc nD τ sig) → Buf (Elt Ideal) ℓ)

theorem idx : ∀ t : Fin cfg0.N, win0_0.index t = ![t.val, 1] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

def yaArr : Rows := prodArr (m ((c : Thread nD τ).loc main_arg1)) (m ((c : Thread nD τ).loc main_arg5))
def ybArr : Rows := prodArr (m ((c : Thread nD τ).loc main_arg2)) (m ((c : Thread nD τ).loc main_arg6))
def ycArr : Rows := prodArr (m ((c : Thread nD τ).loc main_arg3)) (m ((c : Thread nD τ).loc main_arg7))
/-- The merged array. -/
def mArr : Rows := merge (m ((c : Thread nD τ).loc main_arg0)) (yaArr m c) (ybArr m c) (ycArr m c)
/-- The merge's product. -/
def yArr : Rows := prodArr (mArr m c) (m ((c : Thread nD τ).loc main_arg8))
/-- The result. -/
def xArr : Rows := addNorm (m ((c : Thread nD τ).loc main_arg4)) (yArr m c) (m ((c : Thread nD τ).loc main_arg9))

theorem gate_blk (t : Fin cfg0.N) (a : Fin 512) (b : Fin 3) :
    gate (X0_0 m c t) a b = gates (m ((c : Thread nD τ).loc main_arg0)) b (rowOf t a) := by
  funext j
  unfold gate X0_0 Pipeline.Window.fill
  rw [dif_pos (moved0_0 t _)]
  blk_point [iblk, V, idx t]
  rfl
theorem ya_blk (t : Fin cfg0.N) (a : Fin 512) : prod (iblk m c 1 t) (iblk m c 5 t) a = row (yaArr m c) (rowOf t a) := by
  refine prod_congr (fun k => ?_) (fun k j => ?_)
  · blk_point [iblk, V, idx t]
  · blk_point [iblk, V, idx t]
theorem yb_blk (t : Fin cfg0.N) (a : Fin 512) : prod (iblk m c 2 t) (iblk m c 6 t) a = row (ybArr m c) (rowOf t a) := by
  refine prod_congr (fun k => ?_) (fun k j => ?_)
  · blk_point [iblk, V, idx t]
  · blk_point [iblk, V, idx t]
theorem yc_blk (t : Fin cfg0.N) (a : Fin 512) : prod (iblk m c 3 t) (iblk m c 7 t) a = row (ycArr m c) (rowOf t a) := by
  refine prod_congr (fun k => ?_) (fun k j => ?_)
  · blk_point [iblk, V, idx t]
  · blk_point [iblk, V, idx t]
theorem m_blk (t : Fin cfg0.N) (a : Fin 512) :
    mRow (X0_0 m c t) (iblk m c 1 t) (iblk m c 2 t) (iblk m c 3 t) (iblk m c 5 t) (iblk m c 6 t) (iblk m c 7 t) a = row (mArr m c) (rowOf t a) := by
  unfold mRow
  rw [gate_blk, gate_blk, gate_blk, ya_blk, yb_blk, yc_blk]
  rfl
theorem w_blk (t : Fin cfg0.N) : (iblk m c 8 t : Vec Ideal S1024x1024 .bf16) = m ((c : Thread nD τ).loc main_arg8) := by
  funext i
  blk_point [iblk, V, idx t]
theorem res_blk (t : Fin cfg0.N) (a : Fin 512) (j : Fin 1024) :
    (iblk m c 4 t : Vec Ideal S512x1024 .f32) (ix2 a j) = m ((c : Thread nD τ).loc main_arg4) (ix2 (rowOf t a) j) := by
  blk_point [iblk, V, idx t]
  rfl
theorem g_blk (t : Fin cfg0.N) : (iblk m c 9 t : Vec Ideal S1x1024 .f32) = m ((c : Thread nD τ).loc main_arg9) := by
  funext i
  blk_point [iblk, V, idx t]
theorem gn_blk (t : Fin cfg0.N) : (iblk m c 10 t : Vec Ideal S1x1024 .f32) = m ((c : Thread nD τ).loc main_arg10) := by
  funext i
  blk_point [iblk, V, idx t]
theorem x_blk (t : Fin cfg0.N) (a : Fin 512) : xRow (X0_0 m c t) (iblk m c 1 t) (iblk m c 2 t) (iblk m c 3 t) (iblk m c 4 t) (iblk m c 5 t)
    (iblk m c 6 t) (iblk m c 7 t) (iblk m c 8 t) (iblk m c 9 t) a = row (xArr m c) (rowOf t a) := by
  funext j
  unfold xRow
  rw [m_blk, w_blk, res_blk, g_blk]
  rfl

theorem final11 : (dats m 0 c).arrAt 11 cfg0.N = yaArr m c := by
  refine (dats m 0 c).arrAt_eq_of_covers 11 _ (by decide +kernel) fun t hf y => ?_
  blk_simp
  rw [after0_11]
  unfold outsAt0
  frame_out
  obtain ⟨a, j, rfl⟩ : ∃ (a : Fin 512) (j : Fin 1024), y = ix2 a j := ⟨y 0, y 1, eq_ix2 (n0 := 512) (n1 := 1024) y⟩
  have e : (win0_11.blk t).view.emb (ix2 a j) = ix2 (rowOf t a) j := by
    blk_point [idx t]
    rfl
  refine Eq.trans ?_ (congrArg _ e.symm)
  rw [ya_tile, ya_blk]
  rfl
theorem final12 : (dats m 0 c).arrAt 12 cfg0.N = ybArr m c := by
  refine (dats m 0 c).arrAt_eq_of_covers 12 _ (by decide +kernel) fun t hf y => ?_
  blk_simp
  rw [after0_12]
  unfold outsAt0
  frame_out
  obtain ⟨a, j, rfl⟩ : ∃ (a : Fin 512) (j : Fin 1024), y = ix2 a j := ⟨y 0, y 1, eq_ix2 (n0 := 512) (n1 := 1024) y⟩
  have e : (win0_12.blk t).view.emb (ix2 a j) = ix2 (rowOf t a) j := by
    blk_point [idx t]
    rfl
  refine Eq.trans ?_ (congrArg _ e.symm)
  rw [yb_tile, yb_blk]
  rfl
theorem final13 : (dats m 0 c).arrAt 13 cfg0.N = ycArr m c := by
  refine (dats m 0 c).arrAt_eq_of_covers 13 _ (by decide +kernel) fun t hf y => ?_
  blk_simp
  rw [after0_13]
  unfold outsAt0
  frame_out
  obtain ⟨a, j, rfl⟩ : ∃ (a : Fin 512) (j : Fin 1024), y = ix2 a j := ⟨y 0, y 1, eq_ix2 (n0 := 512) (n1 := 1024) y⟩
  have e : (win0_13.blk t).view.emb (ix2 a j) = ix2 (rowOf t a) j := by
    blk_point [idx t]
    rfl
  refine Eq.trans ?_ (congrArg _ e.symm)
  rw [yc_tile, yc_blk]
  rfl
theorem final14 : (dats m 0 c).arrAt 14 cfg0.N = mArr m c := by
  refine (dats m 0 c).arrAt_eq_of_covers 14 _ (by decide +kernel) fun t hf y => ?_
  blk_simp
  rw [after0_14]
  unfold outsAt0
  frame_out
  obtain ⟨a, j, rfl⟩ : ∃ (a : Fin 512) (j : Fin 1024), y = ix2 a j := ⟨y 0, y 1, eq_ix2 (n0 := 512) (n1 := 1024) y⟩
  have e : (win0_14.blk t).view.emb (ix2 a j) = ix2 (rowOf t a) j := by
    blk_point [idx t]
    rfl
  refine Eq.trans ?_ (congrArg _ e.symm)
  rw [m_tile, m_blk]
  rfl
theorem final15 : (dats m 0 c).arrAt 15 cfg0.N = yArr m c := by
  refine (dats m 0 c).arrAt_eq_of_covers 15 _ (by decide +kernel) fun t hf y => ?_
  blk_simp
  rw [after0_15]
  unfold outsAt0
  frame_out
  obtain ⟨a, j, rfl⟩ : ∃ (a : Fin 512) (j : Fin 1024), y = ix2 a j := ⟨y 0, y 1, eq_ix2 (n0 := 512) (n1 := 1024) y⟩
  have e : (win0_15.blk t).view.emb (ix2 a j) = ix2 (rowOf t a) j := by
    blk_point [idx t]
    rfl
  refine Eq.trans ?_ (congrArg _ e.symm)
  rw [yout_tile, m_blk, w_blk]
  rfl
theorem final16 : (dats m 0 c).arrAt 16 cfg0.N = xArr m c := by
  refine (dats m 0 c).arrAt_eq_of_covers 16 _ (by decide +kernel) fun t hf y => ?_
  blk_simp
  rw [after0_16]
  unfold outsAt0
  frame_out
  obtain ⟨a, j, rfl⟩ : ∃ (a : Fin 512) (j : Fin 1024), y = ix2 a j := ⟨y 0, y 1, eq_ix2 (n0 := 512) (n1 := 1024) y⟩
  have e : (win0_16.blk t).view.emb (ix2 a j) = ix2 (rowOf t a) j := by
    blk_point [idx t]
    rfl
  refine Eq.trans ?_ (congrArg _ e.symm)
  rw [x_tile, x_blk]
  rfl
theorem final17 : (dats m 0 c).arrAt 17 cfg0.N = norm (xArr m c) (m ((c : Thread nD τ).loc main_arg10)) := by
  refine (dats m 0 c).arrAt_eq_of_covers 17 _ (by decide +kernel) fun t hf y => ?_
  blk_simp
  rw [after0_17]
  unfold outsAt0
  frame_out
  obtain ⟨a, j, rfl⟩ : ∃ (a : Fin 512) (j : Fin 1024), y = ix2 a j := ⟨y 0, y 1, eq_ix2 (n0 := 512) (n1 := 1024) y⟩
  have e : (win0_17.blk t).view.emb (ix2 a j) = ix2 (rowOf t a) j := by
    blk_point [idx t]
    rfl
  refine Eq.trans ?_ (congrArg _ e.symm)
  rw [h_tile, x_blk, gn_blk]
  rfl

end Cert.Kernel12Ideal.Value
end
-- ==== Proof.MergeGrad.lean ====
module

public import proofs.«01_k».proof.Proof.Merge

/-! The gradient of the token mixing's gated merge and of its last norm. -/

@[expose] public section
noncomputable section
namespace Cert.Merge
open Idealize.ShloMosaic Cert.NormGrad Cert.GateGrad Cert.Forward

abbrev Main := (⟨2, ![4096, 7168]⟩ : Shape).Idx → EReal

/-- The gradient of a gate `a` that multiplies a branch; `z` is the branch times the cotangent of the merge. -/
def dgate (z a : EReal) : EReal := z * (GateGrad.logistic a * (1 - GateGrad.logistic a))
/-- The gradient of the array of which the norm is taken; `dx` is the norm's cotangent. -/
def dyArr (y dx : Rows) (g : Gain) : Rows := fun i => drow (row y (i 0)) (gained g (row dx (i 0))) (i 1)
/-- The gradient of branch `b`; `d` is the cotangent of the merge. -/
def dbranch (p : Proj) (b : Fin 3) (d : Rows) : Rows := fun i => GateGrad.logistic (gates p b (i 0) (i 1)) * d i
/-- The gradient of the gate in row `r`, branch `b` and column `j`. -/
def dgates (p : Proj) (d : Rows) (y : Fin 3 → Rows) (r : Fin 4096) (b : Fin 3) (j : Fin 1024) : EReal :=
  dgate (d (ix2 r j) * y b (ix2 r j)) (gates p b r j)
/-- The array `old` with the gradients of the gates in the gates' columns. -/
def withGates (p : Proj) (d : Rows) (y : Fin 3 → Rows) (old : Main) : Main := fun i =>
  if 3072 ≤ (i 1).val ∧ (i 1).val < 6144 then
    dgates p d y (i 0) ⟨((i 1).val - 3072) / 1024 % 3, Nat.mod_lt _ (by decide)⟩ ⟨((i 1).val - 3072) % 1024, Nat.mod_lt _ (by decide)⟩
  else old i

theorem withGates_in (p : Proj) (d : Rows) (y : Fin 3 → Rows) (old : Main) (r : Fin 4096) (b : Fin 3) (j : Fin 1024) (c : Fin 7168)
    (hc : c.val = 3072 + (b.val * 1024 + j.val)) : withGates p d y old (ix2 r c) = dgates p d y r b j := by
  have hj := j.isLt
  have hb := b.isLt
  have e : 3072 ≤ ((ix2 r c : (⟨2, ![4096, 7168]⟩ : Shape).Idx) 1).val ∧ ((ix2 r c : (⟨2, ![4096, 7168]⟩ : Shape).Idx) 1).val < 6144 := by
    show 3072 ≤ c.val ∧ c.val < 6144
    omega
  refine (if_pos e).trans ?_
  have eb : (⟨(c.val - 3072) / 1024 % 3, Nat.mod_lt _ (by decide)⟩ : Fin 3) = b := Fin.ext (by show (c.val - 3072) / 1024 % 3 = b.val; omega)
  have ej : (⟨(c.val - 3072) % 1024, Nat.mod_lt _ (by decide)⟩ : Fin 1024) = j := Fin.ext (by show (c.val - 3072) % 1024 = j.val; omega)
  show dgates p d y r ⟨(c.val - 3072) / 1024 % 3, _⟩ ⟨(c.val - 3072) % 1024, _⟩ = _
  rw [eb, ej]
theorem withGates_out (p : Proj) (d : Rows) (y : Fin 3 → Rows) (old : Main) (r : Fin 4096) (c : Fin 7168)
    (hc : ¬(3072 ≤ c.val ∧ c.val < 6144)) : withGates p d y old (ix2 r c) = old (ix2 r c) := if_neg hc

/-- The hyperbolic tangent of half a number is real, infinite ones included. -/
theorem tanh_real (a : EReal) : ∃ t : ℝ, Ideal.tanh (half * a) = (t : EReal) := by
  have h2 : (0 : ℝ) < 1 / 2 := by norm_num
  induction a using EReal.rec with
  | bot => exact ⟨-1, by rw [half_eq, EReal.coe_mul_bot_of_pos h2]; rfl⟩
  | top => exact ⟨1, by rw [half_eq, EReal.coe_mul_top_of_pos h2]; rfl⟩
  | coe r => exact ⟨Real.tanh (1 / 2 * r), by rw [half_eq, ← EReal.coe_mul, Ideal.tanh_coe]⟩
/-- The gradient of a gate by the hyperbolic tangent. -/
theorem dgate_tanh (z a : EReal) :
    half * (half * z * ((1 + Ideal.tanh (half * a)) * (1 - Ideal.tanh (half * a)))) = dgate z a := by
  obtain ⟨t, ht⟩ := tanh_real a
  unfold dgate
  rw [← tanhSig_eq]
  unfold tanhSig
  rw [ht, half_eq]
  have one : (1 : EReal) = ((1 : ℝ) : EReal) := rfl
  rw [one, ← EReal.coe_add, ← EReal.coe_sub, ← EReal.coe_mul, ← EReal.coe_mul, ← EReal.coe_add, ← EReal.coe_sub, ← EReal.coe_mul,
    mul_comm _ z, mul_assoc z, ← EReal.coe_mul, mul_left_comm, ← EReal.coe_mul]
  congr 2
  ring

end Cert.Merge
end
-- ==== Proof.Reference13Read.lean ====
module

public import proofs.«01_k».proof.Proof.MergeGrad
public import proofs.«01_k».proof.Proof.Gen.Reference13Ideal.Read

/-! The gradient of the token mixing's gated merge and last products: what the reference computes. -/

@[expose] public section
set_option maxRecDepth 16384
noncomputable section
namespace Cert.Reference13Ideal.Value
open Idealize.ShloMosaic Idealize.ShloMosaic.TcCoe Idealize.SL.Sem
open Cert.Reference13Ideal Cert.Reference13Ideal.Gen Cert.Reference13Ideal.Read
open Cert.NormGrad Cert.Forward Cert.Merge

variable (x0 : FVec Ideal S4096x7296 .bf16) (x1 : FVec Ideal S4096x1024 .bf16) (x2 x3 : FVec Ideal S4096x512 .bf16)
  (x4 : FVec Ideal S4096x1024 .f32) (x5 : FVec Ideal S1024x1024 .bf16) (x6 x7 : FVec Ideal S512x1024 .bf16)
  (x8 : FVec Ideal S1024x1024 .bf16) (x9 : FVec Ideal S1x1024 .f32) (x10 : FVec Ideal S4096x7168 .bf16)

/-- The merge's product. -/
abbrev yArr : Rows := prodArr (merge x0 (prodArr x1 x5) (prodArr x2 x6) (prodArr x3 x7)) x8
/-- The gradient of the merge's product. -/
abbrev dyA : Rows := dyArr (yArr x0 x1 x2 x3 x5 x6 x7 x8) x4 x9
/-- The gradient of the merge. -/
abbrev dmA : Rows := prodT (dyA x0 x1 x2 x3 x4 x5 x6 x7 x8 x9) x8

theorem ya_read (r : Fin 4096) (j : Fin 1024) : val_main_v7 (F := Ideal) x1 x5 (ix2 r j) = prodArr x1 x5 (ix2 r j) := by
  pointwise [val_main_v7, val_main_v3, val_main_v0]
  rfl
theorem yb_read (r : Fin 4096) (j : Fin 1024) : val_main_v8 (F := Ideal) x2 x6 (ix2 r j) = prodArr x2 x6 (ix2 r j) := by
  pointwise [val_main_v8, val_main_v4, val_main_v1]
  rfl
theorem yc_read (r : Fin 4096) (j : Fin 1024) : val_main_v9 (F := Ideal) x3 x7 (ix2 r j) = prodArr x3 x7 (ix2 r j) := by
  pointwise [val_main_v9, val_main_v5, val_main_v2]
  rfl
theorem sig_read (r : Fin 4096) (b : Fin 3) (j : Fin 1024) :
    val_main_v18 (F := Ideal) x0 (ix3 r b j) = GateGrad.logistic (gates x0 b r j) := by
  pointwise [val_main_v18, val_main_v17, val_main_cst_0, val_main_v16, val_main_v15, val_main_cst, val_main_v14, val_main_v13, val_main_v12,
    val_main_v11, val_main_v10]
  rfl
theorem sig0_read (r : Fin 4096) (j : Fin 1024) : val_main_v23 (F := Ideal) x0 (ix2 r j) = GateGrad.logistic (gates x0 0 r j) := by
  pointwise [val_main_v23, val_main_v22]
  exact sig_read x0 r 0 j
theorem sig1_read (r : Fin 4096) (j : Fin 1024) : val_main_v26 (F := Ideal) x0 (ix2 r j) = GateGrad.logistic (gates x0 1 r j) := by
  pointwise [val_main_v26, val_main_v25]
  exact sig_read x0 r 1 j
theorem sig2_read (r : Fin 4096) (j : Fin 1024) : val_main_v30 (F := Ideal) x0 (ix2 r j) = GateGrad.logistic (gates x0 2 r j) := by
  pointwise [val_main_v30, val_main_v29]
  exact sig_read x0 r 2 j
theorem y_read (r : Fin 4096) (j : Fin 1024) : val_main_v33 (F := Ideal) x0 x1 x2 x3 x5 x6 x7 x8 (ix2 r j)
    = yArr x0 x1 x2 x3 x5 x6 x7 x8 (ix2 r j) := by
  pointwise [val_main_v33, val_main_v32, val_main_v31, val_main_v28, val_main_v27, val_main_v24, val_main_v6]
  simp only [sig0_read, sig1_read, sig2_read, ya_read, yb_read, yc_read]
  rfl
theorem dy_read (r : Fin 4096) (j : Fin 1024) : val_main_v67 (F := Ideal) x0 x1 x2 x3 x4 x5 x6 x7 x8 x9 (ix2 r j)
    = dyA x0 x1 x2 x3 x4 x5 x6 x7 x8 x9 (ix2 r j) := by
  pointwise [val_main_v67, val_main_v66, val_main_v65, val_main_v64, val_main_v63, val_main_v62, val_main_cst_9, val_main_v61, val_main_v60,
    val_main_cst_8, val_main_v59, val_main_v58, val_main_v57, val_main_v56, val_main_v55, val_main_cst_7, val_main_v54, val_main_v53,
    val_main_v52, val_main_v44, val_main_v43, val_main_cst_5, val_main_v42, val_main_v41, val_main_v40, val_main_v39, val_main_cst_4,
    val_main_v38, val_main_v37, val_main_cst_3, val_main_v36, val_main_v35, val_main_cst_2, val_main_v34]
  simp only [y_read, Finset.univ_unique, Finset.sum_singleton]
  rfl
theorem dg_array : val_main_v51 (F := Ideal) x0 x1 x2 x3 x4 x5 x6 x7 x8 = dgain (yArr x0 x1 x2 x3 x5 x6 x7 x8) (row x4) := by
  funext i
  obtain ⟨z, j, rfl⟩ : ∃ (z : Fin 1) (j : Fin 1024), i = ix2 z j := ⟨i 0, i 1, eq_ix2 i⟩
  pointwise [val_main_v51, val_main_v50, val_main_cst_6, val_main_v49, val_main_v46, val_main_v45, val_main_v41, val_main_v40, val_main_v39,
    val_main_cst_4, val_main_v38, val_main_v37, val_main_cst_3, val_main_v36, val_main_v35, val_main_cst_2, val_main_v34]
  simp only [y_read]
  rfl
theorem dm_read (r : Fin 4096) (j : Fin 1024) : val_main_v68 (F := Ideal) x0 x1 x2 x3 x4 x5 x6 x7 x8 x9 (ix2 r j)
    = dmA x0 x1 x2 x3 x4 x5 x6 x7 x8 x9 (ix2 r j) := by
  pointwise [val_main_v68, val_main_v6]
  simp only [dy_read]
  rfl
theorem dya_read (r : Fin 4096) (j : Fin 1024) : val_main_v78 (F := Ideal) x0 x1 x2 x3 x4 x5 x6 x7 x8 x9 (ix2 r j)
    = dbranch x0 0 (dmA x0 x1 x2 x3 x4 x5 x6 x7 x8 x9) (ix2 r j) := by
  pointwise [val_main_v78]
  rw [sig0_read, dm_read]
  rfl
theorem dyb_read (r : Fin 4096) (j : Fin 1024) : val_main_v73 (F := Ideal) x0 x1 x2 x3 x4 x5 x6 x7 x8 x9 (ix2 r j)
    = dbranch x0 1 (dmA x0 x1 x2 x3 x4 x5 x6 x7 x8 x9) (ix2 r j) := by
  pointwise [val_main_v73]
  rw [sig1_read, dm_read]
  rfl
theorem dyc_read (r : Fin 4096) (j : Fin 1024) : val_main_v69 (F := Ideal) x0 x1 x2 x3 x4 x5 x6 x7 x8 x9 (ix2 r j)
    = dbranch x0 2 (dmA x0 x1 x2 x3 x4 x5 x6 x7 x8 x9) (ix2 r j) := by
  pointwise [val_main_v69]
  rw [sig2_read, dm_read]
  rfl
/-- The three branches. -/
abbrev branches : Fin 3 → Rows := ![prodArr x1 x5, prodArr x2 x6, prodArr x3 x7]
theorem dgate0_read (r : Fin 4096) (j : Fin 1024) : val_main_v83 (F := Ideal) x0 x1 x2 x3 x4 x5 x6 x7 x8 x9 (ix3 r 0 j)
    = dgates x0 (dmA x0 x1 x2 x3 x4 x5 x6 x7 x8 x9) (branches x1 x2 x3 x5 x6 x7) r 0 j := by
  pointwise [val_main_v83, val_main_v82, val_main_v81, val_main_cst_12, val_main_v80, val_main_v79, val_main_v77, val_main_v76, val_main_cst_11,
    val_main_v75, val_main_v74, val_main_v72, val_main_cst_10, val_main_v71, val_main_v70, val_main_v21, val_main_v20, val_main_v19,
    val_main_cst_1]
  rw [sig_read, dm_read, ya_read]
  rfl
theorem dgate1_read (r : Fin 4096) (j : Fin 1024) : val_main_v83 (F := Ideal) x0 x1 x2 x3 x4 x5 x6 x7 x8 x9 (ix3 r 1 j)
    = dgates x0 (dmA x0 x1 x2 x3 x4 x5 x6 x7 x8 x9) (branches x1 x2 x3 x5 x6 x7) r 1 j := by
  pointwise [val_main_v83, val_main_v82, val_main_v81, val_main_cst_12, val_main_v80, val_main_v79, val_main_v77, val_main_v76, val_main_cst_11,
    val_main_v75, val_main_v74, val_main_v72, val_main_cst_10, val_main_v71, val_main_v70, val_main_v21, val_main_v20, val_main_v19,
    val_main_cst_1]
  rw [sig_read, dm_read, yb_read]
  rfl
theorem dgate2_read (r : Fin 4096) (j : Fin 1024) : val_main_v83 (F := Ideal) x0 x1 x2 x3 x4 x5 x6 x7 x8 x9 (ix3 r 2 j)
    = dgates x0 (dmA x0 x1 x2 x3 x4 x5 x6 x7 x8 x9) (branches x1 x2 x3 x5 x6 x7) r 2 j := by
  pointwise [val_main_v83, val_main_v82, val_main_v81, val_main_cst_12, val_main_v80, val_main_v79, val_main_v77, val_main_v76, val_main_cst_11,
    val_main_v75, val_main_v74, val_main_v72, val_main_cst_10, val_main_v71, val_main_v70, val_main_v21, val_main_v20, val_main_v19,
    val_main_cst_1]
  rw [sig_read, dm_read, yc_read]
  rfl
theorem dgate_read (r : Fin 4096) (b : Fin 3) (j : Fin 1024) : val_main_v83 (F := Ideal) x0 x1 x2 x3 x4 x5 x6 x7 x8 x9 (ix3 r b j)
    = dgates x0 (dmA x0 x1 x2 x3 x4 x5 x6 x7 x8 x9) (branches x1 x2 x3 x5 x6 x7) r b j := by
  match b with
  | 0 => exact dgate0_read x0 x1 x2 x3 x4 x5 x6 x7 x8 x9 r j
  | 1 => exact dgate1_read x0 x1 x2 x3 x4 x5 x6 x7 x8 x9 r j
  | 2 => exact dgate2_read x0 x1 x2 x3 x4 x5 x6 x7 x8 x9 r j
theorem dy_array : val_main_v92 (F := Ideal) x0 x1 x2 x3 x4 x5 x6 x7 x8 x9 = dyA x0 x1 x2 x3 x4 x5 x6 x7 x8 x9 := by
  funext i
  obtain ⟨r, j, rfl⟩ : ∃ (r : Fin 4096) (j : Fin 1024), i = ix2 r j := ⟨i 0, i 1, eq_ix2 i⟩
  pointwise [val_main_v92]
  exact dy_read x0 x1 x2 x3 x4 x5 x6 x7 x8 x9 r j
theorem dya_array : val_main_v93 (F := Ideal) x0 x1 x2 x3 x4 x5 x6 x7 x8 x9 = dbranch x0 0 (dmA x0 x1 x2 x3 x4 x5 x6 x7 x8 x9) := by
  funext i
  obtain ⟨r, j, rfl⟩ : ∃ (r : Fin 4096) (j : Fin 1024), i = ix2 r j := ⟨i 0, i 1, eq_ix2 i⟩
  pointwise [val_main_v93]
  exact dya_read x0 x1 x2 x3 x4 x5 x6 x7 x8 x9 r j
theorem dyb_array : val_main_v94 (F := Ideal) x0 x1 x2 x3 x4 x5 x6 x7 x8 x9 = dbranch x0 1 (dmA x0 x1 x2 x3 x4 x5 x6 x7 x8 x9) := by
  funext i
  obtain ⟨r, j, rfl⟩ : ∃ (r : Fin 4096) (j : Fin 1024), i = ix2 r j := ⟨i 0, i 1, eq_ix2 i⟩
  pointwise [val_main_v94]
  exact dyb_read x0 x1 x2 x3 x4 x5 x6 x7 x8 x9 r j
theorem dyc_array : val_main_v95 (F := Ideal) x0 x1 x2 x3 x4 x5 x6 x7 x8 x9 = dbranch x0 2 (dmA x0 x1 x2 x3 x4 x5 x6 x7 x8 x9) := by
  funext i
  obtain ⟨r, j, rfl⟩ : ∃ (r : Fin 4096) (j : Fin 1024), i = ix2 r j := ⟨i 0, i 1, eq_ix2 i⟩
  pointwise [val_main_v95]
  exact dyc_read x0 x1 x2 x3 x4 x5 x6 x7 x8 x9 r j
theorem da_array : val_main_v96 (F := Ideal) x0 x1 x2 x3 x4 x5 x6 x7 x8 x9
    = prodT (dbranch x0 0 (dmA x0 x1 x2 x3 x4 x5 x6 x7 x8 x9)) x5 := by
  funext i
  obtain ⟨r, k, rfl⟩ : ∃ (r : Fin 4096) (k : Fin 1024), i = ix2 r k := ⟨i 0, i 1, eq_ix2 i⟩
  pointwise [val_main_v96, val_main_v89, val_main_v3]
  simp only [dya_read]
  rfl
theorem db_array : val_main_v97 (F := Ideal) x0 x1 x2 x3 x4 x5 x6 x7 x8 x9
    = prodT (dbranch x0 1 (dmA x0 x1 x2 x3 x4 x5 x6 x7 x8 x9)) x6 := by
  funext i
  obtain ⟨r, k, rfl⟩ : ∃ (r : Fin 4096) (k : Fin 512), i = ix2 r k := ⟨i 0, i 1, eq_ix2 i⟩
  pointwise [val_main_v97, val_main_v90, val_main_v4]
  simp only [dyb_read]
  rfl
theorem dc_array : val_main_v98 (F := Ideal) x0 x1 x2 x3 x4 x5 x6 x7 x8 x9
    = prodT (dbranch x0 2 (dmA x0 x1 x2 x3 x4 x5 x6 x7 x8 x9)) x7 := by
  funext i
  obtain ⟨r, k, rfl⟩ : ∃ (r : Fin 4096) (k : Fin 512), i = ix2 r k := ⟨i 0, i 1, eq_ix2 i⟩
  pointwise [val_main_v98, val_main_v91, val_main_v5]
  simp only [dyc_read]
  rfl
theorem main_array : val_main_v88 (F := Ideal) x0 x1 x2 x3 x4 x5 x6 x7 x8 x9 x10
    = withGates x0 (dmA x0 x1 x2 x3 x4 x5 x6 x7 x8 x9) (branches x1 x2 x3 x5 x6 x7) x10 := by
  funext i
  obtain ⟨r, c, rfl⟩ : ∃ (r : Fin 4096) (c : Fin 7168), i = ix2 r c := ⟨i 0, i 1, eq_ix2 i⟩
  by_cases h : 3072 ≤ c.val ∧ c.val < 6144
  · rw [withGates_in _ _ _ _ r ⟨(c.val - 3072) / 1024, by omega⟩ ⟨(c.val - 3072) % 1024, Nat.mod_lt _ (by decide)⟩ c
      (by show c.val = 3072 + ((c.val - 3072) / 1024 * 1024 + (c.val - 3072) % 1024); omega), ← dgate_read]
    pointwise [val_main_v88, val_main_v86, val_main_v85, val_main_v84, val_main_v87]
    have h1 : ¬c.val < 3072 := by omega
    have h2 : c.val - 3072 < 3072 := by omega
    refine (dif_neg h1).trans ((dif_pos h2).trans ?_)
    rfl
  · rw [withGates_out _ _ _ _ r c h]
    pointwise [val_main_v88, val_main_v84, val_main_v87]
    by_cases h1 : c.val < 3072
    · exact dif_pos h1
    · have h2 : ¬c.val - 3072 < 3072 := by omega
      refine (dif_neg h1).trans ((dif_neg h2).trans ?_)
      refine congrArg x10 (congrArg (ix2 r) (Fin.ext ?_))
      show 6144 + (c.val - 3072 - 3072) = c.val
      omega

end Cert.Reference13Ideal.Value
end
-- ==== Proof.Kernel13Tile.lean ====
module

public import proofs.«01_k».proof.Proof.MergeGrad
public import proofs.«01_k».proof.Proof.Gen.Kernel13Ideal.Value

/-! The gradient of the token mixing's gated merge and last products: one grid point's tile of the kernel. -/

@[expose] public section
set_option maxRecDepth 16384
noncomputable section
namespace Cert.Kernel13Ideal.Value
open Idealize.ShloMosaic Idealize.ShloMosaic.TcCoe Idealize.SL.Sem
open Idealize.ShloMosaic.Pipeline (Dat)
open Cert.Kernel13Ideal Cert.Kernel13Ideal.Gen
open Cert.NormGrad Cert.GateGrad Cert.Forward Cert.Merge

/-! ## One grid point: a tile of 512 rows -/

section norm
variable (v0 : Vec Ideal S512x1024 .bf16) (v2 : Vec Ideal S512x1024 .f32) (v10 : Vec Ideal S1x1024 .f32)

theorem meanSq_tile (a : Fin 512) (z : Fin 1) : k0_pay6 (F := Ideal) v0 (ix2 a z) = meanSq fun j => v0 (ix2 a j) := by
  pointwise [k0_pay6, k0_pay5]
  rfl
theorem inv_tile (a : Fin 512) (z : Fin 1) : k0_pay7 (F := Ideal) v0 (ix2 a z) = NormGrad.inv fun j => v0 (ix2 a j) := by
  pointwise [k0_pay7]
  rw [meanSq_tile]
  rfl
/-- The tile of the gradient of the merge's product. -/
abbrev dyT : FVec Ideal S512x1024 .bf16 := k0_pay10 v2 v10 (k0_pay5 v0) (k0_pay7 v0) (k0_pay8 v0)
theorem dy_tile (a : Fin 512) (j : Fin 1024) : dyT v0 v2 v10 (ix2 a j)
    = drow (fun j => v0 (ix2 a j)) (gained v10 fun j => v2 (ix2 a j)) j := by
  pointwise [k0_pay10, k0_pay8, k0_pay5]
  simp only [meanSq_tile, inv_tile, Finset.univ_unique, Finset.sum_singleton]
  rfl
theorem dg_tile (z : Fin 1) (j : Fin 1024) : k0_pay9 (F := Ideal) v0 v2 (ix2 z j)
    = ∑ a, dgainRow (fun j => v0 (ix2 a j)) (fun j => v2 (ix2 a j)) j := by
  pointwise [k0_pay9, k0_pay5]
  simp only [inv_tile]
  rfl
end norm

section merge
variable (v3 : Vec Ideal S512x3072 .bf16) (v4 v6 v8 : Vec Ideal S512x1024 .bf16) (v11 : Vec Ideal S1024x1024 .bf16)
  (dy : FVec Ideal S512x1024 .bf16) (a : Fin 512) (j : Fin 1024)

theorem dm_tile : k0_pay23 (F := Ideal) v11 dy (ix2 a j) = prodT dy v11 (ix2 a j) := by
  pointwise [k0_pay23]
  rfl
theorem tanh0_tile : k0_pay15 (F := Ideal) v3 (ix2 a j) = Ideal.tanh (half * v3 (ix2 a ⟨j.val, by omega⟩)) := by
  pointwise [k0_pay15, k0_pay11]
  rfl
theorem tanh1_tile : k0_pay18 (F := Ideal) v3 (ix2 a j) = Ideal.tanh (half * v3 (ix2 a ⟨1024 + j.val, by omega⟩)) := by
  pointwise [k0_pay18, k0_pay11]
  rfl
theorem tanh2_tile : k0_pay22 (F := Ideal) (k0_pay11 v3) (ix2 a j) = Ideal.tanh (half * v3 (ix2 a ⟨2048 + j.val, by omega⟩)) := by
  pointwise [k0_pay22, k0_pay11]
  rfl

/-- The tile of branch 0's gradient. -/
abbrev dyaT : FVec Ideal S512x1024 .f32 := k0_pay27 v11 dy (k0_pay17 v3)
/-- The tile of branch 1's gradient. -/
abbrev dybT : FVec Ideal S512x1024 .f32 := k0_pay25 v11 dy (k0_pay20 v3) k0_pay21
/-- The tile of branch 2's gradient. -/
abbrev dycT : FVec Ideal S512x1024 .f32 := k0_pay24 v11 dy (k0_pay11 v3)
theorem dya_tile : dyaT v3 v11 dy (ix2 a j) = GateGrad.logistic (v3 (ix2 a ⟨j.val, by omega⟩)) * prodT dy v11 (ix2 a j) := by
  pointwise [k0_pay27, k0_pay17]
  rw [tanh0_tile, dm_tile, ← tanhSig_eq]
  rfl
theorem dyb_tile : dybT v3 v11 dy (ix2 a j) = GateGrad.logistic (v3 (ix2 a ⟨1024 + j.val, by omega⟩)) * prodT dy v11 (ix2 a j) := by
  pointwise [k0_pay25, k0_pay20, k0_pay21]
  rw [tanh1_tile, dm_tile, ← tanhSig_eq]
  rfl
theorem dyc_tile : dycT v3 v11 dy (ix2 a j) = GateGrad.logistic (v3 (ix2 a ⟨2048 + j.val, by omega⟩)) * prodT dy v11 (ix2 a j) := by
  pointwise [k0_pay24]
  rw [tanh2_tile, dm_tile, ← tanhSig_eq]
  rfl

/-- The tile of the gates' gradients. -/
abbrev dgT : FVec Ideal S512x3072 .bf16 := k0_pay32
  (k0_pay26 v11 dy (k0_pay11 v3) (k0_pay13 (k0_pay3 v6)) (k0_pay14 (k0_pay4 v8)) (k0_pay19 v3))
  (k0_pay28 v11 dy (k0_pay12 (k0_pay2 v4)) (k0_pay16 v3))
theorem dg0_tile : dgT v3 v4 v6 v8 v11 dy (ix2 a ⟨j.val, by omega⟩)
    = dgate (prodT dy v11 (ix2 a j) * v4 (ix2 a j)) (v3 (ix2 a ⟨j.val, by omega⟩)) := by
  pointwise [k0_pay32, k0_pay26, k0_pay28, k0_pay12, k0_pay2, k0_pay16]
  have h : j.val < 2048 := by omega
  simp only [h, dif_pos, zero_add]
  rw [tanh0_tile, dm_tile, ← dgate_tanh]
  rfl
theorem dg1_tile : dgT v3 v4 v6 v8 v11 dy (ix2 a ⟨1024 + j.val, by omega⟩)
    = dgate (prodT dy v11 (ix2 a j) * v6 (ix2 a j)) (v3 (ix2 a ⟨1024 + j.val, by omega⟩)) := by
  pointwise [k0_pay32, k0_pay26, k0_pay28, k0_pay13, k0_pay3, k0_pay19]
  have h : 1024 + j.val < 2048 := by omega
  simp only [h, dif_pos, zero_add, add_zero]
  rw [tanh1_tile, dm_tile, ← dgate_tanh]
  rfl
theorem dg2_tile : dgT v3 v4 v6 v8 v11 dy (ix2 a ⟨2048 + j.val, by omega⟩)
    = dgate (prodT dy v11 (ix2 a j) * v8 (ix2 a j)) (v3 (ix2 a ⟨2048 + j.val, by omega⟩)) := by
  pointwise [k0_pay32, k0_pay26, k0_pay28, k0_pay14, k0_pay4]
  have h : ¬2048 + j.val < 1024 := by omega
  simp only [h, dif_neg, not_false_eq_true, zero_add, add_zero]
  rw [tanh2_tile, dm_tile, ← dgate_tanh]
  rfl
end merge

theorem da_tile (w : Vec Ideal S1024x1024 .bf16) (d : FVec Ideal S512x1024 .f32) (a : Fin 512) (k : Fin 1024) :
    k0_pay33 (F := Ideal) w d (ix2 a k) = prodT d w (ix2 a k) := by
  pointwise [k0_pay33, k0_pay31]
  rfl
theorem db_tile (w : Vec Ideal S512x1024 .bf16) (d : FVec Ideal S512x1024 .f32) (a : Fin 512) (k : Fin 512) :
    k0_pay34 (F := Ideal) w d (ix2 a k) = prodT d w (ix2 a k) := by
  pointwise [k0_pay34, k0_pay30]
  rfl
theorem dc_tile (w : Vec Ideal S512x1024 .bf16) (d : FVec Ideal S512x1024 .f32) (a : Fin 512) (k : Fin 512) :
    k0_pay35 (F := Ideal) w d (ix2 a k) = prodT d w (ix2 a k) := by
  pointwise [k0_pay35, k0_pay29]
  rfl

/-! ## The whole grid -/

variable (m : (ℓ : Loc nD τ sig) → Buf (Elt Ideal) ℓ)

theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 1] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] :=
  (by decide +kernel : ∀ t : Fin grid0.N, _)

/-- The row of the arrays that row `a` of grid point `t`'s tile is. -/
def rowOf (t : Fin cfg0.N) (a : Fin 512) : Fin 4096 :=
  ⟨t.val * 512 + a.val, by have h : t.val < 8 := Nat.lt_of_lt_of_eq t.isLt N_0; omega⟩

variable (c : Dev nD)

abbrev pArr : Proj := m ((c : Thread nD τ).loc main_arg0)
abbrev dxArr : Rows := m ((c : Thread nD τ).loc main_arg4)
abbrev woArr : Square := m ((c : Thread nD τ).loc main_arg8)
abbrev gArr : Gain := m ((c : Thread nD τ).loc main_arg9)
def yaArr : Rows := prodArr (m ((c : Thread nD τ).loc main_arg1)) (m ((c : Thread nD τ).loc main_arg5))
def ybArr : Rows := prodArr (m ((c : Thread nD τ).loc main_arg2)) (m ((c : Thread nD τ).loc main_arg6))
def ycArr : Rows := prodArr (m ((c : Thread nD τ).loc main_arg3)) (m ((c : Thread nD τ).loc main_arg7))
/-- The merge's product. -/
def yArr : Rows := prodArr (merge (pArr m c) (yaArr m c) (ybArr m c) (ycArr m c)) (woArr m c)
/-- Its gradient. -/
def dyA : Rows := dyArr (yArr m c) (dxArr m c) (gArr m c)
/-- The gradient of the merge. -/
def dmA : Rows := prodT (dyA m c) (woArr m c)
/-- The three branches. -/
def branches : Fin 3 → Rows := ![yaArr m c, ybArr m c, ycArr m c]

set_option maxHeartbeats 4000000 in
theorem y_host : V m c main_v31 = yArr m c := by
  unfold V
  after_results
  funext i
  obtain ⟨r, j, rfl⟩ : ∃ (r : Fin 4096) (j : Fin 1024), i = ix2 r j := ⟨i 0, i 1, eq_ix2 i⟩
  pointwise []
  rfl
theorem ya_host : V m c main_v32 = yaArr m c := by
  unfold V
  after_results
  funext i
  obtain ⟨r, j, rfl⟩ : ∃ (r : Fin 4096) (j : Fin 1024), i = ix2 r j := ⟨i 0, i 1, eq_ix2 i⟩
  pointwise []
  rfl
theorem yb_host : V m c main_v33 = ybArr m c := by
  unfold V
  after_results
  funext i
  obtain ⟨r, j, rfl⟩ : ∃ (r : Fin 4096) (j : Fin 1024), i = ix2 r j := ⟨i 0, i 1, eq_ix2 i⟩
  pointwise []
  rfl
theorem yc_host : V m c main_v34 = ycArr m c := by
  unfold V
  after_results
  funext i
  obtain ⟨r, j, rfl⟩ : ∃ (r : Fin 4096) (j : Fin 1024), i = ix2 r j := ⟨i 0, i 1, eq_ix2 i⟩
  pointwise []
  rfl
theorem main_host : V m c main_v35_1 = m ((c : Thread nD τ).loc main_arg10) := by
  unfold V
  after_results
  rfl

theorem y_blk (t : Fin cfg0.N) (a : Fin 512) : (fun j => (iblk m c 0 t : Vec Ideal S512x1024 .bf16) (ix2 a j)) = row (yArr m c) (rowOf t a) := by
  funext j
  rw [← y_host]
  blk_point [iblk, idx t]
  rfl
theorem dx_blk (t : Fin cfg0.N) (a : Fin 512) : (fun j => (iblk m c 1 t : Vec Ideal S512x1024 .f32) (ix2 a j)) = row (dxArr m c) (rowOf t a) := by
  funext j
  blk_point [iblk, V, idx t]
  rfl
theorem gate_blk (t : Fin cfg0.N) (a : Fin 512) (b : Fin 3) (j : Fin 1024) (q : Fin 3072) (hq : q.val = b.val * 1024 + j.val) :
    X0_2 m c t (ix2 a q) = gates (pArr m c) b (rowOf t a) j := by
  have e : q = ⟨b.val * 1024 + j.val, by omega⟩ := Fin.ext hq
  rw [e]
  unfold X0_2 Pipeline.Window.fill
  rw [dif_pos (moved0_2 t _)]
  blk_point [iblk, V, idx t]
  rfl
theorem ya_blk (t : Fin cfg0.N) (a : Fin 512) (j : Fin 1024) :
    (iblk m c 3 t : Vec Ideal S512x1024 .bf16) (ix2 a j) = yaArr m c (ix2 (rowOf t a) j) := by
  rw [← ya_host]
  blk_point [iblk, idx t]
  rfl
theorem yb_blk (t : Fin cfg0.N) (a : Fin 512) (j : Fin 1024) :
    (iblk m c 4 t : Vec Ideal S512x1024 .bf16) (ix2 a j) = ybArr m c (ix2 (rowOf t a) j) := by
  rw [← yb_host]
  blk_point [iblk, idx t]
  rfl
theorem yc_blk (t : Fin cfg0.N) (a : Fin 512) (j : Fin 1024) :
    (iblk m c 5 t : Vec Ideal S512x1024 .bf16) (ix2 a j) = ycArr m c (ix2 (rowOf t a) j) := by
  rw [← yc_host]
  blk_point [iblk, idx t]
  rfl
theorem g_blk (t : Fin cfg0.N) : (iblk m c 6 t : Vec Ideal S1x1024 .f32) = gArr m c := by
  funext i
  blk_point [iblk, V, idx t]
theorem wo_blk (t : Fin cfg0.N) : (iblk m c 7 t : Vec Ideal S1024x1024 .bf16) = woArr m c := by
  funext i
  blk_point [iblk, V, idx t]
theorem wa_blk (t : Fin cfg0.N) : (iblk m c 8 t : Vec Ideal S1024x1024 .bf16) = m ((c : Thread nD τ).loc main_arg5) := by
  funext i
  blk_point [iblk, V, idx t]
theorem wb_blk (t : Fin cfg0.N) : (iblk m c 9 t : Vec Ideal S512x1024 .bf16) = m ((c : Thread nD τ).loc main_arg6) := by
  funext i
  blk_point [iblk, V, idx t]
theorem wc_blk (t : Fin cfg0.N) : (iblk m c 10 t : Vec Ideal S512x1024 .bf16) = m ((c : Thread nD τ).loc main_arg7) := by
  funext i
  blk_point [iblk, V, idx t]

/-- Grid point `t`'s tile of the gradient of the merge's product. -/
abbrev dyB (t : Fin cfg0.N) : FVec Ideal S512x1024 .bf16 := dyT (iblk m c 0 t) (iblk m c 1 t) (iblk m c 6 t)
theorem dy_blk (t : Fin cfg0.N) (a : Fin 512) (j : Fin 1024) : dyB m c t (ix2 a j) = dyA m c (ix2 (rowOf t a) j) := by
  refine (dy_tile _ _ _ a j).trans ?_
  rw [y_blk, dx_blk, g_blk]
  rfl
theorem dm_blk (t : Fin cfg0.N) (a : Fin 512) (j : Fin 1024) : prodT (dyB m c t) (iblk m c 7 t : Vec Ideal S1024x1024 .bf16) (ix2 a j)
    = dmA m c (ix2 (rowOf t a) j) := by
  refine prodT_congr (fun k => dy_blk m c t a k) (fun k => ?_)
  rw [wo_blk]
theorem dya_blk (t : Fin cfg0.N) (a : Fin 512) (j : Fin 1024) : dyaT (X0_2 m c t) (iblk m c 7 t) (dyB m c t) (ix2 a j)
    = dbranch (pArr m c) 0 (dmA m c) (ix2 (rowOf t a) j) := by
  rw [dya_tile, dm_blk, gate_blk m c t a 0 j _ (by show j.val = 0 * 1024 + j.val; omega)]
  rfl
theorem dyb_blk (t : Fin cfg0.N) (a : Fin 512) (j : Fin 1024) : dybT (X0_2 m c t) (iblk m c 7 t) (dyB m c t) (ix2 a j)
    = dbranch (pArr m c) 1 (dmA m c) (ix2 (rowOf t a) j) := by
  rw [dyb_tile, dm_blk, gate_blk m c t a 1 j _ (by show 1024 + j.val = 1 * 1024 + j.val; omega)]
  rfl
theorem dyc_blk (t : Fin cfg0.N) (a : Fin 512) (j : Fin 1024) : dycT (X0_2 m c t) (iblk m c 7 t) (dyB m c t) (ix2 a j)
    = dbranch (pArr m c) 2 (dmA m c) (ix2 (rowOf t a) j) := by
  rw [dyc_tile, dm_blk, gate_blk m c t a 2 j _ (by show 2048 + j.val = 2 * 1024 + j.val; omega)]
  rfl
/-- Grid point `t`'s tile of the gates' gradients. -/
abbrev dgB (t : Fin cfg0.N) : FVec Ideal S512x3072 .bf16 :=
  dgT (X0_2 m c t) (iblk m c 3 t) (iblk m c 4 t) (iblk m c 5 t) (iblk m c 7 t) (dyB m c t)
theorem dg0_blk (t : Fin cfg0.N) (a : Fin 512) (j : Fin 1024) :
    dgB m c t (ix2 a ⟨j.val, by omega⟩) = dgates (pArr m c) (dmA m c) (branches m c) (rowOf t a) 0 j := by
  refine (dg0_tile _ _ _ _ _ _ a j).trans ?_
  rw [dm_blk, ya_blk, gate_blk m c t a 0 j _ (by show j.val = 0 * 1024 + j.val; omega)]
  rfl
theorem dg1_blk (t : Fin cfg0.N) (a : Fin 512) (j : Fin 1024) :
    dgB m c t (ix2 a ⟨1024 + j.val, by omega⟩) = dgates (pArr m c) (dmA m c) (branches m c) (rowOf t a) 1 j := by
  refine (dg1_tile _ _ _ _ _ _ a j).trans ?_
  rw [dm_blk, yb_blk, gate_blk m c t a 1 j _ (by show 1024 + j.val = 1 * 1024 + j.val; omega)]
  rfl
theorem dg2_blk (t : Fin cfg0.N) (a : Fin 512) (j : Fin 1024) :
    dgB m c t (ix2 a ⟨2048 + j.val, by omega⟩) = dgates (pArr m c) (dmA m c) (branches m c) (rowOf t a) 2 j := by
  refine (dg2_tile _ _ _ _ _ _ a j).trans ?_
  rw [dm_blk, yc_blk, gate_blk m c t a 2 j _ (by show 2048 + j.val = 2 * 1024 + j.val; omega)]
  rfl
/-- Columns given by thirds are columns given by branch. -/
theorem by_branch {f : Fin 3072 → EReal} {g : Fin 3 → Fin 1024 → EReal} (h0 : ∀ j : Fin 1024, f ⟨j.val, by omega⟩ = g 0 j)
    (h1 : ∀ j : Fin 1024, f ⟨1024 + j.val, by omega⟩ = g 1 j) (h2 : ∀ j : Fin 1024, f ⟨2048 + j.val, by omega⟩ = g 2 j)
    (b : Fin 3) (j : Fin 1024) (q : Fin 3072) (hq : q.val = b.val * 1024 + j.val) : f q = g b j := by
  obtain ⟨q, hq'⟩ := q
  obtain ⟨b, hb⟩ := b
  change q = b * 1024 + j.val at hq
  subst hq
  rcases (by omega : b = 0 ∨ b = 1 ∨ b = 2) with rfl | rfl | rfl
  · exact (congrArg f (Fin.ext (by show 0 * 1024 + j.val = j.val; omega))).trans (h0 j)
  · exact (congrArg f (Fin.ext (by show 1 * 1024 + j.val = 1024 + j.val; omega))).trans (h1 j)
  · exact (congrArg f (Fin.ext (by show 2 * 1024 + j.val = 2048 + j.val; omega))).trans (h2 j)
theorem dg_blk (t : Fin cfg0.N) (a : Fin 512) (b : Fin 3) (j : Fin 1024) (q : Fin 3072) (hq : q.val = b.val * 1024 + j.val) :
    dgB m c t (ix2 a q) = dgates (pArr m c) (dmA m c) (branches m c) (rowOf t a) b j :=
  by_branch (f := fun q => dgB m c t (ix2 a q)) (g := fun b j => dgates (pArr m c) (dmA m c) (branches m c) (rowOf t a) b j)
    (dg0_blk m c t a) (dg1_blk m c t a) (dg2_blk m c t a) b j q hq

end Cert.Kernel13Ideal.Value
end
-- ==== Proof.Kernel13Value.lean ====
module

public import proofs.«01_k».proof.Proof.Kernel13Tile

/-! The gradient of the token mixing's gated merge and last products: the kernel's nine results after the whole grid. -/

@[expose] public section
set_option maxRecDepth 16384
noncomputable section
namespace Cert.Kernel13Ideal.Value
open Idealize.ShloMosaic Idealize.ShloMosaic.TcCoe Idealize.SL.Sem
open Idealize.ShloMosaic.Pipeline (Dat)
open Cert.Kernel13Ideal Cert.Kernel13Ideal.Gen
open Cert.NormGrad Cert.GateGrad Cert.Forward Cert.Merge

variable (m : (ℓ : Loc nD τ sig) → Buf (Elt Ideal) ℓ) (c : Dev nD)

theorem final11 : (dats m 0 c).arrAt 11 cfg0.N = dyA m c := by
  refine (dats m 0 c).arrAt_eq_of_covers 11 _ (by decide +kernel) fun t hf y => ?_
  have ht : t.val < 8 := Nat.lt_of_lt_of_eq t.isLt N_0
  blk_simp
  rw [after0_11]
  obtain ⟨a, j, rfl⟩ : ∃ (a : Fin 512) (j : Fin 1024), y = ix2 a j := ⟨y 0, y 1, eq_ix2 (n0 := 512) (n1 := 1024) y⟩
  have e : (win0_11.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact dy_blk m c t a j
  · rw [outsAt0_A m c t (by omega) h]
    frame_out
    exact dy_blk m c t a j
theorem final13 : (dats m 0 c).arrAt 13 cfg0.N = dbranch (pArr m c) 0 (dmA m c) := by
  refine (dats m 0 c).arrAt_eq_of_covers 13 _ (by decide +kernel) fun t hf y => ?_
  have ht : t.val < 8 := Nat.lt_of_lt_of_eq t.isLt N_0
  blk_simp
  rw [after0_13]
  obtain ⟨a, j, rfl⟩ : ∃ (a : Fin 512) (j : Fin 1024), y = ix2 a j := ⟨y 0, y 1, eq_ix2 (n0 := 512) (n1 := 1024) y⟩
  have e : (win0_13.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact dya_blk m c t a j
  · rw [outsAt0_A m c t (by omega) h]
    frame_out
    exact dya_blk m c t a j
theorem final14 : (dats m 0 c).arrAt 14 cfg0.N = dbranch (pArr m c) 1 (dmA m c) := by
  refine (dats m 0 c).arrAt_eq_of_covers 14 _ (by decide +kernel) fun t hf y => ?_
  have ht : t.val < 8 := Nat.lt_of_lt_of_eq t.isLt N_0
  blk_simp
  rw [after0_14]
  obtain ⟨a, j, rfl⟩ : ∃ (a : Fin 512) (j : Fin 1024), y = ix2 a j := ⟨y 0, y 1, eq_ix2 (n0 := 512) (n1 := 1024) y⟩
  have e : (win0_14.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact dyb_blk m c t a j
  · rw [outsAt0_A m c t (by omega) h]
    frame_out
    exact dyb_blk m c t a j
theorem final15 : (dats m 0 c).arrAt 15 cfg0.N = dbranch (pArr m c) 2 (dmA m c) := by
  refine (dats m 0 c).arrAt_eq_of_covers 15 _ (by decide +kernel) fun t hf y => ?_
  have ht : t.val < 8 := Nat.lt_of_lt_of_eq t.isLt N_0
  blk_simp
  rw [after0_15]
  obtain ⟨a, j, rfl⟩ : ∃ (a : Fin 512) (j : Fin 1024), y = ix2 a j := ⟨y 0, y 1, eq_ix2 (n0 := 512) (n1 := 1024) y⟩
  have e : (win0_15.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact dyc_blk m c t a j
  · rw [outsAt0_A m c t (by omega) h]
    frame_out
    exact dyc_blk m c t a j
theorem final16 : (dats m 0 c).arrAt 16 cfg0.N = prodT (dbranch (pArr m c) 0 (dmA m c)) (m ((c : Thread nD τ).loc main_arg5)) := by
  refine (dats m 0 c).arrAt_eq_of_covers 16 _ (by decide +kernel) fun t hf y => ?_
  have ht : t.val < 8 := Nat.lt_of_lt_of_eq t.isLt N_0
  blk_simp
  rw [after0_16]
  obtain ⟨a, j, rfl⟩ : ∃ (a : Fin 512) (j : Fin 1024), y = ix2 a j := ⟨y 0, y 1, eq_ix2 (n0 := 512) (n1 := 1024) y⟩
  have e : (win0_16.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact (da_tile _ _ a j).trans (prodT_congr (fun k => dya_blk m c t a k) fun k => by rw [wa_blk])
  · rw [outsAt0_A m c t (by omega) h]
    frame_out
    exact (da_tile _ _ a j).trans (prodT_congr (fun k => dya_blk m c t a k) fun k => by rw [wa_blk])
theorem final17 : (dats m 0 c).arrAt 17 cfg0.N = prodT (dbranch (pArr m c) 1 (dmA m c)) (m ((c : Thread nD τ).loc main_arg6)) := by
  refine (dats m 0 c).arrAt_eq_of_covers 17 _ (by decide +kernel) fun t hf y => ?_
  have ht : t.val < 8 := Nat.lt_of_lt_of_eq t.isLt N_0
  blk_simp
  rw [after0_17]
  obtain ⟨a, j, rfl⟩ : ∃ (a : Fin 512) (j : Fin 512), y = ix2 a j := ⟨y 0, y 1, eq_ix2 (n0 := 512) (n1 := 512) y⟩
  have e : (win0_17.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact (db_tile _ _ a j).trans (prodT_congr (fun k => dyb_blk m c t a k) fun k => by rw [wb_blk])
  · rw [outsAt0_A m c t (by omega) h]
    frame_out
    exact (db_tile _ _ a j).trans (prodT_congr (fun k => dyb_blk m c t a k) fun k => by rw [wb_blk])
theorem final18 : (dats m 0 c).arrAt 18 cfg0.N = prodT (dbranch (pArr m c) 2 (dmA m c)) (m ((c : Thread nD τ).loc main_arg7)) := by
  refine (dats m 0 c).arrAt_eq_of_covers 18 _ (by decide +kernel) fun t hf y => ?_
  have ht : t.val < 8 := Nat.lt_of_lt_of_eq t.isLt N_0
  blk_simp
  rw [after0_18]
  obtain ⟨a, j, rfl⟩ : ∃ (a : Fin 512) (j : Fin 512), y = ix2 a j := ⟨y 0, y 1, eq_ix2 (n0 := 512) (n1 := 512) y⟩
  have e : (win0_18.blk t).view.emb (ix2 a j) = ix2 (rowOf t a) j := by
    blk_point [idx t]
    rfl
  refine Eq.trans ?_ (congrArg _ e.symm)
  by_cases h : 1 ≤ t.val
  · rw [outsAt0_B m c t (by omega) h]
    frame_out
    exact (dc_tile _ _ a j).trans (prodT_congr (fun k => dyc_blk m c t a k) fun k => by rw [wc_blk])
  · rw [outsAt0_A m c t (by omega) h]
    frame_out
    exact (dc_tile _ _ a j).trans (prodT_congr (fun k => dyc_blk m c t a k) fun k => by rw [wc_blk])
theorem final12 : (dats m 0 c).arrAt 12 cfg0.N
    = withGates (pArr m c) (dmA m c) (branches m c) (m ((c : Thread nD τ).loc main_arg10)) := by
  refine ((dats m 0 c).arrAt_eq_of_coversWhere 12 (withGates (pArr m c) (dmA m c) (branches m c) (m ((c : Thread nD τ).loc main_arg10)))
    (P := fun i => (i 1).val / 3072 = 1) (fun β => β (1 : Fin 2) = 1) (by decide +kernel) (fun t hf y => ?_) (fun j => Iff.rfl)).trans ?_
  · have ht : t.val < 8 := Nat.lt_of_lt_of_eq t.isLt N_0
    blk_simp
    rw [after0_12]
    obtain ⟨a, q, hy⟩ : ∃ (a : Fin 512) (q : Fin 3072), (cfg0.win 12).xinj (cfg0.grid.coords t) y = ix2 a q :=
      ⟨_, _, eq_ix2 (n0 := 512) (n1 := 3072) _⟩
    have e0 : (y 0).val = a.val := congrArg (fun i => (i 0).val) hy
    have e1 : (y 1).val = q.val := congrArg (fun i => (i 1).val) hy
    have e : (win0_12.blk t).view.emb y = ix2 (rowOf t a) ⟨3072 + q.val, by omega⟩ := by
      blk_point [idx t]
      · exact congrArg (t.val * 512 + ·) e0
      all_goals first | exact congrArg (3072 + ·) e1 | omega
    rw [hy]
    refine Eq.trans ?_ (congrArg _ e.symm)
    have hb : q.val = (⟨q.val / 1024, by omega⟩ : Fin 3).val * 1024 + (⟨q.val % 1024, Nat.mod_lt _ (by decide)⟩ : Fin 1024).val := by
      show q.val = q.val / 1024 * 1024 + q.val % 1024
      omega
    rw [withGates_in _ _ _ _ (rowOf t a) ⟨q.val / 1024, by omega⟩ ⟨q.val % 1024, Nat.mod_lt _ (by decide)⟩ _
      (by rw [← hb])]
    by_cases h : 1 ≤ t.val
    · rw [outsAt0_B m c t (by omega) h]
      frame_out
      exact dg_blk m c t a _ _ q hb
    · rw [outsAt0_A m c t (by omega) h]
      frame_out
      exact dg_blk m c t a _ _ q hb
  · funext i
    obtain ⟨r, q, rfl⟩ : ∃ (r : Fin 4096) (q : Fin 7168), i = ix2 r q := ⟨i 0, i 1, eq_ix2 i⟩
    by_cases h : q.val / 3072 = 1
    · exact if_pos h
    · refine (if_neg h).trans ?_
      rw [withGates_out _ _ _ _ r q (by omega)]
      exact congrFun (main_host m c) _
theorem final19 : (dats m 0 c).arrAt 19 cfg0.N = dgain (yArr m c) (row (dxArr m c)) := by
  have hg : ∀ (t : Fin cfg0.N) (i : S1x1024.Idx), k0_pay9 (F := Ideal) (iblk m c 0 t) (iblk m c 1 t) i
      = ∑ a, dgainRow (row (yArr m c) (rowOf t a)) (row (dxArr m c) (rowOf t a)) (i 1) := fun t i => by
    obtain ⟨z, j, rfl⟩ : ∃ (z : Fin 1) (j : Fin 1024), i = ix2 z j := ⟨i 0, i 1, eq_ix2 i⟩
    rw [dg_tile]
    simp only [y_blk, dx_blk]
    rfl
  refine (dats m 0 c).arrAt_eq_of_after_last 19 t0_7 (by decide +kernel) _ fun j => ?_
  blk_simp
  rw [after0_19, Pipeline.eq_sum_fin_of_reset_step_apply_last (fun n h => (outsAt0 m c n h).2.2.2.2.2.2.2.2) 8 (fun _ => 0)
    (fun t i => ∑ a, dgainRow (row (yArr m c) (rowOf t a)) (row (dxArr m c) (rowOf t a)) ((i : S1x1024.Idx) 1))
    (fun t h j => by
      have ht : t.val < 8 := Nat.lt_of_lt_of_eq t.isLt N_0
      rw [outsAt0_A m c t h (by omega)]; frame_out
      exact (hg t j).trans (zero_add _).symm)
    (fun t h j => by
      have ht : t.val < 8 := Nat.lt_of_lt_of_eq t.isLt N_0
      rw [outsAt0_B m c t h (by omega)]; frame_out
      refine Eq.trans ?_ (congrArg (_ + ·) (hg t j))
      pointwise [k0_pay1])
    (le_of_eq N_0) t0_7 rfl j, zero_add]
  exact Fin.sum_mul_add_congr (S := 8) (n := 512) fun t a _ => rfl

end Cert.Kernel13Ideal.Value
end
-- ==== Proof.Reference14Read.lean ====
module

public import proofs.«01_k».proof.Proof.NormGrad
public import proofs.«01_k».proof.Proof.Gen.Reference14Ideal.Read

/-! The gradient of the token mixing's last weight: what the reference computes. -/

@[expose] public section
set_option maxRecDepth 16384
noncomputable section
namespace Cert.Reference14Ideal.Value
open Idealize.ShloMosaic Idealize.ShloMosaic.TcCoe Idealize.SL.Sem
open Cert.Reference14Ideal Cert.Reference14Ideal.Gen Cert.Reference14Ideal.Read
open Cert.NormGrad

variable (x0 x1 : FVec Ideal S4096x1024 .bf16)

theorem wgrad_read : val_main_v6 (F := Ideal) x0 x1 = wgrad x0 x1 := by
  funext i
  obtain ⟨a, j, rfl⟩ : ∃ (a : Fin 1024) (j : Fin 1024), i = ix2 a j := ⟨i 0, i 1, eq_ix2 i⟩
  pointwise [val_main_v6, val_main_v5, val_main_v4, val_main_v3, val_main_v1]
  exact Finset.sum_congr rfl fun _ _ => mul_comm _ _

end Cert.Reference14Ideal.Value
end
-- ==== Proof.Kernel14Value.lean ====
module

public import proofs.«01_k».proof.Proof.NormGrad
public import proofs.«01_k».proof.Proof.Gen.Kernel14Ideal.Value

/-! The gradient of the token mixing's last weight: the kernel's result after the whole grid. -/

@[expose] public section
set_option maxRecDepth 16384
noncomputable section
namespace Cert.Kernel14Ideal.Value
open Idealize.ShloMosaic Idealize.ShloMosaic.TcCoe Idealize.SL.Sem
open Cert.Kernel14Ideal Cert.Kernel14Ideal.Gen
open Idealize.ShloMosaic.Pipeline (Dat)
open Cert.NormGrad

variable (m : (ℓ : Loc nD τ sig) → Buf (Elt Ideal) ℓ)

/-- One grid point: the weight's gradient for 256 of its rows. -/
theorem tile (v0 : Vec Ideal S4096x256 .bf16) (v1 : Vec Ideal S4096x1024 .bf16) (a : Fin 256) (j : Fin 1024) :
    k0_pay1 (F := Ideal) v0 v1 (ix2 a j) = ∑ r, v0 (ix2 r a) * v1 (ix2 r j) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- The row of the weight that row `a` of grid point `t`'s tile is. -/
def rowOf (t : Fin cfg0.N) (a : Fin 256) : Fin 1024 :=
  ⟨t.val * 256 + a.val, by have h : t.val < 4 := Nat.lt_of_lt_of_eq t.isLt N_0; omega⟩

variable (c : Dev nD)

theorem z_blk (t : Fin cfg0.N) (r : Fin 4096) (a : Fin 256) :
    (iblk m c 0 t : Vec Ideal S4096x256 .bf16) (ix2 r a) = m ((c : Thread nD τ).loc main_arg0) (ix2 r (rowOf t a)) := by
  blk_point [iblk, V, idx t]
  rfl
theorem h_blk (t : Fin cfg0.N) : (iblk m c 1 t : Vec Ideal S4096x1024 .bf16) = m ((c : Thread nD τ).loc main_arg1) := by
  funext i
  blk_point [iblk, V, idx t]

theorem final2 : (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, j, rfl⟩ : ∃ (a : Fin 256) (j : Fin 1024), y = ix2 a j := ⟨y 0, y 1, eq_ix2 (n0 := 256) (n1 := 1024) y⟩
  have e : (win0_2.blk t).view.emb (ix2 a j) = ix2 (rowOf t a) j := by
    blk_point [idx t]
    rfl
  refine Eq.trans ?_ (congrArg _ e.symm)
  rw [tile, h_blk]
  simp only [z_blk]
  rfl

end Cert.Kernel14Ideal.Value
end
-- ==== Proof.Reference15Read.lean ====
module

public import proofs.«01_k».proof.Proof.NormGrad
public import proofs.«01_k».proof.Proof.Gen.Reference15Ideal.Read

/-! The gradient of the pooling branch's weight: what the reference computes. -/

@[expose] public section
set_option maxRecDepth 16384
noncomputable section
namespace Cert.Reference15Ideal.Value
open Idealize.ShloMosaic Idealize.ShloMosaic.TcCoe Idealize.SL.Sem
open Cert.Reference15Ideal Cert.Reference15Ideal.Gen Cert.Reference15Ideal.Read
open Cert.NormGrad

variable (x0 : FVec Ideal S4096x512 .bf16) (x1 : FVec Ideal S4096x1024 .bf16)

theorem wgrad_read : val_main_v6 (F := Ideal) x0 x1 = wgrad x0 x1 := by
  funext i
  obtain ⟨a, j, rfl⟩ : ∃ (a : Fin 512) (j : Fin 1024), i = ix2 a j := ⟨i 0, i 1, eq_ix2 i⟩
  pointwise [val_main_v6, val_main_v5, val_main_v4, val_main_v3, val_main_v1]
  exact Finset.sum_congr rfl fun _ _ => mul_comm _ _

end Cert.Reference15Ideal.Value
end
-- ==== Proof.Kernel15Value.lean ====
module

public import proofs.«01_k».proof.Proof.NormGrad
public import proofs.«01_k».proof.Proof.Gen.Kernel15Ideal.Value

/-! The gradient of the pooling branch's weight: the kernel's result after the whole grid. -/

@[expose] public section
set_option maxRecDepth 16384
noncomputable section
namespace Cert.Kernel15Ideal.Value
open Idealize.ShloMosaic Idealize.ShloMosaic.TcCoe Idealize.SL.Sem
open Cert.Kernel15Ideal Cert.Kernel15Ideal.Gen
open Idealize.ShloMosaic.Pipeline (Dat)
open Cert.NormGrad

variable (m : (ℓ : Loc nD τ sig) → Buf (Elt Ideal) ℓ)

/-- One grid point: the weight's gradient for 128 of its rows. -/
theorem tile (v0 : Vec Ideal S4096x128 .bf16) (v1 : Vec Ideal S4096x1024 .bf16) (a : Fin 128) (j : Fin 1024) :
    k0_pay1 (F := Ideal) v0 v1 (ix2 a j) = ∑ r, v0 (ix2 r a) * v1 (ix2 r j) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- The row of the weight that row `a` of grid point `t`'s tile is. -/
def rowOf (t : Fin cfg0.N) (a : Fin 128) : Fin 512 :=
  ⟨t.val * 128 + a.val, by have h : t.val < 4 := Nat.lt_of_lt_of_eq t.isLt N_0; omega⟩

variable (c : Dev nD)

theorem z_blk (t : Fin cfg0.N) (r : Fin 4096) (a : Fin 128) :
    (iblk m c 0 t : Vec Ideal S4096x128 .bf16) (ix2 r a) = m ((c : Thread nD τ).loc main_arg0) (ix2 r (rowOf t a)) := by
  blk_point [iblk, V, idx t]
  rfl
theorem h_blk (t : Fin cfg0.N) : (iblk m c 1 t : Vec Ideal S4096x1024 .bf16) = m ((c : Thread nD τ).loc main_arg1) := by
  funext i
  blk_point [iblk, V, idx t]

theorem final2 : (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, j, rfl⟩ : ∃ (a : Fin 128) (j : Fin 1024), y = ix2 a j := ⟨y 0, y 1, eq_ix2 (n0 := 128) (n1 := 1024) y⟩
  have e : (win0_2.blk t).view.emb (ix2 a j) = ix2 (rowOf t a) j := by
    blk_point [idx t]
    rfl
  refine Eq.trans ?_ (congrArg _ e.symm)
  rw [tile, h_blk]
  simp only [z_blk]
  rfl

end Cert.Kernel15Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite5
public import proofs.«01_k».proof.Proof.Gen.KernelIdeal.Value
public import proofs.«01_k».proof.Proof.Gen.ReferenceIdeal.Run
public import proofs.«01_k».proof.Proof.Gen.ReferenceIdeal.Read
public import proofs.«01_k».proof.Proof.ReferenceRead
public import proofs.«01_k».proof.Proof.KernelValue
public import proofs.«01_k».proof.Proof.Precondition
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Reference2Read
public import proofs.«01_k».proof.Proof.Kernel2Value
public import proofs.«01_k».proof.Proof.Reference3Read
public import proofs.«01_k».proof.Proof.Kernel3Value
public import proofs.«01_k».proof.Proof.Reference4Read
public import proofs.«01_k».proof.Proof.Kernel4Value
public import proofs.«01_k».proof.Proof.Reference5Read
public import proofs.«01_k».proof.Proof.Kernel5Value
public import proofs.«01_k».proof.Proof.PreconditionGate
public import proofs.«01_k».proof.Proof.Reference6Read
public import proofs.«01_k».proof.Proof.Kernel6Value
public import proofs.«01_k».proof.Proof.Reference7Read
public import proofs.«01_k».proof.Proof.Kernel7Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Reference8Read
public import proofs.«01_k».proof.Proof.Kernel8Value
public import proofs.«01_k».proof.Proof.Reference9Read
public import proofs.«01_k».proof.Proof.Kernel9Value
public import proofs.«01_k».proof.Proof.Reference10Read
public import proofs.«01_k».proof.Proof.Kernel10Value
public import proofs.«01_k».proof.Proof.Reference11Read
public import proofs.«01_k».proof.Proof.Kernel11Value
public import proofs.«01_k».proof.Proof.Reference12Read
public import proofs.«01_k».proof.Proof.Kernel12Value
public import proofs.«01_k».proof.Proof.Reference13Read
public import proofs.«01_k».proof.Proof.Kernel13Value
public import proofs.«01_k».proof.Proof.Reference14Read
public import proofs.«01_k».proof.Proof.Kernel14Value
public import proofs.«01_k».proof.Proof.Reference15Read
public import proofs.«01_k».proof.Proof.Kernel15Value
public import Idealize.ShloMosaic.Adequacy
public import Idealize.ShloMosaic.Init

@[expose] public section

noncomputable section

namespace Cert.Proof

open Idealize.ShloMosaic Idealize.SL.Sem Cert.Kernel

/-- The reference's frame: host operations only. -/
theorem reference_frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- Over the reals, the kernel's two results are the reference's. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 3 Cert.KernelIdeal.cfg0.N,
    fun c => (Cert.KernelIdeal.Gen.dats m 0 c).arrAt 4 Cert.KernelIdeal.cfg0.N,
    Cert.KernelIdeal.Value.run_blocks m g, ?_⟩
  refine (θ_run _ _ _).mono (fun r h c => ?_) (Cert.ReferenceIdeal.Value.run m' g')
  obtain ⟨h0, h1, hk⟩ := h c
  obtain ⟨e0, e1, e2, e3⟩ := hargs c
  have hr := Cert.Pre_finite.real_of_pre _ _ _ _ (hpre c)
  refine ⟨h0.trans ?_, h1.trans ?_, hk⟩
  · rw [Cert.ReferenceIdeal.Read.val_main_v71_eq, e0, e1, e2, e3]
    exact (Cert.ReferenceIdeal.Value.dproj_read _ _ _ _ hr).trans (Cert.KernelIdeal.Value.final3 m c).symm
  · rw [Cert.ReferenceIdeal.Read.val_main_v67_eq, e0, e1, e2]
    exact (Cert.ReferenceIdeal.Value.dmem_read _ _ _ hr).trans (Cert.KernelIdeal.Value.final4 m c).symm

theorem reference2_frame : Cert.quiescent_Reference2Ideal (hReference2Ideal := Cert.Reference2Ideal.Gen.facts) := fun m g _ =>
  (θ_run _ _ _).mono (fun r h => ⟨fun c => (h c).2.2, sem_eq_zero_of_no_sems rfl r.2⟩) (Cert.Reference2Ideal.Value.run m g)

/-- The gradient of the feed-forward norm and product: the kernel's two results are the reference's. -/
theorem agree2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    Cert.Kernel2Ideal.Value.run_blocks m g, ?_⟩
  refine (θ_run _ _ _).mono (fun r h c => ?_) (Cert.Reference2Ideal.Value.run m' g')
  obtain ⟨h0, h1, hk⟩ := h c
  obtain ⟨e0, e1, e2, e3, e4⟩ := hargs c
  refine ⟨h0.trans ?_, h1.trans ?_, hk⟩
  · rw [Cert.Reference2Ideal.Read.val_main_v39_eq, e0, e1, e2, e3, e4]
    exact (Cert.Reference2Ideal.Value.dnorm_read _ _ _ _ _).trans (Cert.Kernel2Ideal.Value.final5 m c).symm
  · rw [Cert.Reference2Ideal.Read.val_main_v22_eq, e0, e1, e2]
    exact (Cert.Reference2Ideal.Value.dgain_read _ _ _).trans (Cert.Kernel2Ideal.Value.final6 m c).symm

theorem reference3_frame : Cert.quiescent_Reference3Ideal (hReference3Ideal := Cert.Reference3Ideal.Gen.facts) := fun m g _ =>
  (θ_run _ _ _).mono (fun r h => ⟨fun c => (h c).2.2, sem_eq_zero_of_no_sems rfl r.2⟩) (Cert.Reference3Ideal.Value.run m g)

/-- The gradient of the mixer's norm and products: the kernel's two results are the reference's. -/
theorem agree3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks m g, ?_⟩
  refine (θ_run _ _ _).mono (fun r h c => ?_) (Cert.Reference3Ideal.Value.run m' g')
  obtain ⟨h0, h1, hk⟩ := h c
  obtain ⟨e0, e1, e2, e3, e4, e5⟩ := hargs c
  refine ⟨h0.trans ?_, h1.trans ?_, hk⟩
  · rw [Cert.Reference3Ideal.Read.val_main_v43_eq, e0, e1, e2, e3, e4, e5]
    exact (Cert.Reference3Ideal.Value.dnorm_read _ _ _ _ _ _).trans (Cert.Kernel3Ideal.Value.final6 m c).symm
  · rw [Cert.Reference3Ideal.Read.val_main_v26_eq, e0, e1, e2, e3]
    exact (Cert.Reference3Ideal.Value.dgain_read _ _ _ _).trans (Cert.Kernel3Ideal.Value.final7 m c).symm

theorem reference4_frame : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

/-- The gradient of the feed-forward first weight: the kernel's result is the reference's. -/
theorem agree4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 2 Cert.Kernel4Ideal.cfg0.N,
    Cert.Kernel4Ideal.Value.run_blocks m g, ?_⟩
  refine (θ_run _ _ _).mono (fun r h c => ?_) (Cert.Reference4Ideal.Value.run m' g')
  obtain ⟨h0, hk⟩ := h c
  obtain ⟨e0, e1, e2⟩ := hargs c
  refine ⟨h0.trans ?_, hk⟩
  · rw [Cert.Reference4Ideal.Read.val_main_v19_eq, e0, e1, e2]
    exact (Cert.Reference4Ideal.Value.wgrad_read _ _ _).trans (Cert.Kernel4Ideal.Value.final2 m c).symm

theorem reference5_frame : Cert.quiescent_Reference5Ideal (hReference5Ideal := Cert.Reference5Ideal.Gen.facts) := fun m g _ =>
  (θ_run _ _ _).mono (fun r h => ⟨fun c => (h c).2.2.2, sem_eq_zero_of_no_sems rfl r.2⟩) (Cert.Reference5Ideal.Value.run m g)

/-- The gradient of the feed-forward last norm, second product and gate: the kernel's three results are the reference's. -/
theorem agree5 : Cert.algebraic_Kernel5Ideal_Reference5Ideal_pre_finite5 (hKernel5Ideal := Cert.Kernel5Ideal.Gen.facts)
    (hReference5Ideal := Cert.Reference5Ideal.Gen.facts)
    (hPre_finite5 := Cert.Pre_finite5.Gen.facts) := by
  intro m g m' g' hpre hargs
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N,
    Cert.Kernel5Ideal.Value.run_blocks m g, ?_⟩
  refine (θ_run _ _ _).mono (fun r h c => ?_) (Cert.Reference5Ideal.Value.run m' g')
  obtain ⟨h0, h1, h2, hk⟩ := h c
  obtain ⟨e0, e1, e2, e3⟩ := hargs c
  obtain ⟨r0, r1, r2, r3⟩ := Cert.Pre_finite5.real_of_pre _ _ _ _ (hpre c)
  refine ⟨h0.trans ?_, h1.trans ?_, h2.trans ?_, hk⟩
  · rw [Cert.Reference5Ideal.Read.val_main_v60_eq, e0, e1, e2, e3]
    exact (Cert.Reference5Ideal.Value.dffn_array _ _ _ _).trans (Cert.Kernel5Ideal.Value.final5 m c).symm
  · rw [Cert.Reference5Ideal.Read.val_main_v61_eq, e0, e1, e2, e3]
    exact (Cert.Reference5Ideal.Value.dpre_array _ _ _ _).trans ((Cert.GateGrad.dpreArr_eq r0 r1 r2 r3).symm.trans (Cert.Kernel5Ideal.Value.final6 m c).symm)
  · rw [Cert.Reference5Ideal.Read.val_main_v32_eq, e0, e2, e3]
    exact (Cert.Reference5Ideal.Value.dgain_read _ _ _).trans (Cert.Kernel5Ideal.Value.final7 m c).symm

theorem reference6_frame : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

/-- The gradient of the feed-forward second weight: the kernel's result is the reference's. -/
theorem agree6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N,
    Cert.Kernel6Ideal.Value.run_blocks m g, ?_⟩
  refine (θ_run _ _ _).mono (fun r h c => ?_) (Cert.Reference6Ideal.Value.run m' g')
  obtain ⟨h0, hk⟩ := h c
  obtain ⟨e0, e1⟩ := hargs c
  refine ⟨h0.trans ?_, hk⟩
  · rw [Cert.Reference6Ideal.Read.val_main_v14_eq, e0, e1]
    exact (Cert.Reference6Ideal.Value.wgrad_read _ _).trans (Cert.Kernel6Ideal.Value.final2 m c).symm

theorem reference7_frame : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

/-- The gradient of the mixer's first weight: the kernel's result is the reference's. -/
theorem agree7 : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N,
    Cert.Kernel7Ideal.Value.run_blocks m g, ?_⟩
  refine (θ_run _ _ _).mono (fun r h c => ?_) (Cert.Reference7Ideal.Value.run m' g')
  obtain ⟨h0, hk⟩ := h c
  obtain ⟨e0, e1, e2⟩ := hargs c
  refine ⟨h0.trans ?_, hk⟩
  · rw [Cert.Reference7Ideal.Read.val_main_v19_eq, e0, e1, e2]
    exact (Cert.Reference7Ideal.Value.wgrad_read _ _ _).trans (Cert.Kernel7Ideal.Value.final2 m c).symm

theorem reference8_frame : Cert.quiescent_Reference8Ideal (hReference8Ideal := Cert.Reference8Ideal.Gen.facts) := fun m g _ =>
  (θ_run _ _ _).mono (fun r h => ⟨fun c => (h c).2.2, sem_eq_zero_of_no_sems rfl r.2⟩) (Cert.Reference8Ideal.Value.run m g)

/-- The first product and the gate of the feed-forward forward pass: the kernel's two results are the reference's. -/
theorem agree8 : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N,
    Cert.Kernel8Ideal.Value.run_blocks m g, ?_⟩
  refine (θ_run _ _ _).mono (fun r h c => ?_) (Cert.Reference8Ideal.Value.run m' g')
  obtain ⟨h0, h1, hk⟩ := h c
  obtain ⟨e0, e1, e2⟩ := hargs c
  refine ⟨h0.trans ?_, h1.trans ?_, hk⟩
  · rw [Cert.Reference8Ideal.Read.val_main_v15_eq, e0, e1, e2]
    exact (Cert.Reference8Ideal.Value.pre_array _ _ _).trans (Cert.Kernel8Ideal.Value.final2 m c).symm
  · rw [Cert.Reference8Ideal.Read.val_main_v24_eq, e0, e1, e2]
    exact (Cert.Reference8Ideal.Value.act_array _ _ _).trans (Cert.Kernel8Ideal.Value.final3 m c).symm

theorem reference9_frame : Cert.quiescent_Reference9Ideal (hReference9Ideal := Cert.Reference9Ideal.Gen.facts) := fun m g _ =>
  (θ_run _ _ _).mono (fun r h => ⟨fun c => (h c).2.2.2, sem_eq_zero_of_no_sems rfl r.2⟩) (Cert.Reference9Ideal.Value.run m g)

/-- The second product of the feed-forward forward pass: the kernel's three results are the reference's. -/
theorem agree9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m g, ?_⟩
  refine (θ_run _ _ _).mono (fun r h c => ?_) (Cert.Reference9Ideal.Value.run m' g')
  obtain ⟨h0, h1, h2, hk⟩ := h c
  obtain ⟨e0, e1, e2, e3, e4⟩ := hargs c
  refine ⟨h0.trans ?_, h1.trans ?_, h2.trans ?_, hk⟩
  · rw [Cert.Reference9Ideal.Read.val_main_v38_eq, e0, e1]
    exact (Cert.Reference9Ideal.Value.f_array _ _).trans (Cert.Kernel9Ideal.Value.final5 m c).symm
  · rw [Cert.Reference9Ideal.Read.val_main_v25_eq, e0, e1, e2, e3]
    exact (Cert.Reference9Ideal.Value.x_array _ _ _ _).trans (Cert.Kernel9Ideal.Value.final6 m c).symm
  · rw [Cert.Reference9Ideal.Read.val_main_v39_eq, e0, e1, e2, e3, e4]
    exact (Cert.Reference9Ideal.Value.h_array _ _ _ _ _).trans (Cert.Kernel9Ideal.Value.final7 m c).symm

theorem reference10_frame : Cert.quiescent_Reference10Ideal (hReference10Ideal := Cert.Reference10Ideal.Gen.facts) := fun m g _ =>
  (θ_run _ _ _).mono (fun r h => ⟨fun c => (h c).2.2.2.2.2.2, sem_eq_zero_of_no_sems rfl r.2⟩) (Cert.Reference10Ideal.Value.run m g)

set_option maxHeartbeats 4000000 in
/-- The last feed-forward block with the loss and its gradient: the kernel's six results are the reference's. -/
theorem agree10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 7 Cert.Kernel10Ideal.cfg0.N, fun c => (Cert.Kernel10Ideal.Gen.dats m 0 c).arrAt 8 Cert.Kernel10Ideal.cfg0.N, fun c => (Cert.Kernel10Ideal.Gen.dats m 0 c).arrAt 9 Cert.Kernel10Ideal.cfg0.N, fun c => (Cert.Kernel10Ideal.Gen.dats m 0 c).arrAt 10 Cert.Kernel10Ideal.cfg0.N, fun c => (Cert.Kernel10Ideal.Gen.dats m 0 c).arrAt 11 Cert.Kernel10Ideal.cfg0.N, fun c => (Cert.Kernel10Ideal.Gen.dats m 0 c).arrAt 12 Cert.Kernel10Ideal.cfg0.N,
    Cert.Kernel10Ideal.Value.run_blocks m g, ?_⟩
  refine (θ_run _ _ _).mono (fun r h c => ?_) (Cert.Reference10Ideal.Value.run m' g')
  obtain ⟨h0, h1, h2, h3, h4, h5, hk⟩ := h c
  obtain ⟨e0, e1, e2, e3, e4, e5, e6⟩ := hargs c
  refine ⟨h0.trans ?_, h1.trans ?_, h2.trans ?_, h3.trans ?_, h4.trans ?_, h5.trans ?_, hk⟩
  · refine (Cert.Reference10Ideal.Read.val_main_v90_eq _).trans ?_
    change Cert.Reference10Ideal.Read.val_main_v90 (F := Ideal) (m' (c.tc.loc Cert.Reference10Ideal.main_arg0)) (m' (c.tc.loc Cert.Reference10Ideal.main_arg1)) (m' (c.tc.loc Cert.Reference10Ideal.main_arg2)) = _
    rw [e0, e1, e2]
    exact (Cert.Reference10Ideal.Value.pre_array _ _ _).trans (Cert.Kernel10Ideal.Value.final7 m c).symm
  · refine (Cert.Reference10Ideal.Read.val_main_v91_eq _).trans ?_
    change Cert.Reference10Ideal.Read.val_main_v91 (F := Ideal) (m' (c.tc.loc Cert.Reference10Ideal.main_arg0)) (m' (c.tc.loc Cert.Reference10Ideal.main_arg1)) (m' (c.tc.loc Cert.Reference10Ideal.main_arg2)) = _
    rw [e0, e1, e2]
    exact (Cert.Reference10Ideal.Value.act_array _ _ _).trans (Cert.Kernel10Ideal.Value.final8 m c).symm
  · refine (Cert.Reference10Ideal.Read.val_main_v92_eq _).trans ?_
    change Cert.Reference10Ideal.Read.val_main_v92 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg4)) = _
    rw [e0, e1, e2, e4]
    exact (Cert.Reference10Ideal.Value.f_array _ _ _ _).trans (Cert.Kernel10Ideal.Value.final9 m c).symm
  · refine (Cert.Reference10Ideal.Read.val_main_v88_eq _).trans ?_
    change Cert.Reference10Ideal.Read.val_main_v88 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg3)) (m' (c.tc.loc Cert.Reference10Ideal.main_arg4)) (m' (c.tc.loc Cert.Reference10Ideal.main_arg5)) (m' (c.tc.loc Cert.Reference10Ideal.main_arg6)) = _
    rw [e0, e1, e2, e3, e4, e5, e6]
    exact (Cert.Reference10Ideal.Value.dx_array _ _ _ _ _ _ _).trans (Cert.Kernel10Ideal.Value.final10 m c).symm
  · refine (Cert.Reference10Ideal.Read.val_main_v89_eq _).trans ?_
    change Cert.Reference10Ideal.Read.val_main_v89 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg3)) (m' (c.tc.loc Cert.Reference10Ideal.main_arg4)) (m' (c.tc.loc Cert.Reference10Ideal.main_arg5)) (m' (c.tc.loc Cert.Reference10Ideal.main_arg6)) = _
    rw [e0, e1, e2, e3, e4, e5, e6]
    exact (Cert.Reference10Ideal.Value.loss_array _ _ _ _ _ _ _).trans (Cert.Kernel10Ideal.Value.final11 m c).symm
  · refine (Cert.Reference10Ideal.Read.val_main_v72_eq _).trans ?_
    change Cert.Reference10Ideal.Read.val_main_v72 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg3)) (m' (c.tc.loc Cert.Reference10Ideal.main_arg4)) (m' (c.tc.loc Cert.Reference10Ideal.main_arg5)) (m' (c.tc.loc Cert.Reference10Ideal.main_arg6)) = _
    rw [e0, e1, e2, e3, e4, e5, e6]
    exact (Cert.Reference10Ideal.Value.dg_array _ _ _ _ _ _ _).trans (Cert.Kernel10Ideal.Value.final12 m c).symm

theorem reference11_frame : Cert.quiescent_Reference11Ideal (hReference11Ideal := Cert.Reference11Ideal.Gen.facts) := fun m g _ =>
  (θ_run _ _ _).mono (fun r h => ⟨fun c => (h c).2, sem_eq_zero_of_no_sems rfl r.2⟩) (Cert.Reference11Ideal.Value.run m g)

/-- The mixer's first product: the kernel's result is the reference's. -/
theorem agree11 : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N,
    Cert.Kernel11Ideal.Value.run_blocks m g, ?_⟩
  refine (θ_run _ _ _).mono (fun r h c => ?_) (Cert.Reference11Ideal.Value.run m' g')
  obtain ⟨h0, hk⟩ := h c
  obtain ⟨e0, e1, e2⟩ := hargs c
  refine ⟨h0.trans ?_, hk⟩
  · rw [Cert.Reference11Ideal.Read.val_main_v15_eq, e0, e1, e2]
    exact (Cert.Reference11Ideal.Value.proj_read _ _ _).trans (Cert.Kernel11Ideal.Value.final2 m c).symm

theorem reference12_frame : Cert.quiescent_Reference12Ideal (hReference12Ideal := Cert.Reference12Ideal.Gen.facts) := fun m g _ =>
  (θ_run _ _ _).mono (fun r h => ⟨fun c => (h c).2.2.2.2.2.2.2, sem_eq_zero_of_no_sems rfl r.2⟩) (Cert.Reference12Ideal.Value.run m g)

set_option maxHeartbeats 4000000 in
/-- The mixer's last products, forward: the kernel's seven results are the reference's. -/
theorem agree12 : Cert.algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m 0 c).arrAt 11 Cert.Kernel12Ideal.cfg0.N, fun c => (Cert.Kernel12Ideal.Gen.dats m 0 c).arrAt 12 Cert.Kernel12Ideal.cfg0.N, fun c => (Cert.Kernel12Ideal.Gen.dats m 0 c).arrAt 13 Cert.Kernel12Ideal.cfg0.N, fun c => (Cert.Kernel12Ideal.Gen.dats m 0 c).arrAt 14 Cert.Kernel12Ideal.cfg0.N, fun c => (Cert.Kernel12Ideal.Gen.dats m 0 c).arrAt 15 Cert.Kernel12Ideal.cfg0.N, fun c => (Cert.Kernel12Ideal.Gen.dats m 0 c).arrAt 16 Cert.Kernel12Ideal.cfg0.N, fun c => (Cert.Kernel12Ideal.Gen.dats m 0 c).arrAt 17 Cert.Kernel12Ideal.cfg0.N,
    Cert.Kernel12Ideal.Value.run_blocks m g, ?_⟩
  refine (θ_run _ _ _).mono (fun r h c => ?_) (Cert.Reference12Ideal.Value.run m' g')
  obtain ⟨h0, h1, h2, h3, h4, h5, h6, hk⟩ := h c
  obtain ⟨e0, e1, e2, e3, e4, e5, e6, e7, e8, e9, e10⟩ := hargs c
  refine ⟨h0.trans ?_, h1.trans ?_, h2.trans ?_, h3.trans ?_, h4.trans ?_, h5.trans ?_, h6.trans ?_, hk⟩
  · rw [Cert.Reference12Ideal.Read.val_main_v56_eq, e1, e5]
    exact (Cert.Reference12Ideal.Value.ya_array _ _).trans (Cert.Kernel12Ideal.Value.final11 m c).symm
  · rw [Cert.Reference12Ideal.Read.val_main_v57_eq, e2, e6]
    exact (Cert.Reference12Ideal.Value.yb_array _ _).trans (Cert.Kernel12Ideal.Value.final12 m c).symm
  · rw [Cert.Reference12Ideal.Read.val_main_v58_eq, e3, e7]
    exact (Cert.Reference12Ideal.Value.yc_array _ _).trans (Cert.Kernel12Ideal.Value.final13 m c).symm
  · rw [Cert.Reference12Ideal.Read.val_main_v59_eq, e0, e1, e2, e3, e5, e6, e7]
    exact (Cert.Reference12Ideal.Value.merged_array _ _ _ _ _ _ _).trans (Cert.Kernel12Ideal.Value.final14 m c).symm
  · rw [Cert.Reference12Ideal.Read.val_main_v60_eq, e0, e1, e2, e3, e5, e6, e7, e8]
    exact (Cert.Reference12Ideal.Value.y_array _ _ _ _ _ _ _ _).trans (Cert.Kernel12Ideal.Value.final15 m c).symm
  · rw [Cert.Reference12Ideal.Read.val_main_v43_eq, e0, e1, e2, e3, e4, e5, e6, e7, e8, e9]
    exact (Cert.Reference12Ideal.Value.x_array _ _ _ _ _ _ _ _ _ _).trans (Cert.Kernel12Ideal.Value.final16 m c).symm
  · rw [Cert.Reference12Ideal.Read.val_main_v61_eq, e0, e1, e2, e3, e4, e5, e6, e7, e8, e9, e10]
    exact (Cert.Reference12Ideal.Value.h_array _ _ _ _ _ _ _ _ _ _ _).trans (Cert.Kernel12Ideal.Value.final17 m c).symm

theorem reference13_frame : Cert.quiescent_Reference13Ideal (hReference13Ideal := Cert.Reference13Ideal.Gen.facts) := fun m g _ =>
  (θ_run _ _ _).mono (fun r h => ⟨fun c => (h c).2.2.2.2.2.2.2.2.2, sem_eq_zero_of_no_sems rfl r.2⟩) (Cert.Reference13Ideal.Value.run m g)

set_option maxHeartbeats 4000000 in
/-- The backward pass of the mixer's last products: the kernel's nine results are the reference's. -/
theorem agree13 : Cert.algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m 0 c).arrAt 11 Cert.Kernel13Ideal.cfg0.N, fun c => (Cert.Kernel13Ideal.Gen.dats m 0 c).arrAt 12 Cert.Kernel13Ideal.cfg0.N, fun c => (Cert.Kernel13Ideal.Gen.dats m 0 c).arrAt 13 Cert.Kernel13Ideal.cfg0.N, fun c => (Cert.Kernel13Ideal.Gen.dats m 0 c).arrAt 14 Cert.Kernel13Ideal.cfg0.N, fun c => (Cert.Kernel13Ideal.Gen.dats m 0 c).arrAt 15 Cert.Kernel13Ideal.cfg0.N, fun c => (Cert.Kernel13Ideal.Gen.dats m 0 c).arrAt 16 Cert.Kernel13Ideal.cfg0.N, fun c => (Cert.Kernel13Ideal.Gen.dats m 0 c).arrAt 17 Cert.Kernel13Ideal.cfg0.N, fun c => (Cert.Kernel13Ideal.Gen.dats m 0 c).arrAt 18 Cert.Kernel13Ideal.cfg0.N, fun c => (Cert.Kernel13Ideal.Gen.dats m 0 c).arrAt 19 Cert.Kernel13Ideal.cfg0.N,
    Cert.Kernel13Ideal.Value.run_blocks m g, ?_⟩
  refine (θ_run _ _ _).mono (fun r h c => ?_) (Cert.Reference13Ideal.Value.run m' g')
  obtain ⟨h0, h1, h2, h3, h4, h5, h6, h7, h8, hk⟩ := h c
  obtain ⟨e0, e1, e2, e3, e4, e5, e6, e7, e8, e9, e10⟩ := hargs c
  refine ⟨h0.trans ?_, h1.trans ?_, h2.trans ?_, h3.trans ?_, h4.trans ?_, h5.trans ?_, h6.trans ?_, h7.trans ?_, h8.trans ?_, hk⟩
  · refine (Cert.Reference13Ideal.Read.val_main_v92_eq _).trans ?_
    change Cert.Reference13Ideal.Read.val_main_v92 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.dy_array _ _ _ _ _ _ _ _ _ _).trans (Cert.Kernel13Ideal.Value.final11 m c).symm
  · refine (Cert.Reference13Ideal.Read.val_main_v88_eq _).trans ?_
    change Cert.Reference13Ideal.Read.val_main_v88 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) (m' (c.tc.loc Cert.Reference13Ideal.main_arg10)) = _
    rw [e0, e1, e2, e3, e4, e5, e6, e7, e8, e9, e10]
    exact (Cert.Reference13Ideal.Value.main_array _ _ _ _ _ _ _ _ _ _ _).trans (Cert.Kernel13Ideal.Value.final12 m c).symm
  · refine (Cert.Reference13Ideal.Read.val_main_v93_eq _).trans ?_
    change Cert.Reference13Ideal.Read.val_main_v93 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.dya_array _ _ _ _ _ _ _ _ _ _).trans (Cert.Kernel13Ideal.Value.final13 m c).symm
  · refine (Cert.Reference13Ideal.Read.val_main_v94_eq _).trans ?_
    change Cert.Reference13Ideal.Read.val_main_v94 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.dyb_array _ _ _ _ _ _ _ _ _ _).trans (Cert.Kernel13Ideal.Value.final14 m c).symm
  · refine (Cert.Reference13Ideal.Read.val_main_v95_eq _).trans ?_
    change Cert.Reference13Ideal.Read.val_main_v95 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.dyc_array _ _ _ _ _ _ _ _ _ _).trans (Cert.Kernel13Ideal.Value.final15 m c).symm
  · refine (Cert.Reference13Ideal.Read.val_main_v96_eq _).trans ?_
    change Cert.Reference13Ideal.Read.val_main_v96 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.da_array _ _ _ _ _ _ _ _ _ _).trans (Cert.Kernel13Ideal.Value.final16 m c).symm
  · refine (Cert.Reference13Ideal.Read.val_main_v97_eq _).trans ?_
    change Cert.Reference13Ideal.Read.val_main_v97 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.db_array _ _ _ _ _ _ _ _ _ _).trans (Cert.Kernel13Ideal.Value.final17 m c).symm
  · refine (Cert.Reference13Ideal.Read.val_main_v98_eq _).trans ?_
    change Cert.Reference13Ideal.Read.val_main_v98 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) (m' (c.tc.loc Cert.Reference13Ideal.main_arg9)) = _
    rw [e0, e1, e2, e3, e4, e5, e6, e7, e8, e9]
    exact (Cert.Reference13Ideal.Value.dc_array _ _ _ _ _ _ _ _ _ _).trans (Cert.Kernel13Ideal.Value.final18 m c).symm
  · refine (Cert.Reference13Ideal.Read.val_main_v51_eq _).trans ?_
    change Cert.Reference13Ideal.Read.val_main_v51 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) (m' (c.tc.loc Cert.Reference13Ideal.main_arg6)) (m' (c.tc.loc Cert.Reference13Ideal.main_arg7)) (m' (c.tc.loc Cert.Reference13Ideal.main_arg8)) = _
    rw [e0, e1, e2, e3, e4, e5, e6, e7, e8]
    exact (Cert.Reference13Ideal.Value.dg_array _ _ _ _ _ _ _ _ _).trans (Cert.Kernel13Ideal.Value.final19 m c).symm

theorem reference14_frame : Cert.quiescent_Reference14Ideal (hReference14Ideal := Cert.Reference14Ideal.Gen.facts) := fun m g _ =>
  (θ_run _ _ _).mono (fun r h => ⟨fun c => (h c).2, sem_eq_zero_of_no_sems rfl r.2⟩) (Cert.Reference14Ideal.Value.run m g)

/-- The gradient of the mixer's output weight: the kernel's result is the reference's. -/
theorem agree14 : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 2 Cert.Kernel14Ideal.cfg0.N,
    Cert.Kernel14Ideal.Value.run_blocks m g, ?_⟩
  refine (θ_run _ _ _).mono (fun r h c => ?_) (Cert.Reference14Ideal.Value.run m' g')
  obtain ⟨h0, hk⟩ := h c
  obtain ⟨e0, e1⟩ := hargs c
  refine ⟨h0.trans ?_, hk⟩
  · rw [Cert.Reference14Ideal.Read.val_main_v6_eq, e0, e1]
    exact (Cert.Reference14Ideal.Value.wgrad_read _ _).trans (Cert.Kernel14Ideal.Value.final2 m c).symm

theorem reference15_frame : Cert.quiescent_Reference15Ideal (hReference15Ideal := Cert.Reference15Ideal.Gen.facts) := fun m g _ =>
  (θ_run _ _ _).mono (fun r h => ⟨fun c => (h c).2, sem_eq_zero_of_no_sems rfl r.2⟩) (Cert.Reference15Ideal.Value.run m g)

/-- The gradient of the pooling branch's up-projection: the kernel's result is the reference's. -/
theorem agree15 : Cert.algebraic_Kernel15Ideal_Reference15Ideal (hKernel15Ideal := Cert.Kernel15Ideal.Gen.facts)
    (hReference15Ideal := Cert.Reference15Ideal.Gen.facts) := by
  intro m g m' g' _ hargs
  refine ⟨fun c => (Cert.Kernel15Ideal.Gen.dats m 0 c).arrAt 2 Cert.Kernel15Ideal.cfg0.N,
    Cert.Kernel15Ideal.Value.run_blocks m g, ?_⟩
  refine (θ_run _ _ _).mono (fun r h c => ?_) (Cert.Reference15Ideal.Value.run m' g')
  obtain ⟨h0, hk⟩ := h c
  obtain ⟨e0, e1⟩ := hargs c
  refine ⟨h0.trans ?_, hk⟩
  · rw [Cert.Reference15Ideal.Read.val_main_v6_eq, e0, e1]
    exact (Cert.Reference15Ideal.Value.wgrad_read _ _).trans (Cert.Kernel15Ideal.Value.final2 m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Gen.facts, Cert.Pre_finite5.Gen.facts,
   fun m g _ => Cert.Kernel.Gen.frame m g,
   fun m g _ => Cert.KernelIdeal.Gen.frame m g,
   fun m g _ => Cert.KernelIdeal.Gen.frame m g,
   reference_frame,
   fun m g _ => reference_frame m g trivial,
   fun m g _ => Cert.Kernel2.Gen.frame m g,
   fun m g _ => Cert.Kernel2Ideal.Gen.frame m g,
   reference2_frame,
   fun m g _ => Cert.Kernel3.Gen.frame m g,
   fun m g _ => Cert.Kernel3Ideal.Gen.frame m g,
   reference3_frame,
   fun m g _ => Cert.Kernel4.Gen.frame m g,
   fun m g _ => Cert.Kernel4Ideal.Gen.frame m g,
   reference4_frame,
   fun m g _ => Cert.Kernel5.Gen.frame m g,
   fun m g _ => Cert.Kernel5Ideal.Gen.frame m g,
   fun m g _ => Cert.Kernel5Ideal.Gen.frame m g,
   reference5_frame,
   fun m g _ => reference5_frame m g trivial,
   fun m g _ => Cert.Kernel6.Gen.frame m g,
   fun m g _ => Cert.Kernel6Ideal.Gen.frame m g,
   reference6_frame,
   fun m g _ => Cert.Kernel7.Gen.frame m g,
   fun m g _ => Cert.Kernel7Ideal.Gen.frame m g,
   reference7_frame,
   fun m g _ => Cert.Kernel8.Gen.frame m g,
   fun m g _ => Cert.Kernel8Ideal.Gen.frame m g,
   reference8_frame,
   fun m g _ => Cert.Kernel9.Gen.frame m g,
   fun m g _ => Cert.Kernel9Ideal.Gen.frame m g,
   reference9_frame,
   fun m g _ => Cert.Kernel10.Gen.frame m g,
   fun m g _ => Cert.Kernel10Ideal.Gen.frame m g,
   reference10_frame,
   fun m g _ => Cert.Kernel11.Gen.frame m g,
   fun m g _ => Cert.Kernel11Ideal.Gen.frame m g,
   reference11_frame,
   fun m g _ => Cert.Kernel12.Gen.frame m g,
   fun m g _ => Cert.Kernel12Ideal.Gen.frame m g,
   reference12_frame,
   fun m g _ => Cert.Kernel13.Gen.frame m g,
   fun m g _ => Cert.Kernel13Ideal.Gen.frame m g,
   reference13_frame,
   fun m g _ => Cert.Kernel14.Gen.frame m g,
   fun m g _ => Cert.Kernel14Ideal.Gen.frame m g,
   reference14_frame,
   fun m g _ => Cert.Kernel15.Gen.frame m g,
   fun m g _ => Cert.Kernel15Ideal.Gen.frame m g,
   reference15_frame,
   trivial,
   agree,
   trivial,
   agree2,
   trivial,
   agree3,
   trivial,
   agree4,
   trivial,
   agree5,
   trivial,
   agree6,
   trivial,
   agree7,
   trivial,
   agree8,
   trivial,
   agree9,
   trivial,
   agree10,
   trivial,
   agree11,
   trivial,
   agree12,
   trivial,
   agree13,
   trivial,
   agree14,
   trivial,
   agree15⟩

end Cert.Proof

end
